-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_tables_in_range : Cert.Pre_tables_in_range.Facts] (m : (ℓ : Loc Cert.Kernel2.nD Cert.Kernel2.τ Cert.Kernel2.sig) → Buf (Elt Bits) ℓ) : Prop :=
  ∀ c : Dev Cert.Kernel2.nD,
    (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_tables_in_range : Cert.Pre_tables_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables_in_range [hPre_tables_in_range : Cert.Pre_tables_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] [hPre_tables_in_range : Cert.Pre_tables_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_tables_in_range [hReference2Ideal : Cert.Reference2Ideal.Facts] [hPre_tables_in_range : Cert.Pre_tables_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v76_3) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19_7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)) (v2 : (c : Dev Cert.Kernel4Ideal.nD) → Buf (Elt Ideal) ((c.tc : Thread Cert.Kernel4Ideal.nD Cert.Kernel4Ideal.τ).loc Cert.Kernel4Ideal.main_v12_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_v12_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v48) = v0 c
          ∧ r.2.mem ((c.tc : Thread Cert.Reference4Ideal.nD Cert.Reference4Ideal.τ).loc Cert.Reference4Ideal.main_v67) = v1 c
          ∧ r.2.mem ((c.tc : Thread Cert.Reference4Ideal.nD Cert.Reference4Ideal.τ).loc Cert.Reference4Ideal.main_v73) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v95_0)) (v1 : (c : Dev Cert.Kernel5Ideal.nD) → Buf (Elt Ideal) ((c.tc : Thread Cert.Kernel5Ideal.nD Cert.Kernel5Ideal.τ).loc Cert.Kernel5Ideal.main_v95_1)) (v2 : (c : Dev Cert.Kernel5Ideal.nD) → Buf (Elt Ideal) ((c.tc : Thread Cert.Kernel5Ideal.nD Cert.Kernel5Ideal.τ).loc Cert.Kernel5Ideal.main_v95_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v95_0) = v0 c
          ∧ r.2.mem ((c.tc : Thread Cert.Kernel5Ideal.nD Cert.Kernel5Ideal.τ).loc Cert.Kernel5Ideal.main_v95_1) = v1 c
          ∧ r.2.mem ((c.tc : Thread Cert.Kernel5Ideal.nD Cert.Kernel5Ideal.τ).loc Cert.Kernel5Ideal.main_v95_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50) = v0 c
          ∧ r.2.mem ((c.tc : Thread Cert.Reference5Ideal.nD Cert.Reference5Ideal.τ).loc Cert.Reference5Ideal.main_v51) = v1 c
          ∧ r.2.mem ((c.tc : Thread Cert.Reference5Ideal.nD Cert.Reference5Ideal.τ).loc Cert.Reference5Ideal.main_v52) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)) (v3 : (c : Dev Cert.Kernel6Ideal.nD) → Buf (Elt Ideal) ((c.tc : Thread Cert.Kernel6Ideal.nD Cert.Kernel6Ideal.τ).loc Cert.Kernel6Ideal.main_v3_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_v3_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_v29) = v1 c
          ∧ r.2.mem ((c.tc : Thread Cert.Reference6Ideal.nD Cert.Reference6Ideal.τ).loc Cert.Reference6Ideal.main_v30) = v2 c
          ∧ r.2.mem ((c.tc : Thread Cert.Reference6Ideal.nD Cert.Reference6Ideal.τ).loc Cert.Reference6Ideal.main_v31) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_tables_in_range : Cert.Pre_tables_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_tables_in_range := hPre_tables_in_range)
    ∧ quiescent_Kernel2Ideal (hKernel2Ideal := hKernel2Ideal) (hPre_tables_in_range := hPre_tables_in_range)
    ∧ quiescent_Reference2Ideal (hReference2Ideal := hReference2Ideal)
    ∧ quiescent_Reference2Ideal_pre_tables_in_range (hReference2Ideal := hReference2Ideal) (hPre_tables_in_range := hPre_tables_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_tables_in_range := hPre_tables_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_tables_in_range.lean ====
abbrev S168 : Shape := ⟨1, ![168]⟩
abbrev S86016x1024 : Shape := ⟨2, ![86016, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩

class Facts : Prop where
  bcast_S_S168 : S_.BroadcastsInDim S168 (![] : Fin 0 → Fin S168.rank)

variable [Facts]

def fn {F : FTy → Type} [FloatOps F] (main_arg0 : IVec S168 32) (main_arg1 : IVec S168 32) (main_arg2 : FVec F S86016x1024 .f32) (main_arg3 : FVec F S4x32x1024x2048 .f32) (main_arg4 : FVec F S4x32x2048 .f32) (main_arg5 : FVec F S4x32x1024x1024 .f32) (main_arg6 : FVec F S4x32x1024 .f32) : IVec S168 1 :=
  let main_c : IVec S_ 32 := constantI S_ 32 0#32
  let main_v0 : IVec S168 32 := broadcastInDim S168 ![] bcast_S_S168 main_c
  let main_v1 : IVec S168 1 := cmpi .sge main_arg0 main_v0
  let main_c_0 : IVec S_ 32 := constantI S_ 32 32#32
  let main_v2 : IVec S168 32 := broadcastInDim S168 ![] bcast_S_S168 main_c_0
  let main_v3 : IVec S168 1 := cmpi .slt main_arg0 main_v2
  let main_v4 : IVec S168 1 := andi main_v1 main_v3
  let main_c_1 : IVec S_ 32 := constantI S_ 32 0#32
  let main_v5 : IVec S168 32 := broadcastInDim S168 ![] bcast_S_S168 main_c_1
  let main_v6 : IVec S168 1 := cmpi .sge main_arg1 main_v5
  let main_v7 : IVec S168 1 := andi main_v4 main_v6
  let main_c_2 : IVec S_ 32 := constantI S_ 32 1#32
  let main_v8 : IVec S168 32 := broadcastInDim S168 ![] bcast_S_S168 main_c_2
  let main_v9 : IVec S168 1 := cmpi .sle main_arg1 main_v8
  let main_v10 : IVec S168 1 := andi main_v7 main_v9
  main_v10
-- ==== Kernel.lean ====
abbrev S2048x8x9728 : Shape := ⟨3, ![2048, 8, 9728]⟩
abbrev S8x3x1024 : Shape := ⟨3, ![8, 3, 1024]⟩
abbrev S8x1024 : Shape := ⟨2, ![8, 1024]⟩
abbrev S4x1024 : Shape := ⟨2, ![4, 1024]⟩
abbrev S1024 : Shape := ⟨1, ![1024]⟩
abbrev S8x128x128 : Shape := ⟨3, ![8, 128, 128]⟩
abbrev S3x8x1024 : Shape := ⟨3, ![3, 8, 1024]⟩
abbrev S4x1x1024 : Shape := ⟨3, ![4, 1, 1024]⟩
abbrev S1x1024 : Shape := ⟨2, ![1, 1024]⟩
abbrev S2048x8x1024 : Shape := ⟨3, ![2048, 8, 1024]⟩
abbrev S128x8x128 : Shape := ⟨3, ![128, 8, 128]⟩
abbrev S3x8x128 : Shape := ⟨3, ![3, 8, 128]⟩
abbrev S4x1x128 : Shape := ⟨3, ![4, 1, 128]⟩
abbrev S1x128 : Shape := ⟨2, ![1, 128]⟩
abbrev S1x128x128 : Shape := ⟨3, ![1, 128, 128]⟩
abbrev S8x128 : Shape := ⟨2, ![8, 128]⟩
abbrev S131x8x128 : Shape := ⟨3, ![131, 8, 128]⟩
abbrev S1x1x128 : Shape := ⟨3, ![1, 1, 128]⟩
abbrev S1024x128 : Shape := ⟨2, ![1024, 128]⟩
abbrev S128x128 : Shape := ⟨2, ![128, 128]⟩
abbrev S1x8x128 : Shape := ⟨3, ![1, 8, 128]⟩

abbrev nBuf : Space → Nat
  | .hbm => 21
  | .vmem => 31
  | .smem => 0
  | _ => 0

abbrev bufTy : (tb : Table) → Fin (tcTables nBuf tb) → BufTy
  | .hbm, ⟨0, _⟩ => ⟨S2048x8x9728, .f32⟩
  | .hbm, ⟨1, _⟩ => ⟨S8x3x1024, .f32⟩
  | .hbm, ⟨2, _⟩ => ⟨S8x1024, .f32⟩
  | .hbm, ⟨3, _⟩ => ⟨S4x1024, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S8x128x128, .f32⟩
  | .hbm, ⟨8, _⟩ => ⟨S1024, .f32⟩
  | .hbm, ⟨9, _⟩ => ⟨S1024, .f32⟩
  | .hbm, ⟨10, _⟩ => ⟨S3x8x1024, .f32⟩
  | .hbm, ⟨11, _⟩ => ⟨S4x1x1024, .f32⟩
  | .hbm, ⟨12, _⟩ => ⟨S1x1024, .f32⟩
  | .hbm, ⟨13, _⟩ => ⟨S8x128x128, .bf16⟩
  | .hbm, ⟨14, _⟩ => ⟨S1x1024, .f32⟩
  | .hbm, ⟨15, _⟩ => ⟨S8x128x128, .bf16⟩
  | .hbm, ⟨16, _⟩ => ⟨S1x1024, .f32⟩
  | .hbm, ⟨17, _⟩ => ⟨S1x1024, .f32⟩
  | .hbm, ⟨18, _⟩ => ⟨S2048x8x1024, .f32⟩
  | .hbm, ⟨19, _⟩ => ⟨S8x1024, .f32⟩
  | .hbm, ⟨20, _⟩ => ⟨S3x8x1024, .f32⟩
  | .local _ .vmem, ⟨0, _⟩ => ⟨S128x8x128, .f32⟩
  | .local _ .vmem, ⟨1, _⟩ => ⟨S128x8x128, .f32⟩
  | .local _ .vmem, ⟨2, _⟩ => ⟨S128x8x128, .f32⟩
  | .local _ .vmem, ⟨3, _⟩ => ⟨S128x8x128, .f32⟩
  | .local _ .vmem, ⟨4, _⟩ => ⟨S3x8x128, .f32⟩
  | .local _ .vmem, ⟨5, _⟩ => ⟨S3x8x128, .f32⟩
  | .local _ .vmem, ⟨6, _⟩ => ⟨S4x1x128, .f32⟩
  | .local _ .vmem, ⟨7, _⟩ => ⟨S4x1x128, .f32⟩
  | .local _ .vmem, ⟨8, _⟩ => ⟨S1x128, .f32⟩
  | .local _ .vmem, ⟨9, _⟩ => ⟨S1x128, .f32⟩
  | .local _ .vmem, ⟨10, _⟩ => ⟨S1x128x128, .bf16⟩
  | .local _ .vmem, ⟨11, _⟩ => ⟨S1x128x128, .bf16⟩
  | .local _ .vmem, ⟨12, _⟩ => ⟨S1x128, .f32⟩
  | .local _ .vmem, ⟨13, _⟩ => ⟨S1x128, .f32⟩
  | .local _ .vmem, ⟨14, _⟩ => ⟨S1x128x128, .bf16⟩
  | .local _ .vmem, ⟨15, _⟩ => ⟨S1x128x128, .bf16⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S8x128, .f32⟩
  | .local _ .vmem, ⟨21, _⟩ => ⟨S8x128, .f32⟩
  | .local _ .vmem, ⟨22, _⟩ => ⟨S128x8x128, .f32⟩
  | .local _ .vmem, ⟨23, _⟩ => ⟨S128x8x128, .f32⟩
  | .local _ .vmem, ⟨24, _⟩ => ⟨S8x128, .f32⟩
  | .local _ .vmem, ⟨25, _⟩ => ⟨S8x128, .f32⟩
  | .local _ .vmem, ⟨26, _⟩ => ⟨S3x8x128, .f32⟩
  | .local _ .vmem, ⟨27, _⟩ => ⟨S3x8x128, .f32⟩
  | .local _ .vmem, ⟨28, _⟩ => ⟨S3x8x128, .f32⟩
  | .local _ .vmem, ⟨29, _⟩ => ⟨S128x8x128, .f32⟩
  | .local _ .vmem, ⟨30, _⟩ => ⟨S128x8x128, .f32⟩
  | _, _ => ⟨S2048x8x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![1, 8, 16], ![false, false, false]⟩

@[reducible] def k0_t1_loop : Scf.Loop 32 :=
  let c0_i32_56 : BitVec 32 := 0#32
  let c128_i32 : BitVec 32 := 128#32
  let v110 : BitVec 32 := Scalar.addi c0_i32_56 c128_i32
  let c1_i32 : BitVec 32 := 1#32
  ⟨c0_i32_56, v110, c1_i32⟩
def k0_off1 (k0_t1 : Fin k0_t1_loop.trips) : Fin 3 → Nat :=
  let c0_i32_56 : BitVec 32 := 0#32
  let c1_i32 : BitVec 32 := 1#32
  let arg20 : BitVec 32 := Scf.iv c0_i32_56 c1_i32 k0_t1
  let v130 : Index := Scalar.indexCast arg20
  let c0_73 : Index := 0#32
  let c0_74 : Index := 0#32
  ![v130.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg2.toNat, arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg2.toNat, arg0.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S128x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S3x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S128x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S3x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== ReferenceIdeal.lean ====
abbrev S2048x8x9728 : Shape := ⟨3, ![2048, 8, 9728]⟩
abbrev S8x3x1024 : Shape := ⟨3, ![8, 3, 1024]⟩
abbrev S8x1024 : Shape := ⟨2, ![8, 1024]⟩
abbrev S4x1024 : Shape := ⟨2, ![4, 1024]⟩
abbrev S1024 : Shape := ⟨1, ![1024]⟩
abbrev S8x128x128 : Shape := ⟨3, ![8, 128, 128]⟩
abbrev S8x2048x9728 : Shape := ⟨3, ![8, 2048, 9728]⟩
abbrev S8x2048x1024 : Shape := ⟨3, ![8, 2048, 1024]⟩
abbrev S8x2051x1024 : Shape := ⟨3, ![8, 2051, 1024]⟩
abbrev S1x1024 : Shape := ⟨2, ![1, 1024]⟩
abbrev S1x1x1024 : Shape := ⟨3, ![1, 1, 1024]⟩
abbrev S8x2048x8x128 : Shape := ⟨4, ![8, 2048, 8, 128]⟩
abbrev S8x128x8x2048 : Shape := ⟨4, ![8, 128, 8, 2048]⟩
abbrev S_ : Shape := ⟨0, ![]⟩
abbrev S2048x8x1024 : Shape := ⟨3, ![2048, 8, 1024]⟩
abbrev S1x8x1024 : Shape := ⟨3, ![1, 8, 1024]⟩
abbrev S3x8x1024 : Shape := ⟨3, ![3, 8, 1024]⟩
abbrev S2051x8x1024 : Shape := ⟨3, ![2051, 8, 1024]⟩

abbrev nBuf : Space → Nat
  | .hbm => 153
  | .vmem => 0
  | .smem => 0
  | _ => 0

abbrev hbmTy0_0 (i : Nat) : BufTy := match i % 128 with
  | 0 => ⟨S2048x8x9728, .f32⟩
  | 1 => ⟨S8x3x1024, .f32⟩
  | 2 => ⟨S8x1024, .f32⟩
  | 3 => ⟨S4x1024, .f32⟩
  | 4 => ⟨S1024, .f32⟩
  | 5 => ⟨S8x128x128, .f32⟩
  | 6 => ⟨S1024, .f32⟩
  | 7 => ⟨S8x128x128, .f32⟩
  | 8 => ⟨S1024, .f32⟩
  | 9 => ⟨S1024, .f32⟩
  | 10 => ⟨S8x2048x9728, .f32⟩
  | 11 => ⟨S8x2048x1024, .f32⟩
  | 12 => ⟨S8x2051x1024, .f32⟩
  | 13 => ⟨S8x2048x1024, .f32⟩
  | 14 => ⟨S1x1024, .f32⟩
  | 15 => ⟨S1024, .f32⟩
  | 16 => ⟨S1x1x1024, .f32⟩
  | 17 => ⟨S8x2048x1024, .f32⟩
  | 18 => ⟨S8x2048x1024, .f32⟩
  | 19 => ⟨S1x1x1024, .f32⟩
  | 20 => ⟨S8x2048x1024, .f32⟩
  | 21 => ⟨S8x2048x1024, .f32⟩
  | 22 => ⟨S8x2048x1024, .f32⟩
  | 23 => ⟨S1x1024, .f32⟩
  | 24 => ⟨S1024, .f32⟩
  | 25 => ⟨S1x1x1024, .f32⟩
  | 26 => ⟨S8x2048x1024, .f32⟩
  | 27 => ⟨S8x2048x1024, .f32⟩
  | 28 => ⟨S8x2048x1024, .f32⟩
  | 29 => ⟨S8x2048x1024, .f32⟩
  | 30 => ⟨S1x1024, .f32⟩
  | 31 => ⟨S1024, .f32⟩
  | 32 => ⟨S1x1x1024, .f32⟩
  | 33 => ⟨S8x2048x1024, .f32⟩
  | 34 => ⟨S8x2048x1024, .f32⟩
  | 35 => ⟨S8x2048x1024, .f32⟩
  | 36 => ⟨S8x2048x1024, .f32⟩
  | 37 => ⟨S1x1024, .f32⟩
  | 38 => ⟨S1024, .f32⟩
  | 39 => ⟨S1x1x1024, .f32⟩
  | 40 => ⟨S8x2048x1024, .f32⟩
  | 41 => ⟨S8x2048x1024, .f32⟩
  | 42 => ⟨S8x2048x1024, .f32⟩
  | 43 => ⟨S8x2048x8x128, .f32⟩
  | 44 => ⟨S8x128x8x2048, .f32⟩
  | 45 => ⟨S8x2048x8x128, .f32⟩
  | 46 => ⟨S8x2048x1024, .f32⟩
  | 47 => ⟨S1x1x1024, .f32⟩
  | 48 => ⟨S8x2048x1024, .f32⟩
  | 49 => ⟨S8x2048x1024, .f32⟩
  | 50 => ⟨S8x2048x1024, .f32⟩
  | 51 => ⟨S8x2048x1024, .f32⟩
  | 52 => ⟨S_, .f32⟩
  | 53 => ⟨S8x2048x1024, .f32⟩
  | 54 => ⟨S8x2048x1024, .f32⟩
  | 55 => ⟨S_, .f32⟩
  | 56 => ⟨S8x2048x1024, .f32⟩
  | 57 => ⟨S8x2048x1024, .f32⟩
  | 58 => ⟨S8x128x8x2048, .f32⟩
  | 59 => ⟨S8x2048x8x128, .f32⟩
  | 60 => ⟨S8x2048x1024, .f32⟩
  | 61 => ⟨S1x1x1024, .f32⟩
  | 62 => ⟨S8x2048x1024, .f32⟩
  | 63 => ⟨S8x2048x1024, .f32⟩
  | 64 => ⟨S8x2048x1024, .f32⟩
  | 65 => ⟨S8x2048x1024, .f32⟩
  | 66 => ⟨S_, .f32⟩
  | 67 => ⟨S8x2048x1024, .f32⟩
  | 68 => ⟨S8x2048x1024, .f32⟩
  | 69 => ⟨S_, .f32⟩
  | 70 => ⟨S8x2048x1024, .f32⟩
  | 71 => ⟨S8x2048x1024, .f32⟩
  | 72 => ⟨S_, .f32⟩
  | 73 => ⟨S8x2048x1024, .f32⟩
  | 74 => ⟨S8x2048x1024, .f32⟩
  | 75 => ⟨S1024, .f32⟩
  | 76 => ⟨S_, .f32⟩
  | 77 => ⟨S1024, .f32⟩
  | 78 => ⟨S1024, .f32⟩
  | 79 => ⟨S1024, .f32⟩
  | 80 => ⟨S1024, .f32⟩
  | 81 => ⟨S1024, .i1⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1x1x1024, .f32⟩
  | 91 => ⟨S8x2048x1024, .f32⟩
  | 92 => ⟨S8x2048x1024, .f32⟩
  | 93 => ⟨S8x2048x1024, .f32⟩
  | 94 => ⟨S_, .f32⟩
  | 95 => ⟨S8x2048x1024, .f32⟩
  | 96 => ⟨S8x2048x1024, .f32⟩
  | 97 => ⟨S8x2048x1024, .f32⟩
  | 98 => ⟨S8x2048x1024, .f32⟩
  | 99 => ⟨S8x2048x1024, .f32⟩
  | 100 => ⟨S8x2048x1024, .f32⟩
  | 101 => ⟨S8x2048x1024, .f32⟩
  | 102 => ⟨S2048x8x1024, .f32⟩
  | 103 => ⟨S2048x8x1024, .f32⟩
  | 104 => ⟨S_, .f32⟩
  | 105 => ⟨S2048x8x1024, .f32⟩
  | 106 => ⟨S_, .i32⟩
  | 107 => ⟨S2048x8x1024, .f32⟩
  | 108 => ⟨S2048x8x1024, .f32⟩
  | 109 => ⟨S_, .i32⟩
  | 110 => ⟨S8x1024, .f32⟩
  | 111 => ⟨S2048x8x1024, .f32⟩
  | 112 => ⟨S_, .i32⟩
  | 113 => ⟨S_, .i1⟩
  | 114 => ⟨S_, .i32⟩
  | 115 => ⟨S_, .i32⟩
  | 116 => ⟨S1x8x1024, .f32⟩
  | 117 => ⟨S8x1024, .f32⟩
  | 118 => ⟨S_, .i32⟩
  | 119 => ⟨S_, .i32⟩
  | 120 => ⟨S1x8x1024, .f32⟩
  | 121 => ⟨S8x1024, .f32⟩
  | 122 => ⟨S8x1024, .f32⟩
  | 123 => ⟨S8x1024, .f32⟩
  | 124 => ⟨S1x8x1024, .f32⟩
  | 125 => ⟨S_, .i32⟩
  | 126 => ⟨S_, .i32⟩
  | 127 => ⟨S2048x8x1024, .f32⟩
  | _ => ⟨S2048x8x9728, .f32⟩

abbrev hbmTy0_1 (i : Nat) : BufTy := match i % 128 with
  | 0 => ⟨S_, .i32⟩
  | 1 => ⟨S_, .i32⟩
  | 2 => ⟨S2048x8x1024, .f32⟩
  | 3 => ⟨S2048x8x1024, .f32⟩
  | 4 => ⟨S2048x8x1024, .f32⟩
  | 5 => ⟨S_, .f32⟩
  | 6 => ⟨S2048x8x1024, .f32⟩
  | 7 => ⟨S2048x8x1024, .f32⟩
  | 8 => ⟨S2048x8x1024, .f32⟩
  | 9 => ⟨S_, .f32⟩
  | 10 => ⟨S2048x8x1024, .f32⟩
  | 11 => ⟨S2048x8x1024, .f32⟩
  | 12 => ⟨S2048x8x1024, .f32⟩
  | 13 => ⟨S_, .f32⟩
  | 14 => ⟨S2048x8x1024, .f32⟩
  | 15 => ⟨S2048x8x1024, .f32⟩
  | 16 => ⟨S_, .f32⟩
  | 17 => ⟨S2048x8x1024, .f32⟩
  | 18 => ⟨S2048x8x1024, .f32⟩
  | 19 => ⟨S2048x8x1024, .f32⟩
  | 20 => ⟨S2048x8x1024, .f32⟩
  | 21 => ⟨S3x8x1024, .f32⟩
  | 22 => ⟨S2048x8x1024, .f32⟩
  | 23 => ⟨S2051x8x1024, .f32⟩
  | 24 => ⟨S3x8x1024, .f32⟩
  | _ => ⟨S2048x8x9728, .f32⟩

abbrev hbmTy (i : Nat) : BufTy := match i / 128 with
  | 0 => hbmTy0_0 i
  | 1 => hbmTy0_1 i
  | _ => ⟨S2048x8x9728, .f32⟩

abbrev bufTy : (tb : Table) → Fin (tcTables nBuf tb) → BufTy
  | .hbm, ⟨i, _⟩ => hbmTy i
  | _, _ => ⟨S2048x8x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst : Ref sig .tc := ⟨.hbm, 52, rfl⟩
abbrev main_v42 : Ref sig .tc := ⟨.hbm, 53, rfl⟩
abbrev main_v43 : Ref sig .tc := ⟨.hbm, 54, rfl⟩
abbrev main_cst_0 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_1 : Ref sig .tc := ⟨.hbm, 66, rfl⟩
abbrev main_v54 : Ref sig .tc := ⟨.hbm, 67, rfl⟩
abbrev main_v55 : Ref sig .tc := ⟨.hbm, 68, rfl⟩
abbrev main_cst_2 : Ref sig .tc := ⟨.hbm, 69, rfl⟩
abbrev main_v56 : Ref sig .tc := ⟨.hbm, 70, rfl⟩
abbrev main_v57 : Ref sig .tc := ⟨.hbm, 71, rfl⟩
abbrev main_cst_3 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_v6 : Ref sig .tc := ⟨.hbm, 83, rfl⟩
abbrev main_call0_v7 : Ref sig .tc := ⟨.hbm, 84, rfl⟩
abbrev main_call0_v8 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_4 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_5 : Ref sig .tc := ⟨.hbm, 104, rfl⟩
abbrev main_v75 : Ref sig .tc := ⟨.hbm, 105, rfl⟩
abbrev main_c : Ref sig .tc := ⟨.hbm, 106, rfl⟩
abbrev main_v76_0 : Ref sig .tc := ⟨.hbm, 107, rfl⟩
abbrev main_v76_1 : Ref sig .tc := ⟨.hbm, 108, rfl⟩
abbrev main_v76_2 : Ref sig .tc := ⟨.hbm, 109, rfl⟩
abbrev main_v76_3 : Ref sig .tc := ⟨.hbm, 110, rfl⟩
abbrev main_v76_4 : Ref sig .tc := ⟨.hbm, 111, rfl⟩
abbrev main_while0c_c_14 : Ref sig .tc := ⟨.hbm, 112, rfl⟩
abbrev main_while0c_v96 : Ref sig .tc := ⟨.hbm, 113, rfl⟩
abbrev main_while0b_call1_c : Ref sig .tc := ⟨.hbm, 114, rfl⟩
abbrev main_while0b_call1_c_0 : Ref sig .tc := ⟨.hbm, 115, rfl⟩
abbrev main_while0b_call1_v0 : Ref sig .tc := ⟨.hbm, 116, rfl⟩
abbrev main_while0b_v96 : Ref sig .tc := ⟨.hbm, 117, rfl⟩
abbrev main_while0b_call2_c : Ref sig .tc := ⟨.hbm, 118, rfl⟩
abbrev main_while0b_call2_c_0 : Ref sig .tc := ⟨.hbm, 119, rfl⟩
abbrev main_while0b_call2_v0 : Ref sig .tc := ⟨.hbm, 120, rfl⟩
abbrev main_while0b_v97 : Ref sig .tc := ⟨.hbm, 121, rfl⟩
abbrev main_while0b_v98 : Ref sig .tc := ⟨.hbm, 122, rfl⟩
abbrev main_while0b_v99 : Ref sig .tc := ⟨.hbm, 123, rfl⟩
abbrev main_while0b_call3_v0 : Ref sig .tc := ⟨.hbm, 124, rfl⟩
abbrev main_while0b_call3_c : Ref sig .tc := ⟨.hbm, 125, rfl⟩
abbrev main_while0b_call3_c_0 : Ref sig .tc := ⟨.hbm, 126, rfl⟩
abbrev main_while0b_v100 : Ref sig .tc := ⟨.hbm, 127, rfl⟩
abbrev main_while0b_c_14 : Ref sig .tc := ⟨.hbm, 128, rfl⟩
abbrev main_while0b_v101 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_cst_6 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_7 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_cst_8 : Ref sig .tc := ⟨.hbm, 141, rfl⟩
abbrev main_v86 : Ref sig .tc := ⟨.hbm, 142, rfl⟩
abbrev main_v87 : Ref sig .tc := ⟨.hbm, 143, rfl⟩
abbrev main_cst_9 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S168 : Shape := ⟨1, ![168]⟩
abbrev S86016x1024 : Shape := ⟨2, ![86016, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S4x32x1x2048 : Shape := ⟨4, ![4, 32, 1, 2048]⟩
abbrev S4x32x1x1024 : Shape := ⟨4, ![4, 32, 1, 1024]⟩
abbrev S512x1024 : Shape := ⟨2, ![512, 1024]⟩
abbrev S1x1x1024x2048 : Shape := ⟨4, ![1, 1, 1024, 2048]⟩
abbrev S1 : Shape := ⟨1, ![1]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 8
  | .vmem => 14
  | .smem => 2
  | _ => 0

abbrev bufTy : (tb : Table) → Fin (tcTables nBuf tb) → BufTy
  | .hbm, ⟨0, _⟩ => ⟨S86016x1024, .f32⟩
  | .hbm, ⟨1, _⟩ => ⟨S4x32x1024x2048, .f32⟩
  | .hbm, ⟨2, _⟩ => ⟨S4x32x2048, .f32⟩
  | .hbm, ⟨3, _⟩ => ⟨S4x32x1024x1024, .f32⟩
  | .hbm, ⟨4, _⟩ => ⟨S4x32x1024, .f32⟩
  | .hbm, ⟨5, _⟩ => ⟨S4x32x1x2048, .f32⟩
  | .hbm, ⟨6, _⟩ => ⟨S4x32x1x1024, .f32⟩
  | .hbm, ⟨7, _⟩ => ⟨S86016x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S168, .i32⟩
  | .local _ .smem, ⟨1, _⟩ => ⟨S168, .i32⟩
  | _, _ => ⟨S86016x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![168], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S168.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S168.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S168.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S168.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S168 : Shape := ⟨1, ![168]⟩
abbrev S86016x1024 : Shape := ⟨2, ![86016, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S168x512 : Shape := ⟨2, ![168, 512]⟩
abbrev S86016 : Shape := ⟨1, ![86016]⟩
abbrev S86016x1 : Shape := ⟨2, ![86016, 1]⟩
abbrev S1x32 : Shape := ⟨2, ![1, 32]⟩
abbrev S86016x32 : Shape := ⟨2, ![86016, 32]⟩
abbrev S_ : Shape := ⟨0, ![]⟩
abbrev S32x86016 : Shape := ⟨2, ![32, 86016]⟩
abbrev S1x32x1024x2048 : Shape := ⟨4, ![1, 32, 1024, 2048]⟩
abbrev S32x1024x2048 : Shape := ⟨3, ![32, 1024, 2048]⟩
abbrev S1x32x2048 : Shape := ⟨3, ![1, 32, 2048]⟩
abbrev S32x2048 : Shape := ⟨2, ![32, 2048]⟩
abbrev S1x32x1024x1024 : Shape := ⟨4, ![1, 32, 1024, 1024]⟩
abbrev S32x1024x1024 : Shape := ⟨3, ![32, 1024, 1024]⟩
abbrev S1x32x1024 : Shape := ⟨3, ![1, 32, 1024]⟩
abbrev S32x1024 : Shape := ⟨2, ![32, 1024]⟩
abbrev S1x86016 : Shape := ⟨2, ![1, 86016]⟩
abbrev S1x1024x2048 : Shape := ⟨3, ![1, 1024, 2048]⟩
abbrev S1024x2048 : Shape := ⟨2, ![1024, 2048]⟩
abbrev S1x2048 : Shape := ⟨2, ![1, 2048]⟩
abbrev S2048 : Shape := ⟨1, ![2048]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S86016x2048 : Shape := ⟨2, ![86016, 2048]⟩

abbrev nBuf : Space → Nat
  | .hbm => 103
  | .vmem => 0
  | .smem => 0
  | _ => 0

abbrev bufTy : (tb : Table) → Fin (tcTables nBuf tb) → BufTy
  | .hbm, ⟨0, _⟩ => ⟨S168, .i32⟩
  | .hbm, ⟨1, _⟩ => ⟨S168, .i32⟩
  | .hbm, ⟨2, _⟩ => ⟨S86016x1024, .f32⟩
  | .hbm, ⟨3, _⟩ => ⟨S4x32x1024x2048, .f32⟩
  | .hbm, ⟨4, _⟩ => ⟨S4x32x2048, .f32⟩
  | .hbm, ⟨5, _⟩ => ⟨S4x32x1024x1024, .f32⟩
  | .hbm, ⟨6, _⟩ => ⟨S4x32x1024, .f32⟩
  | .hbm, ⟨7, _⟩ => ⟨S168x512, .i32⟩
  | .hbm, ⟨8, _⟩ => ⟨S86016, .i32⟩
  | .hbm, ⟨9, _⟩ => ⟨S86016x1, .i32⟩
  | .hbm, ⟨10, _⟩ => ⟨S1x32, .i32⟩
  | .hbm, ⟨11, _⟩ => ⟨S86016x32, .i32⟩
  | .hbm, ⟨12, _⟩ => ⟨S86016x32, .i32⟩
  | .hbm, ⟨13, _⟩ => ⟨S86016x32, .i1⟩
  | .hbm, ⟨14, _⟩ => ⟨S86016x32, .f32⟩
  | .hbm, ⟨15, _⟩ => ⟨S168x512, .i32⟩
  | .hbm, ⟨16, _⟩ => ⟨S86016, .i32⟩
  | .hbm, ⟨17, _⟩ => ⟨S86016, .f32⟩
  | .hbm, ⟨18, _⟩ => ⟨S86016x1, .f32⟩
  | .hbm, ⟨19, _⟩ => ⟨S86016x32, .f32⟩
  | .hbm, ⟨20, _⟩ => ⟨S86016x32, .f32⟩
  | .hbm, ⟨21, _⟩ => ⟨S_, .f32⟩
  | .hbm, ⟨22, _⟩ => ⟨S86016x1024, .f32⟩
  | .hbm, ⟨23, _⟩ => ⟨S32x86016, .f32⟩
  | .hbm, ⟨24, _⟩ => ⟨S1x32x1024x2048, .f32⟩
  | .hbm, ⟨25, _⟩ => ⟨S32x1024x2048, .f32⟩
  | .hbm, ⟨26, _⟩ => ⟨S1x32x2048, .f32⟩
  | .hbm, ⟨27, _⟩ => ⟨S32x2048, .f32⟩
  | .hbm, ⟨28, _⟩ => ⟨S1x32x1024x1024, .f32⟩
  | .hbm, ⟨29, _⟩ => ⟨S32x1024x1024, .f32⟩
  | .hbm, ⟨30, _⟩ => ⟨S1x32x1024, .f32⟩
  | .hbm, ⟨31, _⟩ => ⟨S32x1024, .f32⟩
  | .hbm, ⟨32, _⟩ => ⟨S_, .i32⟩
  | .hbm, ⟨33, _⟩ => ⟨S32x86016, .f32⟩
  | .hbm, ⟨34, _⟩ => ⟨S32x1024x2048, .f32⟩
  | .hbm, ⟨35, _⟩ => ⟨S32x2048, .f32⟩
  | .hbm, ⟨36, _⟩ => ⟨S32x1024x1024, .f32⟩
  | .hbm, ⟨37, _⟩ => ⟨S32x1024, .f32⟩
  | .hbm, ⟨38, _⟩ => ⟨S86016x1024, .f32⟩
  | .hbm, ⟨39, _⟩ => ⟨S_, .i32⟩
  | .hbm, ⟨40, _⟩ => ⟨S86016x1024, .f32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S1x86016, .f32⟩
  | .hbm, ⟨45, _⟩ => ⟨S86016, .f32⟩
  | .hbm, ⟨46, _⟩ => ⟨S_, .i32⟩
  | .hbm, ⟨47, _⟩ => ⟨S_, .i32⟩
  | .hbm, ⟨48, _⟩ => ⟨S1x1024x2048, .f32⟩
  | .hbm, ⟨49, _⟩ => ⟨S1024x2048, .f32⟩
  | .hbm, ⟨50, _⟩ => ⟨S_, .i32⟩
  | .hbm, ⟨51, _⟩ => ⟨S1x2048, .f32⟩
  | .hbm, ⟨52, _⟩ => ⟨S2048, .f32⟩
  | .hbm, ⟨53, _⟩ => ⟨S_, .i32⟩
  | .hbm, ⟨54, _⟩ => ⟨S_, .i32⟩
  | .hbm, ⟨55, _⟩ => ⟨S1x1024x1024, .f32⟩
  | .hbm, ⟨56, _⟩ => ⟨S1024x1024, .f32⟩
  | .hbm, ⟨57, _⟩ => ⟨S_, .i32⟩
  | .hbm, ⟨58, _⟩ => ⟨S1x1024, .f32⟩
  | .hbm, ⟨59, _⟩ => ⟨S1024, .f32⟩
  | .hbm, ⟨60, _⟩ => ⟨S86016x2048, .f32⟩
  | .hbm, ⟨61, _⟩ => ⟨S1x2048, .f32⟩
  | .hbm, ⟨62, _⟩ => ⟨S86016x2048, .f32⟩
  | .hbm, ⟨63, _⟩ => ⟨S86016x2048, .f32⟩
  | .hbm, ⟨64, _⟩ => ⟨S86016x1024, .f32⟩
  | .hbm, ⟨65, _⟩ => ⟨S_, .f32⟩
  | .hbm, ⟨66, _⟩ => ⟨S86016x1024, .f32⟩
  | .hbm, ⟨67, _⟩ => ⟨S86016x1024, .f32⟩
  | .hbm, ⟨68, _⟩ => ⟨S86016x1024, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S86016x1024, .f32⟩
  | .hbm, ⟨73, _⟩ => ⟨S86016x1024, .f32⟩
  | .hbm, ⟨74, _⟩ => ⟨S_, .f32⟩
  | .hbm, ⟨75, _⟩ => ⟨S86016x1024, .f32⟩
  | .hbm, ⟨76, _⟩ => ⟨S86016x1024, .f32⟩
  | .hbm, ⟨77, _⟩ => ⟨S_, .f32⟩
  | .hbm, ⟨78, _⟩ => ⟨S86016x1024, .f32⟩
  | .hbm, ⟨79, _⟩ => ⟨S86016x1024, .f32⟩
  | .hbm, ⟨80, _⟩ => ⟨S86016x1024, .f32⟩
  | .hbm, ⟨81, _⟩ => ⟨S86016x1024, .f32⟩
  | .hbm, ⟨82, _⟩ => ⟨S_, .f32⟩
  | .hbm, ⟨83, _⟩ => ⟨S86016x1024, .f32⟩
  | .hbm, ⟨84, _⟩ => ⟨S86016x1024, .f32⟩
  | .hbm, ⟨85, _⟩ => ⟨S_, .f32⟩
  | .hbm, ⟨86, _⟩ => ⟨S86016x1024, .f32⟩
  | .hbm, ⟨87, _⟩ => ⟨S86016x1024, .f32⟩
  | .hbm, ⟨88, _⟩ => ⟨S86016x1024, .f32⟩
  | .hbm, ⟨89, _⟩ => ⟨S_, .f32⟩
  | .hbm, ⟨90, _⟩ => ⟨S86016x1024, .f32⟩
  | .hbm, ⟨91, _⟩ => ⟨S86016x1024, .f32⟩
  | .hbm, ⟨92, _⟩ => ⟨S86016x1024, .f32⟩
  | .hbm, ⟨93, _⟩ => ⟨S86016x1, .f32⟩
  | .hbm, ⟨94, _⟩ => ⟨S86016x1024, .f32⟩
  | .hbm, ⟨95, _⟩ => ⟨S1x1024, .f32⟩
  | .hbm, ⟨96, _⟩ => ⟨S86016x1024, .f32⟩
  | .hbm, ⟨97, _⟩ => ⟨S86016x1024, .f32⟩
  | .hbm, ⟨98, _⟩ => ⟨S86016x1024, .f32⟩
  | .hbm, ⟨99, _⟩ => ⟨S86016x1024, .f32⟩
  | .hbm, ⟨100, _⟩ => ⟨S86016x1024, .f32⟩
  | .hbm, ⟨101, _⟩ => ⟨S_, .i32⟩
  | .hbm, ⟨102, _⟩ => ⟨S_, .i32⟩
  | _, _ => ⟨S168, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19_0 : Ref sig .tc := ⟨.hbm, 33, rfl⟩
abbrev main_v19_1 : Ref sig .tc := ⟨.hbm, 34, rfl⟩
abbrev main_v19_2 : Ref sig .tc := ⟨.hbm, 35, rfl⟩
abbrev main_v19_3 : Ref sig .tc := ⟨.hbm, 36, rfl⟩
abbrev main_v19_4 : Ref sig .tc := ⟨.hbm, 37, rfl⟩
abbrev main_v19_5 : Ref sig .tc := ⟨.hbm, 38, rfl⟩
abbrev main_v19_6 : Ref sig .tc := ⟨.hbm, 39, rfl⟩
abbrev main_v19_7 : Ref sig .tc := ⟨.hbm, 40, rfl⟩
abbrev main_while0c_c_7 : Ref sig .tc := ⟨.hbm, 41, rfl⟩
abbrev main_while0c_v20 : Ref sig .tc := ⟨.hbm, 42, rfl⟩
abbrev main_while0b_call1_c : Ref sig .tc := ⟨.hbm, 43, rfl⟩
abbrev main_while0b_call1_v0 : Ref sig .tc := ⟨.hbm, 44, rfl⟩
abbrev main_while0b_v20 : Ref sig .tc := ⟨.hbm, 45, rfl⟩
abbrev main_while0b_call2_c : Ref sig .tc := ⟨.hbm, 46, rfl⟩
abbrev main_while0b_call2_c_0 : Ref sig .tc := ⟨.hbm, 47, rfl⟩
abbrev main_while0b_call2_v0 : Ref sig .tc := ⟨.hbm, 48, rfl⟩
abbrev main_while0b_v21 : Ref sig .tc := ⟨.hbm, 49, rfl⟩
abbrev main_while0b_call3_c : Ref sig .tc := ⟨.hbm, 50, rfl⟩
abbrev main_while0b_call3_v0 : Ref sig .tc := ⟨.hbm, 51, rfl⟩
abbrev main_while0b_v22 : Ref sig .tc := ⟨.hbm, 52, rfl⟩
abbrev main_while0b_call4_c : Ref sig .tc := ⟨.hbm, 53, rfl⟩
abbrev main_while0b_call4_c_0 : Ref sig .tc := ⟨.hbm, 54, rfl⟩
abbrev main_while0b_call4_v0 : Ref sig .tc := ⟨.hbm, 55, rfl⟩
abbrev main_while0b_v23 : Ref sig .tc := ⟨.hbm, 56, rfl⟩
abbrev main_while0b_call5_c : Ref sig .tc := ⟨.hbm, 57, rfl⟩
abbrev main_while0b_call5_v0 : Ref sig .tc := ⟨.hbm, 58, rfl⟩
abbrev main_while0b_v24 : Ref sig .tc := ⟨.hbm, 59, rfl⟩
abbrev main_while0b_v25 : Ref sig .tc := ⟨.hbm, 60, rfl⟩
abbrev main_while0b_v26 : Ref sig .tc := ⟨.hbm, 61, rfl⟩
abbrev main_while0b_v27 : Ref sig .tc := ⟨.hbm, 62, rfl⟩
abbrev main_while0b_v28 : Ref sig .tc := ⟨.hbm, 63, rfl⟩
abbrev main_while0b_v29 : Ref sig .tc := ⟨.hbm, 64, rfl⟩
abbrev main_while0b_cst_7 : Ref sig .tc := ⟨.hbm, 65, rfl⟩
abbrev main_while0b_v30 : Ref sig .tc := ⟨.hbm, 66, rfl⟩
abbrev main_while0b_v31 : Ref sig .tc := ⟨.hbm, 67, rfl⟩
abbrev main_while0b_v32 : Ref sig .tc := ⟨.hbm, 68, rfl⟩
abbrev main_while0b_cst_8 : Ref sig .tc := ⟨.hbm, 69, rfl⟩
abbrev main_while0b_cst_9 : Ref sig .tc := ⟨.hbm, 70, rfl⟩
abbrev main_while0b_call6_v0 : Ref sig .tc := ⟨.hbm, 71, rfl⟩
abbrev main_while0b_call6_v1 : Ref sig .tc := ⟨.hbm, 72, rfl⟩
abbrev main_while0b_call6_v2 : Ref sig .tc := ⟨.hbm, 73, rfl⟩
abbrev main_while0b_call6_v3 : Ref sig .tc := ⟨.hbm, 74, rfl⟩
abbrev main_while0b_call6_v4 : Ref sig .tc := ⟨.hbm, 75, rfl⟩
abbrev main_while0b_v33 : Ref sig .tc := ⟨.hbm, 76, rfl⟩
abbrev main_while0b_cst_10 : Ref sig .tc := ⟨.hbm, 77, rfl⟩
abbrev main_while0b_v34 : Ref sig .tc := ⟨.hbm, 78, rfl⟩
abbrev main_while0b_v35 : Ref sig .tc := ⟨.hbm, 79, rfl⟩
abbrev main_while0b_v36 : Ref sig .tc := ⟨.hbm, 80, rfl⟩
abbrev main_while0b_v37 : Ref sig .tc := ⟨.hbm, 81, rfl⟩
abbrev main_while0b_cst_11 : Ref sig .tc := ⟨.hbm, 82, rfl⟩
abbrev main_while0b_v38 : Ref sig .tc := ⟨.hbm, 83, rfl⟩
abbrev main_while0b_v39 : Ref sig .tc := ⟨.hbm, 84, rfl⟩
abbrev main_while0b_cst_12 : Ref sig .tc := ⟨.hbm, 85, rfl⟩
abbrev main_while0b_v40 : Ref sig .tc := ⟨.hbm, 86, rfl⟩
abbrev main_while0b_v41 : Ref sig .tc := ⟨.hbm, 87, rfl⟩
abbrev main_while0b_v42 : Ref sig .tc := ⟨.hbm, 88, rfl⟩
abbrev main_while0b_cst_13 : Ref sig .tc := ⟨.hbm, 89, rfl⟩
abbrev main_while0b_v43 : Ref sig .tc := ⟨.hbm, 90, rfl⟩
abbrev main_while0b_v44 : Ref sig .tc := ⟨.hbm, 91, rfl⟩
abbrev main_while0b_v45 : Ref sig .tc := ⟨.hbm, 92, rfl⟩
abbrev main_while0b_v46 : Ref sig .tc := ⟨.hbm, 93, rfl⟩
abbrev main_while0b_v47 : Ref sig .tc := ⟨.hbm, 94, rfl⟩
abbrev main_while0b_v48 : Ref sig .tc := ⟨.hbm, 95, rfl⟩
abbrev main_while0b_v49 : Ref sig .tc := ⟨.hbm, 96, rfl⟩
abbrev main_while0b_v50 : Ref sig .tc := ⟨.hbm, 97, rfl⟩
abbrev main_while0b_v51 : Ref sig .tc := ⟨.hbm, 98, rfl⟩
abbrev main_while0b_v52 : Ref sig .tc := ⟨.hbm, 99, rfl⟩
abbrev main_while0b_v53 : Ref sig .tc := ⟨.hbm, 100, rfl⟩
abbrev main_while0b_c_14 : Ref sig .tc := ⟨.hbm, 101, rfl⟩
abbrev main_while0b_v54 : Ref sig .tc := ⟨.hbm, 102, rfl⟩

abbrev nD : Nat := 1
abbrev τ : Topo := Topo.v7x

variable {F : FTy → Type} [FloatOps F]

abbrev main_while0_count : Scf.Loop 32 := ⟨0#32, 32#32, 1#32⟩
-- ==== Kernel3.lean ====
abbrev S2048x8x1024 : Shape := ⟨3, ![2048, 8, 1024]⟩
abbrev S1x8x6144 : Shape := ⟨3, ![1, 8, 6144]⟩
abbrev S1024 : Shape := ⟨1, ![1024]⟩
abbrev S1024x9504 : Shape := ⟨2, ![1024, 9504]⟩
abbrev S1024x6144 : Shape := ⟨2, ![1024, 6144]⟩
abbrev S1024x288 : Shape := ⟨2, ![1024, 288]⟩
abbrev S1024x3072 : Shape := ⟨2, ![1024, 3072]⟩
abbrev S_ : Shape := ⟨0, ![]⟩
abbrev S1024x224 : Shape := ⟨2, ![1024, 224]⟩
abbrev S1024x9728 : Shape := ⟨2, ![1024, 9728]⟩
abbrev S1x1x1024 : Shape := ⟨3, ![1, 1, 1024]⟩
abbrev S2048x8x9728 : Shape := ⟨3, ![2048, 8, 9728]⟩
abbrev S256x8x1024 : Shape := ⟨3, ![256, 8, 1024]⟩
abbrev S1x8x1024 : Shape := ⟨3, ![1, 8, 1024]⟩
abbrev S1024x512 : Shape := ⟨2, ![1024, 512]⟩
abbrev S256x8x512 : Shape := ⟨3, ![256, 8, 512]⟩
abbrev S2048x1024 : Shape := ⟨2, ![2048, 1024]⟩
abbrev S256x8 : Shape := ⟨2, ![256, 8]⟩
abbrev S256x8x1 : Shape := ⟨3, ![256, 8, 1]⟩
abbrev S2048x512 : Shape := ⟨2, ![2048, 512]⟩

abbrev nBuf : Space → Nat
  | .hbm => 13
  | .vmem => 10
  | .smem => 0
  | _ => 0

abbrev bufTy : (tb : Table) → Fin (tcTables nBuf tb) → BufTy
  | .hbm, ⟨0, _⟩ => ⟨S2048x8x1024, .f32⟩
  | .hbm, ⟨1, _⟩ => ⟨S1x8x6144, .f32⟩
  | .hbm, ⟨2, _⟩ => ⟨S1024, .f32⟩
  | .hbm, ⟨3, _⟩ => ⟨S1024x9504, .f32⟩
  | .hbm, ⟨4, _⟩ => ⟨S1024x6144, .f32⟩
  | .hbm, ⟨5, _⟩ => ⟨S1024x288, .f32⟩
  | .hbm, ⟨6, _⟩ => ⟨S1024x3072, .f32⟩
  | .hbm, ⟨7, _⟩ => ⟨S_, .f32⟩
  | .hbm, ⟨8, _⟩ => ⟨S1024x224, .f32⟩
  | .hbm, ⟨9, _⟩ => ⟨S1024x9728, .f32⟩
  | .hbm, ⟨10, _⟩ => ⟨S1024x9728, .bf16⟩
  | .hbm, ⟨11, _⟩ => ⟨S1x1x1024, .f32⟩
  | .hbm, ⟨12, _⟩ => ⟨S2048x8x9728, .f32⟩
  | .local _ .vmem, ⟨0, _⟩ => ⟨S256x8x1024, .f32⟩
  | .local _ .vmem, ⟨1, _⟩ => ⟨S256x8x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1x1024, .f32⟩
  | .local _ .vmem, ⟨5, _⟩ => ⟨S1024x512, .bf16⟩
  | .local _ .vmem, ⟨6, _⟩ => ⟨S1024x512, .bf16⟩
  | .local _ .vmem, ⟨7, _⟩ => ⟨S256x8x512, .f32⟩
  | .local _ .vmem, ⟨8, _⟩ => ⟨S256x8x512, .f32⟩
  | .local _ .vmem, ⟨9, _⟩ => ⟨S2048x1024, .bf16⟩
  | _, _ => ⟨S2048x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![1, 8, 19], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![c0_i32.toNat, arg0.toNat, c1_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S256x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S256x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference3Ideal.lean ====
abbrev S2048x8x1024 : Shape := ⟨3, ![2048, 8, 1024]⟩
abbrev S1x8x6144 : Shape := ⟨3, ![1, 8, 6144]⟩
abbrev S1024 : Shape := ⟨1, ![1024]⟩
abbrev S1024x9504 : Shape := ⟨2, ![1024, 9504]⟩
abbrev S8x2048x1024 : Shape := ⟨3, ![8, 2048, 1024]⟩
abbrev S1x8x1024 : Shape := ⟨3, ![1, 8, 1024]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x9504 : Shape := ⟨3, ![8, 2048, 9504]⟩
abbrev S2048x8x9504 : Shape := ⟨3, ![2048, 8, 9504]⟩
abbrev S2048x8x6144 : Shape := ⟨3, ![2048, 8, 6144]⟩
abbrev S2048x8x3072 : Shape := ⟨3, ![2048, 8, 3072]⟩
abbrev S2048x8x288 : Shape := ⟨3, ![2048, 8, 288]⟩
abbrev S2048x8x224 : Shape := ⟨3, ![2048, 8, 224]⟩
abbrev S2048x8x9728 : Shape := ⟨3, ![2048, 8, 9728]⟩

abbrev nBuf : Space → Nat
  | .hbm => 42
  | .vmem => 0
  | .smem => 0
  | _ => 0

abbrev bufTy : (tb : Table) → Fin (tcTables nBuf tb) → BufTy
  | .hbm, ⟨0, _⟩ => ⟨S2048x8x1024, .f32⟩
  | .hbm, ⟨1, _⟩ => ⟨S1x8x6144, .f32⟩
  | .hbm, ⟨2, _⟩ => ⟨S1024, .f32⟩
  | .hbm, ⟨3, _⟩ => ⟨S1024x9504, .f32⟩
  | .hbm, ⟨4, _⟩ => ⟨S8x2048x1024, .f32⟩
  | .hbm, ⟨5, _⟩ => ⟨S1x8x1024, .f32⟩
  | .hbm, ⟨6, _⟩ => ⟨S8x1024, .f32⟩
  | .hbm, ⟨7, _⟩ => ⟨S8x1x1024, .f32⟩
  | .hbm, ⟨8, _⟩ => ⟨S1x8x1024, .f32⟩
  | .hbm, ⟨9, _⟩ => ⟨S8x1024, .f32⟩
  | .hbm, ⟨10, _⟩ => ⟨S8x1x1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x9504, .f32⟩
  | .hbm, ⟨35, _⟩ => ⟨S2048x8x9504, .f32⟩
  | .hbm, ⟨36, _⟩ => ⟨S2048x8x6144, .f32⟩
  | .hbm, ⟨37, _⟩ => ⟨S2048x8x3072, .f32⟩
  | .hbm, ⟨38, _⟩ => ⟨S2048x8x288, .f32⟩
  | .hbm, ⟨39, _⟩ => ⟨S_, .f32⟩
  | .hbm, ⟨40, _⟩ => ⟨S2048x8x224, .f32⟩
  | .hbm, ⟨41, _⟩ => ⟨S2048x8x9728, .f32⟩
  | _, _ => ⟨S2048x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Kernel4.lean ====
abbrev S2048x8x1024 : Shape := ⟨3, ![2048, 8, 1024]⟩
abbrev S2048x8x9728 : Shape := ⟨3, ![2048, 8, 9728]⟩
abbrev S1x8x6144 : Shape := ⟨3, ![1, 8, 6144]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x96 : Shape := ⟨2, ![1024, 96]⟩
abbrev S1024x128 : Shape := ⟨2, ![1024, 128]⟩
abbrev S96 : Shape := ⟨1, ![96]⟩
abbrev S128 : Shape := ⟨1, ![128]⟩
abbrev S1x128 : Shape := ⟨2, ![1, 128]⟩
abbrev S1x1024 : Shape := ⟨2, ![1, 1024]⟩
abbrev S1x1x1024 : Shape := ⟨3, ![1, 1, 1024]⟩
abbrev S2048x8x128 : Shape := ⟨3, ![2048, 8, 128]⟩
abbrev S64x8x1024 : Shape := ⟨3, ![64, 8, 1024]⟩
abbrev S1x8x1024 : Shape := ⟨3, ![1, 8, 1024]⟩
abbrev S64x8x128 : Shape := ⟨3, ![64, 8, 128]⟩
abbrev S512x1024 : Shape := ⟨2, ![512, 1024]⟩
abbrev S64x8 : Shape := ⟨2, ![64, 8]⟩
abbrev S64x8x1 : Shape := ⟨3, ![64, 8, 1]⟩
abbrev S512x128 : Shape := ⟨2, ![512, 128]⟩

abbrev nBuf : Space → Nat
  | .hbm => 32
  | .vmem => 32
  | .smem => 0
  | _ => 0

abbrev bufTy : (tb : Table) → Fin (tcTables nBuf tb) → BufTy
  | .hbm, ⟨0, _⟩ => ⟨S2048x8x1024, .f32⟩
  | .hbm, ⟨1, _⟩ => ⟨S2048x8x1024, .f32⟩
  | .hbm, ⟨2, _⟩ => ⟨S2048x8x1024, .f32⟩
  | .hbm, ⟨3, _⟩ => ⟨S2048x8x1024, .f32⟩
  | .hbm, ⟨4, _⟩ => ⟨S2048x8x9728, .f32⟩
  | .hbm, ⟨5, _⟩ => ⟨S1x8x6144, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024, .f32⟩
  | .hbm, ⟨13, _⟩ => ⟨S1024x32, .f32⟩
  | .hbm, ⟨14, _⟩ => ⟨S32, .f32⟩
  | .hbm, ⟨15, _⟩ => ⟨S_, .f32⟩
  | .hbm, ⟨16, _⟩ => ⟨S1024x96, .f32⟩
  | .hbm, ⟨17, _⟩ => ⟨S1024x128, .f32⟩
  | .hbm, ⟨18, _⟩ => ⟨S_, .f32⟩
  | .hbm, ⟨19, _⟩ => ⟨S96, .f32⟩
  | .hbm, ⟨20, _⟩ => ⟨S128, .f32⟩
  | .hbm, ⟨21, _⟩ => ⟨S1x128, .f32⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S1024x1024, .bf16⟩
  | .hbm, ⟨26, _⟩ => ⟨S1024x1024, .bf16⟩
  | .hbm, ⟨27, _⟩ => ⟨S1x1024, .f32⟩
  | .hbm, ⟨28, _⟩ => ⟨S1x1x1024, .f32⟩
  | .hbm, ⟨29, _⟩ => ⟨S2048x8x1024, .f32⟩
  | .hbm, ⟨30, _⟩ => ⟨S2048x8x1024, .f32⟩
  | .hbm, ⟨31, _⟩ => ⟨S2048x8x128, .f32⟩
  | .local _ .vmem, ⟨0, _⟩ => ⟨S64x8x1024, .f32⟩
  | .local _ .vmem, ⟨1, _⟩ => ⟨S64x8x1024, .f32⟩
  | .local _ .vmem, ⟨2, _⟩ => ⟨S64x8x1024, .f32⟩
  | .local _ .vmem, ⟨3, _⟩ => ⟨S64x8x1024, .f32⟩
  | .local _ .vmem, ⟨4, _⟩ => ⟨S64x8x1024, .f32⟩
  | .local _ .vmem, ⟨5, _⟩ => ⟨S64x8x1024, .f32⟩
  | .local _ .vmem, ⟨6, _⟩ => ⟨S64x8x1024, .f32⟩
  | .local _ .vmem, ⟨7, _⟩ => ⟨S64x8x1024, .f32⟩
  | .local _ .vmem, ⟨8, _⟩ => ⟨S64x8x1024, .f32⟩
  | .local _ .vmem, ⟨9, _⟩ => ⟨S64x8x1024, .f32⟩
  | .local _ .vmem, ⟨10, _⟩ => ⟨S64x8x1024, .f32⟩
  | .local _ .vmem, ⟨11, _⟩ => ⟨S64x8x1024, .f32⟩
  | .local _ .vmem, ⟨12, _⟩ => ⟨S64x8x1024, .f32⟩
  | .local _ .vmem, ⟨13, _⟩ => ⟨S64x8x1024, .f32⟩
  | .local _ .vmem, ⟨14, _⟩ => ⟨S1x8x1024, .f32⟩
  | .local _ .vmem, ⟨15, _⟩ => ⟨S1x8x1024, .f32⟩
  | .local _ .vmem, ⟨16, _⟩ => ⟨S1x8x1024, .f32⟩
  | .local _ .vmem, ⟨17, _⟩ => ⟨S1024x1024, .bf16⟩
  | .local _ .vmem, ⟨18, _⟩ => ⟨S1x1024, .f32⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1x1x1024, .f32⟩
  | .local _ .vmem, ⟨24, _⟩ => ⟨S1024x128, .f32⟩
  | .local _ .vmem, ⟨25, _⟩ => ⟨S1x128, .f32⟩
  | .local _ .vmem, ⟨26, _⟩ => ⟨S64x8x1024, .f32⟩
  | .local _ .vmem, ⟨27, _⟩ => ⟨S64x8x1024, .f32⟩
  | .local _ .vmem, ⟨28, _⟩ => ⟨S64x8x1024, .f32⟩
  | .local _ .vmem, ⟨29, _⟩ => ⟨S64x8x1024, .f32⟩
  | .local _ .vmem, ⟨30, _⟩ => ⟨S64x8x128, .f32⟩
  | .local _ .vmem, ⟨31, _⟩ => ⟨S64x8x128, .f32⟩
  | _, _ => ⟨S2048x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12_0 : Ref sig .tc := ⟨.hbm, 29, rfl⟩
abbrev main_v12_1 : Ref sig .tc := ⟨.hbm, 30, rfl⟩
abbrev main_v12_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg1.toNat, arg0.toNat, c6_i32.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg1.toNat, arg0.toNat, c7_i32.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg1.toNat, arg0.toNat, c8_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, arg0.toNat, c2_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, arg0.toNat, c4_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, arg0.toNat, c3_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S64x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S64x8x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S64x8x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S64x8x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Reference4Ideal.lean ====
abbrev S2048x8x1024 : Shape := ⟨3, ![2048, 8, 1024]⟩
abbrev S2048x8x9728 : Shape := ⟨3, ![2048, 8, 9728]⟩
abbrev S1x8x6144 : Shape := ⟨3, ![1, 8, 6144]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S1x8x1024 : Shape := ⟨3, ![1, 8, 1024]⟩
abbrev S_ : Shape := ⟨0, ![]⟩
abbrev S1x1x1024 : Shape := ⟨3, ![1, 1, 1024]⟩
abbrev S2048x8x3072 : Shape := ⟨3, ![2048, 8, 3072]⟩
abbrev S2048x8 : Shape := ⟨2, ![2048, 8]⟩
abbrev S2048x8x1 : Shape := ⟨3, ![2048, 8, 1]⟩
abbrev S2048x8x32 : Shape := ⟨3, ![2048, 8, 32]⟩
abbrev S1x1x32 : Shape := ⟨3, ![1, 1, 32]⟩
abbrev S2048x8x96 : Shape := ⟨3, ![2048, 8, 96]⟩
abbrev S2048x8x128 : Shape := ⟨3, ![2048, 8, 128]⟩

abbrev nBuf : Space → Nat
  | .hbm => 102
  | .vmem => 0
  | .smem => 0
  | _ => 0

abbrev bufTy : (tb : Table) → Fin (tcTables nBuf tb) → BufTy
  | .hbm, ⟨0, _⟩ => ⟨S2048x8x1024, .f32⟩
  | .hbm, ⟨1, _⟩ => ⟨S2048x8x1024, .f32⟩
  | .hbm, ⟨2, _⟩ => ⟨S2048x8x1024, .f32⟩
  | .hbm, ⟨3, _⟩ => ⟨S2048x8x1024, .f32⟩
  | .hbm, ⟨4, _⟩ => ⟨S2048x8x9728, .f32⟩
  | .hbm, ⟨5, _⟩ => ⟨S1x8x6144, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024, .f32⟩
  | .hbm, ⟨13, _⟩ => ⟨S1024x32, .f32⟩
  | .hbm, ⟨14, _⟩ => ⟨S32, .f32⟩
  | .hbm, ⟨15, _⟩ => ⟨S1x8x1024, .f32⟩
  | .hbm, ⟨16, _⟩ => ⟨S1x8x1024, .f32⟩
  | .hbm, ⟨17, _⟩ => ⟨S1x8x1024, .f32⟩
  | .hbm, ⟨18, _⟩ => ⟨S2048x8x1024, .f32⟩
  | .hbm, ⟨19, _⟩ => ⟨S2048x8x1024, .f32⟩
  | .hbm, ⟨20, _⟩ => ⟨S_, .f32⟩
  | .hbm, ⟨21, _⟩ => ⟨S2048x8x1024, .f32⟩
  | .hbm, ⟨22, _⟩ => ⟨S2048x8x1024, .f32⟩
  | .hbm, ⟨23, _⟩ => ⟨S2048x8x1024, .f32⟩
  | .hbm, ⟨24, _⟩ => ⟨S_, .f32⟩
  | .hbm, ⟨25, _⟩ => ⟨S2048x8x1024, .f32⟩
  | .hbm, ⟨26, _⟩ => ⟨S2048x8x1024, .f32⟩
  | .hbm, ⟨27, _⟩ => ⟨S2048x8x1024, .f32⟩
  | .hbm, ⟨28, _⟩ => ⟨S_, .f32⟩
  | .hbm, ⟨29, _⟩ => ⟨S2048x8x1024, .f32⟩
  | .hbm, ⟨30, _⟩ => ⟨S2048x8x1024, .f32⟩
  | .hbm, ⟨31, _⟩ => ⟨S_, .f32⟩
  | .hbm, ⟨32, _⟩ => ⟨S2048x8x1024, .f32⟩
  | .hbm, ⟨33, _⟩ => ⟨S2048x8x1024, .f32⟩
  | .hbm, ⟨34, _⟩ => ⟨S2048x8x1024, .f32⟩
  | .hbm, ⟨35, _⟩ => ⟨S2048x8x1024, .f32⟩
  | .hbm, ⟨36, _⟩ => ⟨S1x1x1024, .f32⟩
  | .hbm, ⟨37, _⟩ => ⟨S2048x8x1024, .f32⟩
  | .hbm, ⟨38, _⟩ => ⟨S2048x8x1024, .f32⟩
  | .hbm, ⟨39, _⟩ => ⟨S2048x8x1024, .f32⟩
  | .hbm, ⟨40, _⟩ => ⟨S2048x8x1024, .f32⟩
  | .hbm, ⟨41, _⟩ => ⟨S_, .f32⟩
  | .hbm, ⟨42, _⟩ => ⟨S2048x8x1024, .f32⟩
  | .hbm, ⟨43, _⟩ => ⟨S2048x8x1024, .f32⟩
  | .hbm, ⟨44, _⟩ => ⟨S_, .f32⟩
  | .hbm, ⟨45, _⟩ => ⟨S2048x8x1024, .f32⟩
  | .hbm, ⟨46, _⟩ => ⟨S2048x8x1024, .f32⟩
  | .hbm, ⟨47, _⟩ => ⟨S2048x8x1024, .f32⟩
  | .hbm, ⟨48, _⟩ => ⟨S2048x8x3072, .f32⟩
  | .hbm, ⟨49, _⟩ => ⟨S2048x8x3072, .f32⟩
  | .hbm, ⟨50, _⟩ => ⟨S2048x8x3072, .f32⟩
  | .hbm, ⟨51, _⟩ => ⟨S_, .f32⟩
  | .hbm, ⟨52, _⟩ => ⟨S2048x8x3072, .f32⟩
  | .hbm, ⟨53, _⟩ => ⟨S2048x8x3072, .f32⟩
  | .hbm, ⟨54, _⟩ => ⟨S_, .f32⟩
  | .hbm, ⟨55, _⟩ => ⟨S2048x8x3072, .f32⟩
  | .hbm, ⟨56, _⟩ => ⟨S2048x8x3072, .f32⟩
  | .hbm, ⟨57, _⟩ => ⟨S2048x8x1024, .f32⟩
  | .hbm, ⟨58, _⟩ => ⟨S2048x8x1024, .f32⟩
  | .hbm, ⟨59, _⟩ => ⟨S2048x8x1024, .f32⟩
  | .hbm, ⟨60, _⟩ => ⟨S2048x8x1024, .f32⟩
  | .hbm, ⟨61, _⟩ => ⟨S2048x8x1024, .f32⟩
  | .hbm, ⟨62, _⟩ => ⟨S2048x8x1024, .f32⟩
  | .hbm, ⟨63, _⟩ => ⟨S2048x8x1024, .f32⟩
  | .hbm, ⟨64, _⟩ => ⟨S2048x8x1024, .f32⟩
  | .hbm, ⟨65, _⟩ => ⟨S2048x8x1024, .f32⟩
  | .hbm, ⟨66, _⟩ => ⟨S2048x8x1024, .f32⟩
  | .hbm, ⟨67, _⟩ => ⟨S2048x8x1024, .f32⟩
  | .hbm, ⟨68, _⟩ => ⟨S2048x8x1024, .f32⟩
  | .hbm, ⟨69, _⟩ => ⟨S2048x8x1024, .f32⟩
  | .hbm, ⟨70, _⟩ => ⟨S2048x8x1024, .f32⟩
  | .hbm, ⟨71, _⟩ => ⟨S2048x8x1024, .f32⟩
  | .hbm, ⟨72, _⟩ => ⟨S2048x8x1024, .f32⟩
  | .hbm, ⟨73, _⟩ => ⟨S_, .f32⟩
  | .hbm, ⟨74, _⟩ => ⟨S2048x8, .f32⟩
  | .hbm, ⟨75, _⟩ => ⟨S2048x8x1, .f32⟩
  | .hbm, ⟨76, _⟩ => ⟨S_, .f32⟩
  | .hbm, ⟨77, _⟩ => ⟨S2048x8x1, .f32⟩
  | .hbm, ⟨78, _⟩ => ⟨S2048x8x1, .f32⟩
  | .hbm, ⟨79, _⟩ => ⟨S_, .f32⟩
  | .hbm, ⟨80, _⟩ => ⟨S2048x8x1, .f32⟩
  | .hbm, ⟨81, _⟩ => ⟨S2048x8x1, .f32⟩
  | .hbm, ⟨82, _⟩ => ⟨S2048x8x1, .f32⟩
  | .hbm, ⟨83, _⟩ => ⟨S2048x8x1024, .f32⟩
  | .hbm, ⟨84, _⟩ => ⟨S2048x8x1024, .f32⟩
  | .hbm, ⟨85, _⟩ => ⟨S1x1x1024, .f32⟩
  | .hbm, ⟨86, _⟩ => ⟨S2048x8x1024, .f32⟩
  | .hbm, ⟨87, _⟩ => ⟨S2048x8x1024, .f32⟩
  | .hbm, ⟨88, _⟩ => ⟨S_, .f32⟩
  | .hbm, ⟨89, _⟩ => ⟨S1x8x1024, .f32⟩
  | .hbm, ⟨90, _⟩ => ⟨S1x8x1024, .f32⟩
  | .hbm, ⟨91, _⟩ => ⟨S2048x8x1024, .f32⟩
  | .hbm, ⟨92, _⟩ => ⟨S2048x8x1024, .f32⟩
  | .hbm, ⟨93, _⟩ => ⟨S2048x8x1024, .f32⟩
  | .hbm, ⟨94, _⟩ => ⟨S2048x8x1024, .f32⟩
  | .hbm, ⟨95, _⟩ => ⟨S2048x8x32, .f32⟩
  | .hbm, ⟨96, _⟩ => ⟨S1x1x32, .f32⟩
  | .hbm, ⟨97, _⟩ => ⟨S2048x8x32, .f32⟩
  | .hbm, ⟨98, _⟩ => ⟨S2048x8x32, .f32⟩
  | .hbm, ⟨99, _⟩ => ⟨S_, .f32⟩
  | .hbm, ⟨100, _⟩ => ⟨S2048x8x96, .f32⟩
  | .hbm, ⟨101, _⟩ => ⟨S2048x8x128, .f32⟩
  | _, _ => ⟨S2048x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_10 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_11 : Ref sig .tc := ⟨.hbm, 99, rfl⟩
abbrev main_v72 : Ref sig .tc := ⟨.hbm, 100, rfl⟩
abbrev main_v73 : Ref sig .tc := ⟨.hbm, 101, rfl⟩

abbrev nD : Nat := 1
abbrev τ : Topo := Topo.v7x

variable {F : FTy → Type} [FloatOps F]
-- ==== Kernel5.lean ====
abbrev S2048x8x9728 : Shape := ⟨3, ![2048, 8, 9728]⟩
abbrev S8x64x64 : Shape := ⟨3, ![8, 64, 64]⟩
abbrev S256x64 : Shape := ⟨2, ![256, 64]⟩
abbrev S4x64x64x16 : Shape := ⟨4, ![4, 64, 64, 16]⟩
abbrev S4x64x16x64 : Shape := ⟨4, ![4, 64, 16, 64]⟩
abbrev S4x64x16 : Shape := ⟨3, ![4, 64, 16]⟩
abbrev S4x64x64 : Shape := ⟨3, ![4, 64, 64]⟩
abbrev S4x64x64x1 : Shape := ⟨4, ![4, 64, 64, 1]⟩
abbrev S64x64 : Shape := ⟨2, ![64, 64]⟩
abbrev S1x4096 : Shape := ⟨2, ![1, 4096]⟩
abbrev S1x64x64x16 : Shape := ⟨4, ![1, 64, 64, 16]⟩
abbrev S64x64x16 : Shape := ⟨3, ![64, 64, 16]⟩
abbrev S64x16x64 : Shape := ⟨3, ![64, 16, 64]⟩
abbrev S8x8x16x64 : Shape := ⟨4, ![8, 8, 16, 64]⟩
abbrev S8x8 : Shape := ⟨2, ![8, 8]⟩
abbrev S_ : Shape := ⟨0, ![]⟩
abbrev S8x8x16x1x64 : Shape := ⟨5, ![8, 8, 16, 1, 64]⟩
abbrev S8x1x8x1 : Shape := ⟨4, ![8, 1, 8, 1]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S1x64x16x64 : Shape := ⟨4, ![1, 64, 16, 64]⟩
abbrev S8x8x64x16 : Shape := ⟨4, ![8, 8, 64, 16]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S1x64x16 : Shape := ⟨3, ![1, 64, 16]⟩
abbrev S64x16 : Shape := ⟨2, ![64, 16]⟩
abbrev S1x1024 : Shape := ⟨2, ![1, 1024]⟩
abbrev S8x4096 : Shape := ⟨2, ![8, 4096]⟩
abbrev S2048x8x1024 : Shape := ⟨3, ![2048, 8, 1024]⟩
abbrev S128x8x128 : Shape := ⟨3, ![128, 8, 128]⟩
abbrev S1x128x512 : Shape := ⟨3, ![1, 128, 512]⟩
abbrev S1x512 : Shape := ⟨2, ![1, 512]⟩
abbrev S1x512x128 : Shape := ⟨3, ![1, 512, 128]⟩
abbrev S1x128 : Shape := ⟨2, ![1, 128]⟩
abbrev S8x512 : Shape := ⟨2, ![8, 512]⟩
abbrev S128x8x512 : Shape := ⟨3, ![128, 8, 512]⟩
abbrev S1024x128 : Shape := ⟨2, ![1024, 128]⟩
abbrev S128x512 : Shape := ⟨2, ![128, 512]⟩
abbrev S1024x512 : Shape := ⟨2, ![1024, 512]⟩
abbrev S1x8x512 : Shape := ⟨3, ![1, 8, 512]⟩
abbrev S512x128 : Shape := ⟨2, ![512, 128]⟩

abbrev nBuf : Space → Nat
  | .hbm => 114
  | .vmem => 28
  | .smem => 0
  | _ => 0

abbrev bufTy : (tb : Table) → Fin (tcTables nBuf tb) → BufTy
  | .hbm, ⟨0, _⟩ => ⟨S2048x8x9728, .f32⟩
  | .hbm, ⟨1, _⟩ => ⟨S8x64x64, .f32⟩
  | .hbm, ⟨2, _⟩ => ⟨S8x64x64, .f32⟩
  | .hbm, ⟨3, _⟩ => ⟨S256x64, .f32⟩
  | .hbm, ⟨4, _⟩ => ⟨S256x64, .f32⟩
  | .hbm, ⟨5, _⟩ => ⟨S256x64, .f32⟩
  | .hbm, ⟨6, _⟩ => ⟨S256x64, .f32⟩
  | .hbm, ⟨7, _⟩ => ⟨S4x64x64x16, .f32⟩
  | .hbm, ⟨8, _⟩ => ⟨S4x64x64x16, .f32⟩
  | .hbm, ⟨9, _⟩ => ⟨S4x64x16x64, .f32⟩
  | .hbm, ⟨10, _⟩ => ⟨S4x64x16x64, .f32⟩
  | .hbm, ⟨11, _⟩ => ⟨S4x64x16, .f32⟩
  | .hbm, ⟨12, _⟩ => ⟨S4x64x64, .f32⟩
  | .hbm, ⟨13, _⟩ => ⟨S4x64x64x1, .f32⟩
  | .hbm, ⟨14, _⟩ => ⟨S4x64x64, .f32⟩
  | .hbm, ⟨15, _⟩ => ⟨S4x64x64x1, .f32⟩
  | .hbm, ⟨16, _⟩ => ⟨S4x64x64x16, .f32⟩
  | .hbm, ⟨17, _⟩ => ⟨S4x64x64x16, .f32⟩
  | .hbm, ⟨18, _⟩ => ⟨S4x64x64x16, .f32⟩
  | .hbm, ⟨19, _⟩ => ⟨S4x64x64x16, .f32⟩
  | .hbm, ⟨20, _⟩ => ⟨S4x64x64x16, .f32⟩
  | .hbm, ⟨21, _⟩ => ⟨S4x64x64x16, .f32⟩
  | .hbm, ⟨22, _⟩ => ⟨S4x64x64x16, .f32⟩
  | .hbm, ⟨23, _⟩ => ⟨S4x64x64x16, .f32⟩
  | .hbm, ⟨24, _⟩ => ⟨S4x64x64x16, .f32⟩
  | .hbm, ⟨25, _⟩ => ⟨S4x64x64x16, .f32⟩
  | .hbm, ⟨26, _⟩ => ⟨S64x64, .f32⟩
  | .hbm, ⟨27, _⟩ => ⟨S1x4096, .f32⟩
  | .hbm, ⟨28, _⟩ => ⟨S64x64, .f32⟩
  | .hbm, ⟨29, _⟩ => ⟨S1x4096, .f32⟩
  | .hbm, ⟨30, _⟩ => ⟨S1x64x64x16, .f32⟩
  | .hbm, ⟨31, _⟩ => ⟨S64x64x16, .f32⟩
  | .hbm, ⟨32, _⟩ => ⟨S64x16x64, .f32⟩
  | .hbm, ⟨33, _⟩ => ⟨S8x8x16x64, .f32⟩
  | .hbm, ⟨34, _⟩ => ⟨S8x8, .i32⟩
  | .hbm, ⟨35, _⟩ => ⟨S8x8, .i32⟩
  | .hbm, ⟨36, _⟩ => ⟨S_, .i32⟩
  | .hbm, ⟨37, _⟩ => ⟨S8x8, .i32⟩
  | .hbm, ⟨38, _⟩ => ⟨S8x8, .i32⟩
  | .hbm, ⟨39, _⟩ => ⟨S8x8, .i1⟩
  | .hbm, ⟨40, _⟩ => ⟨S8x8, .f32⟩
  | .hbm, ⟨41, _⟩ => ⟨S8x8x16x1x64, .f32⟩
  | .hbm, ⟨42, _⟩ => ⟨S8x1x8x1, .f32⟩
  | .hbm, ⟨43, _⟩ => ⟨S1x8x1x8x1, .f32⟩
  | .hbm, ⟨44, _⟩ => ⟨S8x8x16x8x64, .f32⟩
  | .hbm, ⟨45, _⟩ => ⟨S8x8x16x8x64, .f32⟩
  | .hbm, ⟨46, _⟩ => ⟨S8x8x16x8x64, .f32⟩
  | .hbm, ⟨47, _⟩ => ⟨S8x128x512, .f32⟩
  | .hbm, ⟨48, _⟩ => ⟨S8x128x512, .bf16⟩
  | .hbm, ⟨49, _⟩ => ⟨S1x64x64x16, .f32⟩
  | .hbm, ⟨50, _⟩ => ⟨S64x64x16, .f32⟩
  | .hbm, ⟨51, _⟩ => ⟨S64x16x64, .f32⟩
  | .hbm, ⟨52, _⟩ => ⟨S8x8x16x64, .f32⟩
  | .hbm, ⟨53, _⟩ => ⟨S8x8, .i32⟩
  | .hbm, ⟨54, _⟩ => ⟨S8x8, .i32⟩
  | .hbm, ⟨55, _⟩ => ⟨S_, .i32⟩
  | .hbm, ⟨56, _⟩ => ⟨S8x8, .i32⟩
  | .hbm, ⟨57, _⟩ => ⟨S8x8, .i32⟩
  | .hbm, ⟨58, _⟩ => ⟨S8x8, .i1⟩
  | .hbm, ⟨59, _⟩ => ⟨S8x8, .f32⟩
  | .hbm, ⟨60, _⟩ => ⟨S8x8x16x1x64, .f32⟩
  | .hbm, ⟨61, _⟩ => ⟨S8x1x8x1, .f32⟩
  | .hbm, ⟨62, _⟩ => ⟨S1x8x1x8x1, .f32⟩
  | .hbm, ⟨63, _⟩ => ⟨S8x8x16x8x64, .f32⟩
  | .hbm, ⟨64, _⟩ => ⟨S8x8x16x8x64, .f32⟩
  | .hbm, ⟨65, _⟩ => ⟨S8x8x16x8x64, .f32⟩
  | .hbm, ⟨66, _⟩ => ⟨S8x128x512, .f32⟩
  | .hbm, ⟨67, _⟩ => ⟨S8x128x512, .bf16⟩
  | .hbm, ⟨68, _⟩ => ⟨S1x64x16x64, .f32⟩
  | .hbm, ⟨69, _⟩ => ⟨S64x16x64, .f32⟩
  | .hbm, ⟨70, _⟩ => ⟨S64x64x16, .f32⟩
  | .hbm, ⟨71, _⟩ => ⟨S8x8x64x16, .f32⟩
  | .hbm, ⟨72, _⟩ => ⟨S8x8, .i32⟩
  | .hbm, ⟨73, _⟩ => ⟨S8x8, .i32⟩
  | .hbm, ⟨74, _⟩ => ⟨S_, .i32⟩
  | .hbm, ⟨75, _⟩ => ⟨S8x8, .i32⟩
  | .hbm, ⟨76, _⟩ => ⟨S8x8, .i32⟩
  | .hbm, ⟨77, _⟩ => ⟨S8x8, .i1⟩
  | .hbm, ⟨78, _⟩ => ⟨S8x8, .f32⟩
  | .hbm, ⟨79, _⟩ => ⟨S8x8x64x1x16, .f32⟩
  | .hbm, ⟨80, _⟩ => ⟨S8x1x8x1, .f32⟩
  | .hbm, ⟨81, _⟩ => ⟨S1x8x1x8x1, .f32⟩
  | .hbm, ⟨82, _⟩ => ⟨S8x8x64x8x16, .f32⟩
  | .hbm, ⟨83, _⟩ => ⟨S8x8x64x8x16, .f32⟩
  | .hbm, ⟨84, _⟩ => ⟨S8x8x64x8x16, .f32⟩
  | .hbm, ⟨85, _⟩ => ⟨S8x512x128, .f32⟩
  | .hbm, ⟨86, _⟩ => ⟨S8x512x128, .bf16⟩
  | .hbm, ⟨87, _⟩ => ⟨S1x64x16x64, .f32⟩
  | .hbm, ⟨88, _⟩ => ⟨S64x16x64, .f32⟩
  | .hbm, ⟨89, _⟩ => ⟨S64x64x16, .f32⟩
  | .hbm, ⟨90, _⟩ => ⟨S8x8x64x16, .f32⟩
  | .hbm, ⟨91, _⟩ => ⟨S8x8, .i32⟩
  | .hbm, ⟨92, _⟩ => ⟨S8x8, .i32⟩
  | .hbm, ⟨93, _⟩ => ⟨S_, .i32⟩
  | .hbm, ⟨94, _⟩ => ⟨S8x8, .i32⟩
  | .hbm, ⟨95, _⟩ => ⟨S8x8, .i32⟩
  | .hbm, ⟨96, _⟩ => ⟨S8x8, .i1⟩
  | .hbm, ⟨97, _⟩ => ⟨S8x8, .f32⟩
  | .hbm, ⟨98, _⟩ => ⟨S8x8x64x1x16, .f32⟩
  | .hbm, ⟨99, _⟩ => ⟨S8x1x8x1, .f32⟩
  | .hbm, ⟨100, _⟩ => ⟨S1x8x1x8x1, .f32⟩
  | .hbm, ⟨101, _⟩ => ⟨S8x8x64x8x16, .f32⟩
  | .hbm, ⟨102, _⟩ => ⟨S8x8x64x8x16, .f32⟩
  | .hbm, ⟨103, _⟩ => ⟨S8x8x64x8x16, .f32⟩
  | .hbm, ⟨104, _⟩ => ⟨S8x512x128, .f32⟩
  | .hbm, ⟨105, _⟩ => ⟨S8x512x128, .bf16⟩
  | .hbm, ⟨106, _⟩ => ⟨S1x64x16, .f32⟩
  | .hbm, ⟨107, _⟩ => ⟨S64x16, .f32⟩
  | .hbm, ⟨108, _⟩ => ⟨S1x1024, .f32⟩
  | .hbm, ⟨109, _⟩ => ⟨S8x4096, .f32⟩
  | .hbm, ⟨110, _⟩ => ⟨S8x4096, .f32⟩
  | .hbm, ⟨111, _⟩ => ⟨S2048x8x1024, .f32⟩
  | .hbm, ⟨112, _⟩ => ⟨S8x4096, .f32⟩
  | .hbm, ⟨113, _⟩ => ⟨S8x4096, .f32⟩
  | .local _ .vmem, ⟨0, _⟩ => ⟨S128x8x128, .f32⟩
  | .local _ .vmem, ⟨1, _⟩ => ⟨S128x8x128, .f32⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512x128, .bf16⟩
  | .local _ .vmem, ⟨11, _⟩ => ⟨S1x512x128, .bf16⟩
  | .local _ .vmem, ⟨12, _⟩ => ⟨S1x512x128, .bf16⟩
  | .local _ .vmem, ⟨13, _⟩ => ⟨S1x512x128, .bf16⟩
  | .local _ .vmem, ⟨14, _⟩ => ⟨S1x128, .f32⟩
  | .local _ .vmem, ⟨15, _⟩ => ⟨S1x128, .f32⟩
  | .local _ .vmem, ⟨16, _⟩ => ⟨S8x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S128x8x128, .f32⟩
  | .local _ .vmem, ⟨21, _⟩ => ⟨S128x8x128, .f32⟩
  | .local _ .vmem, ⟨22, _⟩ => ⟨S8x512, .f32⟩
  | .local _ .vmem, ⟨23, _⟩ => ⟨S8x512, .f32⟩
  | .local _ .vmem, ⟨24, _⟩ => ⟨S8x512, .f32⟩
  | .local _ .vmem, ⟨25, _⟩ => ⟨S8x512, .f32⟩
  | .local _ .vmem, ⟨26, _⟩ => ⟨S128x8x512, .f32⟩
  | .local _ .vmem, ⟨27, _⟩ => ⟨S128x8x512, .f32⟩
  | _, _ => ⟨S2048x8x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_0 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_c_1 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_c_2 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95_0 : Ref sig .tc := ⟨.hbm, 111, rfl⟩
abbrev main_v95_1 : Ref sig .tc := ⟨.hbm, 112, rfl⟩
abbrev main_v95_2 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![1, 8, 16], ![false, false, false]⟩

@[reducible] def k0_t1_loop : Scf.Loop 32 :=
  let c0_i32_24 : BitVec 32 := 0#32
  let c128_i32 : BitVec 32 := 128#32
  let v32 : BitVec 32 := Scalar.addi c0_i32_24 c128_i32
  let c1_i32 : BitVec 32 := 1#32
  ⟨c0_i32_24, v32, c1_i32⟩
def k0_off1 (k0_t1 : Fin k0_t1_loop.trips) : Fin 3 → Nat :=
  let c0_i32_24 : BitVec 32 := 0#32
  let c1_i32 : BitVec 32 := 1#32
  let arg18 : BitVec 32 := Scf.iv c0_i32_24 c1_i32 k0_t1
  let v59 : Index := Scalar.indexCast arg18
  let c0_49 : Index := 0#32
  let c0_50 : Index := 0#32
  ![v59.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S128x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S128x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== Reference5Ideal.lean ====
abbrev S2048x8x9728 : Shape := ⟨3, ![2048, 8, 9728]⟩
abbrev S8x64x64 : Shape := ⟨3, ![8, 64, 64]⟩
abbrev S256x64 : Shape := ⟨2, ![256, 64]⟩
abbrev S4x64x64x16 : Shape := ⟨4, ![4, 64, 64, 16]⟩
abbrev S4x64x16x64 : Shape := ⟨4, ![4, 64, 16, 64]⟩
abbrev S4x64x16 : Shape := ⟨3, ![4, 64, 16]⟩
abbrev S64x64 : Shape := ⟨2, ![64, 64]⟩
abbrev S64x64x1 : Shape := ⟨3, ![64, 64, 1]⟩
abbrev S1x64x64x16 : Shape := ⟨4, ![1, 64, 64, 16]⟩
abbrev S64x64x16 : Shape := ⟨3, ![64, 64, 16]⟩
abbrev S2048x8x1024 : Shape := ⟨3, ![2048, 8, 1024]⟩
abbrev S2048x8x64x16 : Shape := ⟨4, ![2048, 8, 64, 16]⟩
abbrev S64x64x2048x8 : Shape := ⟨4, ![64, 64, 2048, 8]⟩
abbrev S2048x8x64x64 : Shape := ⟨4, ![2048, 8, 64, 64]⟩
abbrev S_ : Shape := ⟨0, ![]⟩
abbrev S1x8x64x64 : Shape := ⟨4, ![1, 8, 64, 64]⟩
abbrev S1x64x64 : Shape := ⟨3, ![1, 64, 64]⟩
abbrev S1x64x16x64 : Shape := ⟨4, ![1, 64, 16, 64]⟩
abbrev S64x16x64 : Shape := ⟨3, ![64, 16, 64]⟩
abbrev S64x2048x8x16 : Shape := ⟨4, ![64, 2048, 8, 16]⟩
abbrev S1x64x16 : Shape := ⟨3, ![1, 64, 16]⟩
abbrev S64x16 : Shape := ⟨2, ![64, 16]⟩
abbrev S1x1x64x16 : Shape := ⟨4, ![1, 1, 64, 16]⟩
abbrev S8x4096 : Shape := ⟨2, ![8, 4096]⟩

abbrev nBuf : Space → Nat
  | .hbm => 116
  | .vmem => 0
  | .smem => 0
  | _ => 0

abbrev bufTy : (tb : Table) → Fin (tcTables nBuf tb) → BufTy
  | .hbm, ⟨0, _⟩ => ⟨S2048x8x9728, .f32⟩
  | .hbm, ⟨1, _⟩ => ⟨S8x64x64, .f32⟩
  | .hbm, ⟨2, _⟩ => ⟨S8x64x64, .f32⟩
  | .hbm, ⟨3, _⟩ => ⟨S256x64, .f32⟩
  | .hbm, ⟨4, _⟩ => ⟨S256x64, .f32⟩
  | .hbm, ⟨5, _⟩ => ⟨S256x64, .f32⟩
  | .hbm, ⟨6, _⟩ => ⟨S256x64, .f32⟩
  | .hbm, ⟨7, _⟩ => ⟨S4x64x64x16, .f32⟩
  | .hbm, ⟨8, _⟩ => ⟨S4x64x64x16, .f32⟩
  | .hbm, ⟨9, _⟩ => ⟨S4x64x16x64, .f32⟩
  | .hbm, ⟨10, _⟩ => ⟨S4x64x16x64, .f32⟩
  | .hbm, ⟨11, _⟩ => ⟨S4x64x16, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64x1, .f32⟩
  | .hbm, ⟨16, _⟩ => ⟨S64x64, .f32⟩
  | .hbm, ⟨17, _⟩ => ⟨S64x64x1, .f32⟩
  | .hbm, ⟨18, _⟩ => ⟨S1x64x64x16, .f32⟩
  | .hbm, ⟨19, _⟩ => ⟨S64x64x16, .f32⟩
  | .hbm, ⟨20, _⟩ => ⟨S64x64x16, .f32⟩
  | .hbm, ⟨21, _⟩ => ⟨S64x64x16, .f32⟩
  | .hbm, ⟨22, _⟩ => ⟨S1x64x64x16, .f32⟩
  | .hbm, ⟨23, _⟩ => ⟨S64x64x16, .f32⟩
  | .hbm, ⟨24, _⟩ => ⟨S64x64x16, .f32⟩
  | .hbm, ⟨25, _⟩ => ⟨S64x64x16, .f32⟩
  | .hbm, ⟨26, _⟩ => ⟨S64x64x16, .f32⟩
  | .hbm, ⟨27, _⟩ => ⟨S1x64x64x16, .f32⟩
  | .hbm, ⟨28, _⟩ => ⟨S64x64x16, .f32⟩
  | .hbm, ⟨29, _⟩ => ⟨S64x64x16, .f32⟩
  | .hbm, ⟨30, _⟩ => ⟨S64x64x16, .f32⟩
  | .hbm, ⟨31, _⟩ => ⟨S1x64x64x16, .f32⟩
  | .hbm, ⟨32, _⟩ => ⟨S64x64x16, .f32⟩
  | .hbm, ⟨33, _⟩ => ⟨S64x64x16, .f32⟩
  | .hbm, ⟨34, _⟩ => ⟨S64x64x16, .f32⟩
  | .hbm, ⟨35, _⟩ => ⟨S64x64x16, .f32⟩
  | .hbm, ⟨36, _⟩ => ⟨S2048x8x1024, .f32⟩
  | .hbm, ⟨37, _⟩ => ⟨S2048x8x64x16, .f32⟩
  | .hbm, ⟨38, _⟩ => ⟨S64x64x2048x8, .f32⟩
  | .hbm, ⟨39, _⟩ => ⟨S2048x8x64x64, .f32⟩
  | .hbm, ⟨40, _⟩ => ⟨S64x64x2048x8, .f32⟩
  | .hbm, ⟨41, _⟩ => ⟨S2048x8x64x64, .f32⟩
  | .hbm, ⟨42, _⟩ => ⟨S_, .f32⟩
  | .hbm, ⟨43, _⟩ => ⟨S2048x8x64x64, .f32⟩
  | .hbm, ⟨44, _⟩ => ⟨S_, .f32⟩
  | .hbm, ⟨45, _⟩ => ⟨S2048x8x64x64, .f32⟩
  | .hbm, ⟨46, _⟩ => ⟨S_, .i32⟩
  | .hbm, ⟨47, _⟩ => ⟨S2048x8x64x64, .f32⟩
  | .hbm, ⟨48, _⟩ => ⟨S2048x8x64x64, .f32⟩
  | .hbm, ⟨49, _⟩ => ⟨S64x64, .f32⟩
  | .hbm, ⟨50, _⟩ => ⟨S64x64, .f32⟩
  | .hbm, ⟨51, _⟩ => ⟨S_, .i32⟩
  | .hbm, ⟨52, _⟩ => ⟨S8x64x64, .f32⟩
  | .hbm, ⟨53, _⟩ => ⟨S8x64x64, .f32⟩
  | .hbm, ⟨54, _⟩ => ⟨S2048x8x64x64, .f32⟩
  | .hbm, ⟨55, _⟩ => ⟨S2048x8x64x64, .f32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x8x64x64, .f32⟩
  | .hbm, ⟨62, _⟩ => ⟨S8x64x64, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S1x8x64x64, .f32⟩
  | .hbm, ⟨67, _⟩ => ⟨S8x64x64, .f32⟩
  | .hbm, ⟨68, _⟩ => ⟨S1x64x64, .f32⟩
  | .hbm, ⟨69, _⟩ => ⟨S8x64x64, .f32⟩
  | .hbm, ⟨70, _⟩ => ⟨S8x64x64, .f32⟩
  | .hbm, ⟨71, _⟩ => ⟨S1x64x64, .f32⟩
  | .hbm, ⟨72, _⟩ => ⟨S8x64x64, .f32⟩
  | .hbm, ⟨73, _⟩ => ⟨S8x64x64, .f32⟩
  | .hbm, ⟨74, _⟩ => ⟨S8x64x64, .f32⟩
  | .hbm, ⟨75, _⟩ => ⟨S8x64x64, .f32⟩
  | .hbm, ⟨76, _⟩ => ⟨S1x64x64, .f32⟩
  | .hbm, ⟨77, _⟩ => ⟨S8x64x64, .f32⟩
  | .hbm, ⟨78, _⟩ => ⟨S8x64x64, .f32⟩
  | .hbm, ⟨79, _⟩ => ⟨S1x64x64, .f32⟩
  | .hbm, ⟨80, _⟩ => ⟨S8x64x64, .f32⟩
  | .hbm, ⟨81, _⟩ => ⟨S8x64x64, .f32⟩
  | .hbm, ⟨82, _⟩ => ⟨S8x64x64, .f32⟩
  | .hbm, ⟨83, _⟩ => ⟨S8x64x64, .f32⟩
  | .hbm, ⟨84, _⟩ => ⟨S1x8x64x64, .f32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S2048x8x64x64, .f32⟩
  | .hbm, ⟨89, _⟩ => ⟨S1x8x64x64, .f32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S2048x8x64x64, .f32⟩
  | .hbm, ⟨94, _⟩ => ⟨S_, .i32⟩
  | .hbm, ⟨95, _⟩ => ⟨S_, .i32⟩
  | .hbm, ⟨96, _⟩ => ⟨S1x64x16x64, .f32⟩
  | .hbm, ⟨97, _⟩ => ⟨S64x16x64, .f32⟩
  | .hbm, ⟨98, _⟩ => ⟨S64x2048x8x16, .f32⟩
  | .hbm, ⟨99, _⟩ => ⟨S2048x8x64x16, .f32⟩
  | .hbm, ⟨100, _⟩ => ⟨S1x64x16x64, .f32⟩
  | .hbm, ⟨101, _⟩ => ⟨S64x16x64, .f32⟩
  | .hbm, ⟨102, _⟩ => ⟨S64x2048x8x16, .f32⟩
  | .hbm, ⟨103, _⟩ => ⟨S2048x8x64x16, .f32⟩
  | .hbm, ⟨104, _⟩ => ⟨S2048x8x64x16, .f32⟩
  | .hbm, ⟨105, _⟩ => ⟨S1x64x16, .f32⟩
  | .hbm, ⟨106, _⟩ => ⟨S64x16, .f32⟩
  | .hbm, ⟨107, _⟩ => ⟨S2048x8x1024, .f32⟩
  | .hbm, ⟨108, _⟩ => ⟨S2048x8x64x16, .f32⟩
  | .hbm, ⟨109, _⟩ => ⟨S1x1x64x16, .f32⟩
  | .hbm, ⟨110, _⟩ => ⟨S2048x8x64x16, .f32⟩
  | .hbm, ⟨111, _⟩ => ⟨S2048x8x64x16, .f32⟩
  | .hbm, ⟨112, _⟩ => ⟨S2048x8x64x16, .f32⟩
  | .hbm, ⟨113, _⟩ => ⟨S2048x8x1024, .f32⟩
  | .hbm, ⟨114, _⟩ => ⟨S8x4096, .f32⟩
  | .hbm, ⟨115, _⟩ => ⟨S8x4096, .f32⟩
  | _, _ => ⟨S2048x8x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_cst_0 : Ref sig .tc := ⟨.hbm, 44, rfl⟩
abbrev main_v31 : Ref sig .tc := ⟨.hbm, 45, rfl⟩
abbrev main_c : Ref sig .tc := ⟨.hbm, 46, rfl⟩
abbrev main_v32_0 : Ref sig .tc := ⟨.hbm, 47, rfl⟩
abbrev main_v32_1 : Ref sig .tc := ⟨.hbm, 48, rfl⟩
abbrev main_v32_2 : Ref sig .tc := ⟨.hbm, 49, rfl⟩
abbrev main_v32_3 : Ref sig .tc := ⟨.hbm, 50, rfl⟩
abbrev main_v32_4 : Ref sig .tc := ⟨.hbm, 51, rfl⟩
abbrev main_v32_5 : Ref sig .tc := ⟨.hbm, 52, rfl⟩
abbrev main_v32_6 : Ref sig .tc := ⟨.hbm, 53, rfl⟩
abbrev main_v32_7 : Ref sig .tc := ⟨.hbm, 54, rfl⟩
abbrev main_v32_8 : Ref sig .tc := ⟨.hbm, 55, rfl⟩
abbrev main_while0c_c_9 : Ref sig .tc := ⟨.hbm, 56, rfl⟩
abbrev main_while0c_v53 : Ref sig .tc := ⟨.hbm, 57, rfl⟩
abbrev main_while0b_call0_c : Ref sig .tc := ⟨.hbm, 58, rfl⟩
abbrev main_while0b_call0_c_0 : Ref sig .tc := ⟨.hbm, 59, rfl⟩
abbrev main_while0b_call0_c_1 : Ref sig .tc := ⟨.hbm, 60, rfl⟩
abbrev main_while0b_call0_v0 : Ref sig .tc := ⟨.hbm, 61, rfl⟩
abbrev main_while0b_v53 : Ref sig .tc := ⟨.hbm, 62, rfl⟩
abbrev main_while0b_call1_c : Ref sig .tc := ⟨.hbm, 63, rfl⟩
abbrev main_while0b_call1_c_0 : Ref sig .tc := ⟨.hbm, 64, rfl⟩
abbrev main_while0b_call1_c_1 : Ref sig .tc := ⟨.hbm, 65, rfl⟩
abbrev main_while0b_call1_v0 : Ref sig .tc := ⟨.hbm, 66, rfl⟩
abbrev main_while0b_v54 : Ref sig .tc := ⟨.hbm, 67, rfl⟩
abbrev main_while0b_v55 : Ref sig .tc := ⟨.hbm, 68, rfl⟩
abbrev main_while0b_v56 : Ref sig .tc := ⟨.hbm, 69, rfl⟩
abbrev main_while0b_v57 : Ref sig .tc := ⟨.hbm, 70, rfl⟩
abbrev main_while0b_v58 : Ref sig .tc := ⟨.hbm, 71, rfl⟩
abbrev main_while0b_v59 : Ref sig .tc := ⟨.hbm, 72, rfl⟩
abbrev main_while0b_v60 : Ref sig .tc := ⟨.hbm, 73, rfl⟩
abbrev main_while0b_v61 : Ref sig .tc := ⟨.hbm, 74, rfl⟩
abbrev main_while0b_v62 : Ref sig .tc := ⟨.hbm, 75, rfl⟩
abbrev main_while0b_v63 : Ref sig .tc := ⟨.hbm, 76, rfl⟩
abbrev main_while0b_v64 : Ref sig .tc := ⟨.hbm, 77, rfl⟩
abbrev main_while0b_v65 : Ref sig .tc := ⟨.hbm, 78, rfl⟩
abbrev main_while0b_v66 : Ref sig .tc := ⟨.hbm, 79, rfl⟩
abbrev main_while0b_v67 : Ref sig .tc := ⟨.hbm, 80, rfl⟩
abbrev main_while0b_v68 : Ref sig .tc := ⟨.hbm, 81, rfl⟩
abbrev main_while0b_v69 : Ref sig .tc := ⟨.hbm, 82, rfl⟩
abbrev main_while0b_v70 : Ref sig .tc := ⟨.hbm, 83, rfl⟩
abbrev main_while0b_call2_v0 : Ref sig .tc := ⟨.hbm, 84, rfl⟩
abbrev main_while0b_call2_c : Ref sig .tc := ⟨.hbm, 85, rfl⟩
abbrev main_while0b_call2_c_0 : Ref sig .tc := ⟨.hbm, 86, rfl⟩
abbrev main_while0b_call2_c_1 : Ref sig .tc := ⟨.hbm, 87, rfl⟩
abbrev main_while0b_v71 : Ref sig .tc := ⟨.hbm, 88, rfl⟩
abbrev main_while0b_call3_v0 : Ref sig .tc := ⟨.hbm, 89, rfl⟩
abbrev main_while0b_call3_c : Ref sig .tc := ⟨.hbm, 90, rfl⟩
abbrev main_while0b_call3_c_0 : Ref sig .tc := ⟨.hbm, 91, rfl⟩
abbrev main_while0b_call3_c_1 : Ref sig .tc := ⟨.hbm, 92, rfl⟩
abbrev main_while0b_v72 : Ref sig .tc := ⟨.hbm, 93, rfl⟩
abbrev main_while0b_c_9 : Ref sig .tc := ⟨.hbm, 94, rfl⟩
abbrev main_while0b_v73 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩

abbrev nD : Nat := 1
abbrev τ : Topo := Topo.v7x

variable {F : FTy → Type} [FloatOps F]

abbrev main_while0_count : Scf.Loop 32 := ⟨0#32, 2048#32, 1#32⟩
-- ==== Kernel6.lean ====
abbrev S4x64x64 : Shape := ⟨3, ![4, 64, 64]⟩
abbrev S4x64 : Shape := ⟨2, ![4, 64]⟩
abbrev S256x64 : Shape := ⟨2, ![256, 64]⟩
abbrev S256x1 : Shape := ⟨2, ![256, 1]⟩

abbrev nBuf : Space → Nat
  | .hbm => 10
  | .vmem => 7
  | .smem => 0
  | _ => 0

abbrev bufTy : (tb : Table) → Fin (tcTables nBuf tb) → BufTy
  | .hbm, ⟨0, _⟩ => ⟨S4x64x64, .f32⟩
  | .hbm, ⟨1, _⟩ => ⟨S4x64x64, .f32⟩
  | .hbm, ⟨2, _⟩ => ⟨S4x64, .f32⟩
  | .hbm, ⟨3, _⟩ => ⟨S256x64, .f32⟩
  | .hbm, ⟨4, _⟩ => ⟨S256x64, .f32⟩
  | .hbm, ⟨5, _⟩ => ⟨S256x1, .f32⟩
  | .hbm, ⟨6, _⟩ => ⟨S256x64, .f32⟩
  | .hbm, ⟨7, _⟩ => ⟨S256x64, .f32⟩
  | .hbm, ⟨8, _⟩ => ⟨S256x64, .f32⟩
  | .hbm, ⟨9, _⟩ => ⟨S256x64, .f32⟩
  | .local _ .vmem, ⟨0, _⟩ => ⟨S256x64, .f32⟩
  | .local _ .vmem, ⟨1, _⟩ => ⟨S256x64, .f32⟩
  | .local _ .vmem, ⟨2, _⟩ => ⟨S256x1, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | _, _ => ⟨S4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference6Ideal.lean ====
abbrev S4x64x64 : Shape := ⟨3, ![4, 64, 64]⟩
abbrev S4x64 : Shape := ⟨2, ![4, 64]⟩
abbrev S4x64x1 : Shape := ⟨3, ![4, 64, 1]⟩
abbrev S_ : Shape := ⟨0, ![]⟩
abbrev S256x64 : Shape := ⟨2, ![256, 64]⟩

abbrev nBuf : Space → Nat
  | .hbm => 37
  | .vmem => 0
  | .smem => 0
  | _ => 0

abbrev bufTy : (tb : Table) → Fin (tcTables nBuf tb) → BufTy
  | .hbm, ⟨0, _⟩ => ⟨S4x64x64, .f32⟩
  | .hbm, ⟨1, _⟩ => ⟨S4x64x64, .f32⟩
  | .hbm, ⟨2, _⟩ => ⟨S4x64, .f32⟩
  | .hbm, ⟨3, _⟩ => ⟨S4x64, .f32⟩
  | .hbm, ⟨4, _⟩ => ⟨S4x64x1, .f32⟩
  | .hbm, ⟨5, _⟩ => ⟨S4x64x64, .f32⟩
  | .hbm, ⟨6, _⟩ => ⟨S4x64x64, .f32⟩
  | .hbm, ⟨7, _⟩ => ⟨S4x64x64, .f32⟩
  | .hbm, ⟨8, _⟩ => ⟨S4x64x64, .f32⟩
  | .hbm, ⟨9, _⟩ => ⟨S4x64x64, .f32⟩
  | .hbm, ⟨10, _⟩ => ⟨S4x64x64, .f32⟩
  | .hbm, ⟨11, _⟩ => ⟨S4x64x64, .f32⟩
  | .hbm, ⟨12, _⟩ => ⟨S4x64x64, .f32⟩
  | .hbm, ⟨13, _⟩ => ⟨S4x64x64, .f32⟩
  | .hbm, ⟨14, _⟩ => ⟨S4x64x64, .f32⟩
  | .hbm, ⟨15, _⟩ => ⟨S4x64x64, .f32⟩
  | .hbm, ⟨16, _⟩ => ⟨S4x64x64, .f32⟩
  | .hbm, ⟨17, _⟩ => ⟨S4x64x64, .f32⟩
  | .hbm, ⟨18, _⟩ => ⟨S4x64x64, .f32⟩
  | .hbm, ⟨19, _⟩ => ⟨S_, .f32⟩
  | .hbm, ⟨20, _⟩ => ⟨S4x64x64, .f32⟩
  | .hbm, ⟨21, _⟩ => ⟨S4x64x64, .f32⟩
  | .hbm, ⟨22, _⟩ => ⟨S4x64x64, .f32⟩
  | .hbm, ⟨23, _⟩ => ⟨S4x64x64, .f32⟩
  | .hbm, ⟨24, _⟩ => ⟨S4x64x64, .f32⟩
  | .hbm, ⟨25, _⟩ => ⟨S4x64x64, .f32⟩
  | .hbm, ⟨26, _⟩ => ⟨S4x64x64, .f32⟩
  | .hbm, ⟨27, _⟩ => ⟨S_, .f32⟩
  | .hbm, ⟨28, _⟩ => ⟨S4x64x64, .f32⟩
  | .hbm, ⟨29, _⟩ => ⟨S4x64x64, .f32⟩
  | .hbm, ⟨30, _⟩ => ⟨S4x64x64, .f32⟩
  | .hbm, ⟨31, _⟩ => ⟨S4x64x64, .f32⟩
  | .hbm, ⟨32, _⟩ => ⟨S4x64x64, .f32⟩
  | .hbm, ⟨33, _⟩ => ⟨S256x64, .f32⟩
  | .hbm, ⟨34, _⟩ => ⟨S256x64, .f32⟩
  | .hbm, ⟨35, _⟩ => ⟨S256x64, .f32⟩
  | .hbm, ⟨36, _⟩ => ⟨S256x64, .f32⟩
  | _, _ => ⟨S4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== Proof.Lru.Spec.lean ====
module

public import Idealize.ShloMosaic.Lib.Pipeline.ValueKit
public import Idealize.ShloMosaic.Lib.Pointwise

/-!
# The gated linear recurrence, as plain mathematics

The RG-LRU mixer over the extended reals, at time `t`, batch `b` and channel `d`: a causal convolution of width four
over the previous rows and the block's input, two sigmoid gates from per-head linear maps, a decay
`a = exp (-8 · r · softplus (-λ))`, the recurrence `h ← a·h + sqrt (1 - a²)·(i·x)`, and the output `h · gelu g`.
-/

@[expose] public section

noncomputable section

namespace Cert.Lru

open Idealize.ShloMosaic

/-- The mixer's arguments as plain functions of coordinates. -/
structure Args where
  z : Fin 2048 → Fin 8 → Fin 9728 → EReal
  buf : Fin 8 → Fin 3 → Fin 1024 → EReal
  h0 : Fin 8 → Fin 1024 → EReal
  cw : Fin 4 → Fin 1024 → EReal
  cb : Fin 1024 → EReal
  wa : Fin 8 → Fin 128 → Fin 128 → EReal
  ba : Fin 1024 → EReal
  wx : Fin 8 → Fin 128 → Fin 128 → EReal
  bx : Fin 1024 → EReal
  lam : Fin 1024 → EReal

/-- The recurrence `h (k+1) = a k · h k + b k`. -/
def hrec (a b : ℕ → EReal) (h0 : EReal) : ℕ → EReal
  | 0 => h0
  | k + 1 => a k * hrec a b h0 k + b k

/-- Running on from step `n` is running with the sequences shifted by `n`. -/
theorem hrec_add (a b : ℕ → EReal) (h0 : EReal) (n k : ℕ) :
    hrec a b h0 (n + k) = hrec (fun i => a (n + i)) (fun i => b (n + i)) (hrec a b h0 n) k := by
  induction k with
  | zero => rfl
  | succ k ih =>
    show a (n + k) * hrec a b h0 (n + k) + b (n + k) = _
    rw [ih]; rfl

/-- The recurrence reads only the first `k` entries of its sequences. -/
theorem hrec_congr {a b a' b' : ℕ → EReal} {h0 h0' : EReal} (hh : h0 = h0') (k : ℕ) (ha : ∀ i < k, a i = a' i)
    (hb : ∀ i < k, b i = b' i) : hrec a b h0 k = hrec a' b' h0' k := by
  induction k with
  | zero => exact hh
  | succ k ih =>
    show a k * hrec a b h0 k + b k = a' k * hrec a' b' h0' k + b' k
    rw [ih (fun i hi => ha i (by omega)) (fun i hi => hb i (by omega)), ha k (by omega), hb k (by omega)]

/-- The sigmoid as a quotient. -/
def sigm (x : EReal) : EReal := Ideal.div 1 (1 + Ideal.exp (-x))

/-- The softplus in its two-sided form. -/
def softplus (x : EReal) : EReal := max x 0 + Ideal.log1p (Ideal.exp (-(max x (-x))))

/-- The tanh form of gelu. -/
def gelu (g : EReal) : EReal :=
  g * (Ideal.ofBits .f32 0x3F000000#32 * (1 + Ideal.tanh (Ideal.ofBits .f32 0x3F4C422A#32
    * (g + Ideal.ofBits .f32 0x3D372713#32 * (g * g * g)))))

theorem gelu_left (g : EReal) : Ideal.ofBits .f32 0x3F000000#32 * g * (1 + Ideal.tanh (Ideal.ofBits .f32 0x3F4C422A#32
    * (g + Ideal.ofBits .f32 0x3D372713#32 * (g * g * g)))) = gelu g := by
  unfold gelu
  rw [mul_comm (Ideal.ofBits .f32 0x3F000000#32) g, mul_assoc]

/-- The padded input: three previous rows, then the block's channel columns `1024 … 2047`. -/
def Args.xpad (A : Args) (t : ℕ) (b : Fin 8) (d : Fin 1024) : EReal :=
  if h : t < 3 then A.buf b ⟨t, h⟩ d else if h' : t - 3 < 2048 then A.z ⟨t - 3, h'⟩ b ⟨1024 + d.val, by omega⟩ else 0

/-- The convolution of width four. -/
def Args.xc (A : Args) (t : ℕ) (b : Fin 8) (d : Fin 1024) : EReal :=
  A.cb d + A.xpad t b d * A.cw 0 d + A.xpad (t + 1) b d * A.cw 1 d + A.xpad (t + 2) b d * A.cw 2 d
    + A.xpad (t + 3) b d * A.cw 3 d

/-- Channel `i` of head `h`. -/
def chan (h : Fin 8) (i : Fin 128) : Fin 1024 := ⟨128 * h.val + i.val, by omega⟩

/-- One head's linear map of the convolution, with bias. -/
def Args.lin (A : Args) (w : Fin 8 → Fin 128 → Fin 128 → EReal) (bias : Fin 1024 → EReal) (t : ℕ) (b : Fin 8) (h : Fin 8)
    (j : Fin 128) : EReal :=
  (∑ i : Fin 128, A.xc t b (chan h i) * w h i j) + bias (chan h j)

/-- The logarithm of the decay. -/
def Args.loga (A : Args) (t : ℕ) (b h : Fin 8) (j : Fin 128) : EReal :=
  Ideal.ofBits .f32 0xC1000000#32 * sigm (A.lin A.wa A.ba t b h j) * softplus (-(A.lam (chan h j)))

/-- The decay. -/
def Args.a (A : Args) (t : ℕ) (b h : Fin 8) (j : Fin 128) : EReal := Ideal.exp (A.loga t b h j)

/-- The gated, normalised input of the recurrence. -/
def Args.b (A : Args) (t : ℕ) (b h : Fin 8) (j : Fin 128) : EReal :=
  Ideal.sqrt (-(Ideal.expm1 (Ideal.ofBits .f32 0x40000000#32 * A.loga t b h j)))
    * (sigm (A.lin A.wx A.bx t b h j) * A.xc t b (chan h j))

/-- The recurrent state after `t` steps. -/
def Args.h (A : Args) (t : ℕ) (b h : Fin 8) (j : Fin 128) : EReal :=
  hrec (fun s => A.a s b h j) (fun s => A.b s b h j) (A.h0 b (chan h j)) t

/-- The output at time `t`. -/
def Args.y (A : Args) (t : Fin 2048) (b h : Fin 8) (j : Fin 128) : EReal :=
  A.h (t.val + 1) b h j * gelu (A.z t b ⟨2048 + (chan h j).val, by omega⟩)

theorem two_bits : Ideal.ofBits .f32 0x40000000#32 = ((2 : ℝ) : EReal) := by
  simp [Ideal.ofBits, Ideal.ieee, -EReal.coe_mul]; norm_num

theorem neg_two_bits : Ideal.ofBits .f32 0xC0000000#32 = ((-2 : ℝ) : EReal) := by
  simp [Ideal.ofBits, Ideal.ieee, -EReal.coe_mul]; norm_num

theorem one_sub_tanh (r : ℝ) : (1 - Real.tanh r) = 2 / (Real.exp (2 * r) + 1) := by
  have hp := Real.exp_pos r
  have hn := Real.exp_pos (-r)
  have h2 : Real.exp (2 * r) = Real.exp r * Real.exp r := by rw [← Real.exp_add]; congr 1; ring
  have h1 : Real.exp r * Real.exp (-r) = 1 := by rw [← Real.exp_add]; simp
  rw [Real.tanh_eq_sinh_div_cosh, Real.sinh_eq, Real.cosh_eq, h2]
  field_simp
  nlinarith

/-- `-2 tanh x / (1 - tanh x)` is `-(e^{2x} - 1)`, at every extended real. -/
theorem expm1_via_tanh (x : EReal) :
    Ideal.div (Ideal.ofBits .f32 0xC0000000#32 * Ideal.tanh x) (1 - Ideal.tanh x)
      = -(Ideal.expm1 (Ideal.ofBits .f32 0x40000000#32 * x)) := by
  rw [two_bits, neg_two_bits]
  induction x using EReal.rec with
  | bot =>
    have h1 : Ideal.tanh ⊥ = ((-1 : ℝ) : EReal) := (rfl : Ideal.tanh ⊥ = -1).trans (by simp)
    have he : Ideal.exp ⊥ = ((0 : ℝ) : EReal) := (rfl : Ideal.exp ⊥ = 0)
    have h2 : ((2 : ℝ) : EReal) * ⊥ = ⊥ := EReal.coe_mul_bot_of_pos (by norm_num)
    have h3 : (1 : EReal) - ((-1 : ℝ) : EReal) = ((2 : ℝ) : EReal) := by
      rw [← EReal.coe_one, ← EReal.coe_sub]; norm_num
    rw [h1, h2, h3, ← EReal.coe_mul]
    unfold Ideal.div Ideal.expm1
    rw [he, if_neg (by norm_num), ← EReal.coe_inv, ← EReal.coe_mul, ← EReal.coe_one, ← EReal.coe_sub, ← EReal.coe_neg]
    norm_num
  | top =>
    have h1 : Ideal.tanh ⊤ = ((1 : ℝ) : EReal) := (rfl : Ideal.tanh ⊤ = 1)
    have he : Ideal.exp ⊤ = ⊤ := rfl
    have h2 : ((2 : ℝ) : EReal) * ⊤ = ⊤ := EReal.coe_mul_top_of_pos (by norm_num)
    have h3 : (1 : EReal) - ((1 : ℝ) : EReal) = 0 := by
      rw [← EReal.coe_one, ← EReal.coe_sub]; norm_num
    rw [h1, h2, h3, ← EReal.coe_mul]
    unfold Ideal.div Ideal.expm1
    rw [he, if_pos rfl, if_neg (by rw [← EReal.coe_zero, EReal.coe_lt_coe_iff]; norm_num)]
    simp [← EReal.coe_one, EReal.top_sub_coe]
  | coe r =>
    have h1 : Ideal.tanh ((r : ℝ) : EReal) = ((Real.tanh r : ℝ) : EReal) := rfl
    have hne : (1 - Real.tanh r) ≠ 0 := by
      rw [one_sub_tanh]; have := Real.exp_pos (2 * r); positivity
    have h3 : (1 : EReal) - ((Real.tanh r : ℝ) : EReal) = ((1 - Real.tanh r : ℝ) : EReal) := by
      rw [← EReal.coe_one, ← EReal.coe_sub]
    have he : Ideal.exp (((2 * r : ℝ)) : EReal) = ((Real.exp (2 * r) : ℝ) : EReal) := rfl
    rw [h1, h3, ← EReal.coe_mul, ← EReal.coe_mul]
    unfold Ideal.div Ideal.expm1
    rw [if_neg (by rw [← EReal.coe_zero]; exact fun h => hne (EReal.coe_injective h)), he, ← EReal.coe_inv,
      ← EReal.coe_mul, ← EReal.coe_one, ← EReal.coe_sub, ← EReal.coe_neg]
    congr 1
    have h2 : Real.tanh r = 1 - 2 / (Real.exp (2 * r) + 1) := by rw [← one_sub_tanh]; ring
    have hp := Real.exp_pos (2 * r)
    rw [h2]
    field_simp
    ring

end Cert.Lru
-- ==== Proof.Lru.Loop.lean ====
module

public import proofs.«01_k».proof.Proof.Gen.KernelIdeal.Value
public import Idealize.ShloMosaic.Lib.Pipeline.ValueKit
public import Idealize.ShloMosaic.Lib.Pointwise
public import Idealize.ShloMosaic.Lib.WritesUnit
public import proofs.«01_k».proof.Proof.Lru.Spec

/-!
# The time loop of one block

A block of the RG-LRU kernel walks 128 time steps: trip `k` loads row `k` of the decay buffer and row `k` of the input
buffer, forms `h ← a·h + b` and stores the new `h` over row `k` of the input buffer. This module says what the carried
value and the buffer hold before trip `k`, as plain functions of the two buffers' contents at loop entry.
-/

@[expose] public section

set_option maxRecDepth 16384

noncomputable section

namespace Cert.Lru.Loop

open Idealize.ShloMosaic Idealize.ShloMosaic.TcCoe Idealize.SL.Sem
open Cert.KernelIdeal Cert.KernelIdeal.Gen

/-- Row `k` of a 128-row buffer at a (batch, lane) pair; zero past the last row. -/
def row (A : S128x8x128.Idx → EReal) (r : Fin 8) (d : Fin 128) (k : ℕ) : EReal :=
  if h : k < 128 then A (ix3 ⟨k, h⟩ r d) else 0

theorem row_lt (A : S128x8x128.Idx → EReal) (r : Fin 8) (d : Fin 128) (k : Fin 128) :
    row A r d k.val = A (ix3 k r d) := by
  unfold row; rw [dif_pos k.isLt]

/-- The carried value after one trip: the loaded rows combined with the old value. -/
theorem pay1_apply (h : FVec Ideal S8x128 .f32) (a b : FVec Ideal S1x8x128 .f32) (r : Fin 8) (d : Fin 128) :
    k0_pay1 h a b (ix2 r d) = ((a (ix3 0 r d) : EReal) * h (ix2 r d) + b (ix3 0 r d) : EReal) := by
  pointwise [k0_pay1]

theorem pay2_apply (h : FVec Ideal S8x128 .f32) (a b : FVec Ideal S1x8x128 .f32) (z : Fin 1) (r : Fin 8) (d : Fin 128) :
    k0_pay2 h a b (ix3 z r d) = ((a (ix3 0 r d) : EReal) * h (ix2 r d) + b (ix3 0 r d) : EReal) := by
  pointwise [k0_pay2, k0_pay1]

/-- The loop's state before trip `k` at grid point `t`. -/
def st (c : Dev nD) (t : Fin cfg0.N) (X : BufTy.Contents (Elt Ideal) (scM0_1).view.ty)
    (G : BufTy.Contents (Elt Ideal) (scM0_2).view.ty) (init : FVec Ideal S8x128 .f32) (k : ℕ) :
    FVec Ideal S8x128 .f32 × List (View.Piece (Elt Ideal) S128x8x128 .f32) :=
  st_k0_t1 (F := Ideal) Variants.none c none (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (ms0_7 t) (hs0_7 t) (ms0_8 t)
    (hs0_8 t) (ms0_9 t) (hs0_9 t) (ms0_10 t) (hs0_10 t) (ms0_11 t) (hs0_11 t) (ms0_12 t) (hs0_12 t) (ms0_13 t)
    (hs0_13 t) scM0_0 (Memref.isWhole_whole _) scM0_1 (Memref.isWhole_whole _) scM0_2 (Memref.isWhole_whole _) X G init k

/-- Before trip `k` the carried value is the recurrence's `k`-th, rows below `k` of the input buffer hold the values
    stored so far, and the other rows are as at loop entry. -/
theorem st_inv (c : Dev nD) (t : Fin cfg0.N) (X : BufTy.Contents (Elt Ideal) (scM0_1).view.ty)
    (G : BufTy.Contents (Elt Ideal) (scM0_2).view.ty) (init : FVec Ideal S8x128 .f32) (k : ℕ) (hk : k ≤ 128) :
    (∀ (r : Fin 8) (d : Fin 128), (st c t X G init k).1 (ix2 r d)
      = hrec (row (View.read (Elt Ideal) (View.whole cc0_scratch1) X) r d)
          (row (View.read (Elt Ideal) (View.whole cc0_scratch2) G) r d) (init (ix2 r d)) k)
    ∧ (∀ (s : Fin 128) (r : Fin 8) (d : Fin 128),
        View.read (Elt Ideal) (View.whole cc0_scratch2)
          ((View.whole cc0_scratch2).writes (Elt Ideal) G (st c t X G init k).2) (ix3 s r d)
        = if s.val < k then hrec (row (View.read (Elt Ideal) (View.whole cc0_scratch1) X) r d)
            (row (View.read (Elt Ideal) (View.whole cc0_scratch2) G) r d) (init (ix2 r d)) (s.val + 1)
          else View.read (Elt Ideal) (View.whole cc0_scratch2) G (ix3 s r d)) := by
  induction k with
  | zero => exact ⟨fun r d => rfl, fun s r d => rfl⟩
  | succ k ih =>
    obtain ⟨ih1, ih2⟩ := ih (by omega)
    have hk' : k < 128 := by omega
    have htr : k0_t1_loop.trips = 128 := by decide +kernel
    let kk : Fin k0_t1_loop.trips := ⟨k, htr ▸ hk'⟩
    have hoff : k0_off1 kk = ![k, 0, 0] := k0_off1_eq kk
    have hst : st c t X G init (k + 1)
        = (k0_pay1 (st c t X G init k).1
            (View.ld (View.read (Elt Ideal) (View.whole cc0_scratch1) X)
              (Rect.unit (s := S128x8x128) (k0_off1 kk) ![1, 8, 128] (k0_off1_inb kk)))
            (View.ld (View.read (Elt Ideal) (View.whole cc0_scratch2)
                ((View.whole cc0_scratch2).writes (Elt Ideal) G (st c t X G init k).2))
              (Rect.unit (s := S128x8x128) (k0_off1 kk) ![1, 8, 128] (k0_off1_inb kk))),
          ⟨Rect.unit (s := S128x8x128) (k0_off1 kk) ![1, 8, 128] (k0_off1_inb kk),
            k0_pay2 (st c t X G init k).1
              (View.ld (View.read (Elt Ideal) (View.whole cc0_scratch1) X)
                (Rect.unit (s := S128x8x128) (k0_off1 kk) ![1, 8, 128] (k0_off1_inb kk)))
              (View.ld (View.read (Elt Ideal) (View.whole cc0_scratch2)
                  ((View.whole cc0_scratch2).writes (Elt Ideal) G (st c t X G init k).2))
                (Rect.unit (s := S128x8x128) (k0_off1 kk) ![1, 8, 128] (k0_off1_inb kk)))⟩
            :: (st c t X G init k).2) := by
      unfold st
      rw [show k + 1 = kk.val + 1 from rfl, st_k0_t1_succ, show kk.val = k from rfl]
      generalize st_k0_t1 (F := Ideal) _ _ _ _ _ _ _ _ _ _ _ _ _ _ _ _ _ _ _ _ _ _ _ _ _ _ _ _ _ _ _ _ _ _ _ _ _ _ _ _ _ k = S
      unfold tripR_k0_t1 tripL_k0_t1 trip_k0_t1
      dsimp only
      sl_unfold_words
      rfl
    have ha : ∀ (r : Fin 8) (d : Fin 128),
        View.ld (View.read (Elt Ideal) (View.whole cc0_scratch1) X)
          (Rect.unit (s := S128x8x128) (k0_off1 kk) ![1, 8, 128] (k0_off1_inb kk)) (ix3 (0 : Fin 1) r d)
        = row (View.read (Elt Ideal) (View.whole cc0_scratch1) X) r d k := by
      intro r d
      rw [row_lt _ r d ⟨k, hk'⟩]
      refine View.ld_unit_apply_of _ _ _ _ _ _ ?_
      intro a
      refine Eq.trans ?_ (congrArg (· + _) (congrFun hoff a).symm)
      fin_cases a <;> simp [ix3]
    have hb : ∀ (r : Fin 8) (d : Fin 128),
        View.ld (View.read (Elt Ideal) (View.whole cc0_scratch2)
            ((View.whole cc0_scratch2).writes (Elt Ideal) G (st c t X G init k).2))
          (Rect.unit (s := S128x8x128) (k0_off1 kk) ![1, 8, 128] (k0_off1_inb kk)) (ix3 (0 : Fin 1) r d)
        = row (View.read (Elt Ideal) (View.whole cc0_scratch2) G) r d k := by
      intro r d
      have h2 := ih2 ⟨k, hk'⟩ r d
      rw [if_neg (by simp)] at h2
      rw [row_lt _ r d ⟨k, hk'⟩, ← h2]
      refine View.ld_unit_apply_of _ _ _ _ _ _ ?_
      intro a
      refine Eq.trans ?_ (congrArg (· + _) (congrFun hoff a).symm)
      fin_cases a <;> simp [ix3]
    refine ⟨fun r d => ?_, fun s r d => ?_⟩
    · rw [hst]
      refine (pay1_apply _ _ _ r d).trans ?_
      rw [ha r d, hb r d, ih1 r d]
      rfl
    · rw [hst]
      by_cases hs : s.val = k
      · refine (View.read_writes_cons_unit_of_mem (View.whole cc0_scratch2) G (k0_off1_inb kk) _ _ (ix3 s r d)
          (ix3 (0 : Fin 1) r d) hoff ?_).trans ?_
        · intro a
          fin_cases a <;> simp [ix3, hs]
        · refine (pay2_apply _ _ _ 0 r d).trans ?_
          rw [ha r d, hb r d, ih1 r d, if_pos (by omega), hs]
          rfl
      · refine (View.read_writes_cons_unit_of_not_mem (View.whole cc0_scratch2) G (k0_off1_inb kk) _ _ (ix3 s r d) hoff
          (0 : Fin 3) ?_).trans ?_
        · show s.val < k ∨ k + 1 ≤ s.val
          omega
        · rw [ih2 s r d]
          by_cases h : s.val < k
          · rw [if_pos h, if_pos (by omega)]
          · rw [if_neg h, if_neg (by omega)]

end Cert.Lru.Loop
-- ==== Proof.Lru.Blocks.lean ====
module

public import proofs.«01_k».proof.Proof.Gen.KernelIdeal.Value
public import Idealize.ShloMosaic.Lib.Claim
public import proofs.«01_k».proof.Proof.Lru.Spec

/-!
# What the kernel's blocks hold

Grid point `t` is lane block `t / 16` (one head of 128 channels) and time tile `t % 16` (128 steps). Each input block,
read at an index, is an argument of the mixer at the index it stands for.
-/

@[expose] public section

set_option maxRecDepth 16384

noncomputable section

namespace Cert.Lru.Blocks

open Idealize.ShloMosaic Idealize.ShloMosaic.TcCoe Idealize.SL.Sem
open Cert.KernelIdeal Cert.KernelIdeal.Gen Cert.Lru

variable (m : (ℓ : Loc nD τ sig) → Buf (Elt Ideal) ℓ) (c : Dev nD)

/-- The kernel's arguments as the mixer's. -/
def args : Args where
  z t b d := m ((c : Thread nD τ).loc main_arg0) (ix3 t b d)
  buf b s d := m ((c : Thread nD τ).loc main_arg1) (ix3 b s d)
  h0 b d := m ((c : Thread nD τ).loc main_arg2) (ix2 b d)
  cw k d := m ((c : Thread nD τ).loc main_arg3) (ix2 k d)
  cb d := m ((c : Thread nD τ).loc main_arg4) (ix1 d)
  wa h i j := m ((c : Thread nD τ).loc main_arg5) (ix3 h i j)
  ba d := m ((c : Thread nD τ).loc main_arg6) (ix1 d)
  wx h i j := m ((c : Thread nD τ).loc main_arg7) (ix3 h i j)
  bx d := m ((c : Thread nD τ).loc main_arg8) (ix1 d)
  lam d := m ((c : Thread nD τ).loc main_arg9) (ix1 d)

/-- The block placements, at every grid point. -/
theorem idx : ∀ t : Fin cfg0.N, win0_0.index t = ![t.val % 16, 0, 8 + t.val / 16]
    ∧ win0_1.index t = ![t.val % 16, 0, 16 + t.val / 16] ∧ win0_2.index t = ![0, 0, t.val / 16]
    ∧ win0_3.index t = ![0, 0, t.val / 16] ∧ win0_4.index t = ![0, t.val / 16] ∧ win0_5.index t = ![t.val / 16, 0, 0]
    ∧ win0_6.index t = ![0, t.val / 16] ∧ win0_7.index t = ![t.val / 16, 0, 0] ∧ win0_8.index t = ![0, t.val / 16]
    ∧ win0_9.index t = ![0, t.val / 16] ∧ win0_10.index t = ![0, t.val / 16] ∧ t.val / 16 < 8 :=
  (by decide +kernel : ∀ t : Fin grid0.N, _)

/-- The head of a grid point. -/
def hd (t : Fin cfg0.N) : Fin 8 := ⟨t.val / 16, (idx t).2.2.2.2.2.2.2.2.2.2.2⟩

theorem x_apply (t : Fin cfg0.N) (s : Fin 128) (b : Fin 8) (j : Fin 128) :
    (iblk m c 0 t : FVec Ideal S128x8x128 .f32) (ix3 s b j)
      = (args m c).z ⟨128 * (t.val % 16) + s.val, by omega⟩ b ⟨1024 + (chan (hd t) j).val, by omega⟩ := by
  have := (idx t).2.2.2.2.2.2.2.2.2.2.2
  show _ = m ((c : Thread nD τ).loc main_arg0) (ix3 _ _ _)
  blk_point [iblk, V, idx t, chan, hd]

theorem g_apply (t : Fin cfg0.N) (s : Fin 128) (b : Fin 8) (j : Fin 128) :
    (iblk m c 1 t : FVec Ideal S128x8x128 .f32) (ix3 s b j)
      = (args m c).z ⟨128 * (t.val % 16) + s.val, by omega⟩ b ⟨2048 + (chan (hd t) j).val, by omega⟩ := by
  have := (idx t).2.2.2.2.2.2.2.2.2.2.2
  show _ = m ((c : Thread nD τ).loc main_arg0) (ix3 _ _ _)
  blk_point [iblk, V, idx t, chan, hd]

theorem buf_apply (t : Fin cfg0.N) (s : Fin 3) (b : Fin 8) (j : Fin 128) :
    (iblk m c 2 t : FVec Ideal S3x8x128 .f32) (ix3 s b j) = (args m c).buf b s (chan (hd t) j) := by
  have := (idx t).2.2.2.2.2.2.2.2.2.2.2
  show _ = m ((c : Thread nD τ).loc main_arg1) (ix3 _ _ _)
  blk_point [iblk, V, idx t, chan, hd]

theorem cw_apply (t : Fin cfg0.N) (k : Fin 4) (j : Fin 128) :
    (iblk m c 3 t : FVec Ideal S4x1x128 .f32) (ix3 k (0 : Fin 1) j) = (args m c).cw k (chan (hd t) j) := by
  have := (idx t).2.2.2.2.2.2.2.2.2.2.2
  show _ = m ((c : Thread nD τ).loc main_arg3) (ix2 _ _)
  blk_point [iblk, V, idx t, chan, hd]

theorem cb_apply (t : Fin cfg0.N) (j : Fin 128) :
    (iblk m c 4 t : FVec Ideal S1x128 .f32) (ix2 (0 : Fin 1) j) = (args m c).cb (chan (hd t) j) := by
  have := (idx t).2.2.2.2.2.2.2.2.2.2.2
  show _ = m ((c : Thread nD τ).loc main_arg4) (ix1 _)
  blk_point [iblk, V, idx t, chan, hd]

theorem wa_apply (t : Fin cfg0.N) (i j : Fin 128) :
    (iblk m c 5 t : FVec Ideal S1x128x128 .bf16) (ix3 (0 : Fin 1) i j) = (args m c).wa (hd t) i j := by
  have := (idx t).2.2.2.2.2.2.2.2.2.2.2
  show _ = m ((c : Thread nD τ).loc main_arg5) (ix3 _ _ _)
  blk_point [iblk, V, idx t, chan, hd]

theorem ba_apply (t : Fin cfg0.N) (j : Fin 128) :
    (iblk m c 6 t : FVec Ideal S1x128 .f32) (ix2 (0 : Fin 1) j) = (args m c).ba (chan (hd t) j) := by
  have := (idx t).2.2.2.2.2.2.2.2.2.2.2
  show _ = m ((c : Thread nD τ).loc main_arg6) (ix1 _)
  blk_point [iblk, V, idx t, chan, hd]

theorem wx_apply (t : Fin cfg0.N) (i j : Fin 128) :
    (iblk m c 7 t : FVec Ideal S1x128x128 .bf16) (ix3 (0 : Fin 1) i j) = (args m c).wx (hd t) i j := by
  have := (idx t).2.2.2.2.2.2.2.2.2.2.2
  show _ = m ((c : Thread nD τ).loc main_arg7) (ix3 _ _ _)
  blk_point [iblk, V, idx t, chan, hd]

theorem bx_apply (t : Fin cfg0.N) (j : Fin 128) :
    (iblk m c 8 t : FVec Ideal S1x128 .f32) (ix2 (0 : Fin 1) j) = (args m c).bx (chan (hd t) j) := by
  have := (idx t).2.2.2.2.2.2.2.2.2.2.2
  show _ = m ((c : Thread nD τ).loc main_arg8) (ix1 _)
  blk_point [iblk, V, idx t, chan, hd]

theorem lam_apply (t : Fin cfg0.N) (j : Fin 128) :
    (iblk m c 9 t : FVec Ideal S1x128 .f32) (ix2 (0 : Fin 1) j) = (args m c).lam (chan (hd t) j) := by
  have := (idx t).2.2.2.2.2.2.2.2.2.2.2
  show _ = m ((c : Thread nD τ).loc main_arg9) (ix1 _)
  blk_point [iblk, V, idx t, chan, hd]

theorem h0_apply (t : Fin cfg0.N) (b : Fin 8) (j : Fin 128) :
    (iblk m c 10 t : FVec Ideal S8x128 .f32) (ix2 b j) = (args m c).h0 b (chan (hd t) j) := by
  have := (idx t).2.2.2.2.2.2.2.2.2.2.2
  show _ = m ((c : Thread nD τ).loc main_arg2) (ix2 _ _)
  blk_point [iblk, V, idx t, chan, hd]

end Cert.Lru.Blocks
-- ==== Proof.Lru.Point.lean ====
module

public import proofs.«01_k».proof.Proof.Gen.KernelIdeal.Value
public import proofs.«01_k».proof.Proof.Lru.Spec

/-!
# What one block computes

Over a block's inputs held as plain arrays — three previous rows, 128 rows of the input, the head's weights — the
body's values are the mixer's: the convolution, the decay, the normalised input, the gelu and the last three rows.
-/

@[expose] public section

set_option maxRecDepth 16384

noncomputable section

namespace Cert.Lru.Point

open Idealize.ShloMosaic Idealize.ShloMosaic.TcCoe Idealize.SL.Sem
open Cert.KernelIdeal Cert.KernelIdeal.Gen Cert.Lru

/-- One block's inputs stand for the mixer's arguments at head `h` from time `T` on. -/
structure Stands (A : Args) (T : ℕ) (h : Fin 8) (p : FVec Ideal S3x8x128 .f32) (x : FVec Ideal S128x8x128 .f32)
    (cb : FVec Ideal S1x128 .f32) (w0 w1 w2 w3 : FVec Ideal S1x1x128 .f32) (wa : FVec Ideal S1x128x128 .bf16)
    (ba : FVec Ideal S1x128 .f32) (wx : FVec Ideal S1x128x128 .bf16) (bx lam : FVec Ideal S1x128 .f32) : Prop where
  hT : T + 128 ≤ 2048
  hp : ∀ (s : Fin 3) (b : Fin 8) (j : Fin 128), p (ix3 s b j) = A.xpad (T + s.val) b (chan h j)
  hx : ∀ (s : Fin 128) (b : Fin 8) (j : Fin 128),
    x (ix3 s b j) = A.z ⟨T + s.val, by omega⟩ b ⟨1024 + (chan h j).val, by omega⟩
  hcb : ∀ j : Fin 128, cb (ix2 (0 : Fin 1) j) = A.cb (chan h j)
  hw0 : ∀ j : Fin 128, w0 (ix3 (0 : Fin 1) (0 : Fin 1) j) = A.cw 0 (chan h j)
  hw1 : ∀ j : Fin 128, w1 (ix3 (0 : Fin 1) (0 : Fin 1) j) = A.cw 1 (chan h j)
  hw2 : ∀ j : Fin 128, w2 (ix3 (0 : Fin 1) (0 : Fin 1) j) = A.cw 2 (chan h j)
  hw3 : ∀ j : Fin 128, w3 (ix3 (0 : Fin 1) (0 : Fin 1) j) = A.cw 3 (chan h j)
  hwa : ∀ i j : Fin 128, wa (ix3 (0 : Fin 1) i j) = A.wa h i j
  hba : ∀ j : Fin 128, ba (ix2 (0 : Fin 1) j) = A.ba (chan h j)
  hwx : ∀ i j : Fin 128, wx (ix3 (0 : Fin 1) i j) = A.wx h i j
  hbx : ∀ j : Fin 128, bx (ix2 (0 : Fin 1) j) = A.bx (chan h j)
  hlam : ∀ j : Fin 128, lam (ix2 (0 : Fin 1) j) = A.lam (chan h j)

variable {A : Args} {T : ℕ} {h : Fin 8} {p : FVec Ideal S3x8x128 .f32} {x : FVec Ideal S128x8x128 .f32}
    {cb : FVec Ideal S1x128 .f32} {w0 w1 w2 w3 : FVec Ideal S1x1x128 .f32} {wa : FVec Ideal S1x128x128 .bf16}
    {ba : FVec Ideal S1x128 .f32} {wx : FVec Ideal S1x128x128 .bf16} {bx lam : FVec Ideal S1x128 .f32}

variable (e : Stands A T h p x cb w0 w1 w2 w3 wa ba wx bx lam)
include e

/-- Row `r` of the previous rows followed by the block is row `T + r` of the padded input. -/
theorem tap (r : ℕ) (hr : r < 131) (b : Fin 8) (j : Fin 128) :
    (if h : r < 3 then p (ix3 ⟨r, h⟩ b j) else x (ix3 ⟨r - 3, by omega⟩ b j)) = A.xpad (T + r) b (chan h j) := by
  have hT := e.hT
  by_cases h3 : r < 3
  · rw [dif_pos h3, e.hp]
  · rw [dif_neg h3, e.hx]
    unfold Args.xpad
    rw [dif_neg (by omega), dif_pos (by omega)]
    have : T + (r - 3) = T + r - 3 := by omega
    simp only [this]

theorem rows_apply (r : Fin 131) (b : Fin 8) (j : Fin 128) :
    k0_pay5 (F := Ideal) p x (ix3 r b j) = A.xpad (T + r.val) b (chan h j) := by
  rw [← tap e r.val r.isLt]
  pointwise [k0_pay5]

/-- The three rows kept for the next block. -/
theorem tail_apply (s : Fin 3) (b : Fin 8) (j : Fin 128) :
    k0_pay9 (F := Ideal) (k0_pay5 p x) (ix3 s b j) = A.xpad (T + 128 + s.val) b (chan h j) := by
  rw [Nat.add_assoc T 128, ← tap e (128 + s.val) (by omega)]
  pointwise [k0_pay9, k0_pay5]

theorem tail_apply' (s : Fin 3) (b : Fin 8) (j : Fin 128) :
    k0_pay10 (F := Ideal) (k0_pay5 p x) (ix3 s b j) = A.xpad (T + 128 + s.val) b (chan h j) := by
  rw [Nat.add_assoc T 128, ← tap e (128 + s.val) (by omega)]
  pointwise [k0_pay10, k0_pay5]

/-- The convolution, at the row of the flattened block that holds time `s` of batch `b`. -/
theorem xc_apply (s : Fin 128) (b : Fin 8) (j : Fin 128) :
    k0_pay11 (F := Ideal) (k0_pay6 p x cb w0 w1 w2) (k0_pay7 p x) (k0_pay8 w3) (ix2 (⟨s.val * 8 + b.val, by omega⟩ : Fin 1024) j)
      = A.xc (T + s.val) b (chan h j) := by
  unfold Args.xc
  rw [← e.hcb, ← e.hw0, ← e.hw1, ← e.hw2, ← e.hw3, Nat.add_assoc T s.val, Nat.add_assoc T s.val, Nat.add_assoc T s.val,
    ← tap e s.val (by omega), ← tap e (s.val + 1) (by omega), ← tap e (s.val + 2) (by omega),
    ← tap e (s.val + 3) (by omega)]
  rw [show (⟨s.val * 8 + b.val, by omega⟩ : Fin 1024) = ⟨8 * s.val + b.val, by omega⟩ from Fin.ext (by simp; omega)]
  pointwise [k0_pay11, k0_pay6, k0_pay7, k0_pay8, k0_pay5]
  simp only [Nat.add_comm s.val]
  rw [dif_neg (show ¬ (3 + s.val < 3) by omega)]
  simp only [Nat.add_sub_cancel_left]

/-- The first gate. -/
theorem r_apply (s : Fin 128) (b : Fin 8) (j : Fin 128) :
    k0_pay13 (F := Ideal) (k0_pay6 p x cb w0 w1 w2) (k0_pay7 p x) (k0_pay8 w3) wa ba
        (ix2 (⟨s.val * 8 + b.val, by omega⟩ : Fin 1024) j)
      = sigm (A.lin A.wa A.ba (T + s.val) b h j) := by
  have h1 := fun i => xc_apply e s b i
  generalize k0_pay6 (F := Ideal) p x cb w0 w1 w2 = P6 at h1 ⊢
  generalize k0_pay7 (F := Ideal) p x = P7 at h1 ⊢
  generalize k0_pay8 (F := Ideal) w3 = P8 at h1 ⊢
  pointwise [k0_pay13, k0_pay12]
  unfold sigm Args.lin
  simp only [h1, e.hwa, e.hba, sub_eq_add_neg, zero_add]

/-- The second gate's exponential. -/
theorem i_apply (s : Fin 128) (b : Fin 8) (j : Fin 128) :
    k0_pay14 (F := Ideal) (k0_pay6 p x cb w0 w1 w2) (k0_pay7 p x) (k0_pay8 w3) wx bx
        (ix2 (⟨s.val * 8 + b.val, by omega⟩ : Fin 1024) j)
      = Ideal.exp (-(A.lin A.wx A.bx (T + s.val) b h j)) := by
  have h1 := fun i => xc_apply e s b i
  generalize k0_pay6 (F := Ideal) p x cb w0 w1 w2 = P6 at h1 ⊢
  generalize k0_pay7 (F := Ideal) p x = P7 at h1 ⊢
  generalize k0_pay8 (F := Ideal) w3 = P8 at h1 ⊢
  pointwise [k0_pay14, k0_pay12]
  unfold Args.lin
  simp only [h1, e.hwx, e.hbx, sub_eq_add_neg, zero_add]

/-- The decay the block stores. -/
theorem a_apply (s : Fin 128) (b : Fin 8) (j : Fin 128) :
    k0_pay16 (F := Ideal) (k0_pay13 (k0_pay6 p x cb w0 w1 w2) (k0_pay7 p x) (k0_pay8 w3) wa ba) lam (ix3 s b j)
      = A.a (T + s.val) b h j := by
  have h1 := r_apply e s b j
  generalize k0_pay13 (F := Ideal) (k0_pay6 p x cb w0 w1 w2) (k0_pay7 p x) (k0_pay8 w3) wa ba = R at h1 ⊢
  pointwise [k0_pay16, k0_pay15]
  unfold Args.a Args.loga softplus
  rw [← h1, ← e.hlam]
  simp only [sub_eq_add_neg, zero_add]
  rfl

/-- The input of the recurrence the block stores. -/
theorem b_apply (s : Fin 128) (b : Fin 8) (j : Fin 128) :
    k0_pay17 (F := Ideal) (k0_pay11 (k0_pay6 p x cb w0 w1 w2) (k0_pay7 p x) (k0_pay8 w3))
        (k0_pay13 (k0_pay6 p x cb w0 w1 w2) (k0_pay7 p x) (k0_pay8 w3) wa ba)
        (k0_pay14 (k0_pay6 p x cb w0 w1 w2) (k0_pay7 p x) (k0_pay8 w3) wx bx) lam (ix3 s b j)
      = A.b (T + s.val) b h j := by
  have h1 := r_apply e s b j
  have h2 := i_apply e s b j
  have h3 := xc_apply e s b j
  generalize k0_pay13 (F := Ideal) (k0_pay6 p x cb w0 w1 w2) (k0_pay7 p x) (k0_pay8 w3) wa ba = R at h1 ⊢
  generalize k0_pay14 (F := Ideal) (k0_pay6 p x cb w0 w1 w2) (k0_pay7 p x) (k0_pay8 w3) wx bx = I at h2 ⊢
  generalize k0_pay11 (F := Ideal) (k0_pay6 p x cb w0 w1 w2) (k0_pay7 p x) (k0_pay8 w3) = X at h3 ⊢
  unfold Args.b
  rw [← expm1_via_tanh]
  pointwise [k0_pay17, k0_pay15]
  unfold Args.loga softplus
  rw [← h1, ← e.hlam, h2, h3]
  simp only [sub_eq_add_neg, zero_add]
  rfl

omit e

/-- The output the block stores, of the states and the gate's block. -/
theorem y_apply (hs g : FVec Ideal S128x8x128 .f32) (s : Fin 128) (b : Fin 8) (j : Fin 128) :
    k0_pay3 (F := Ideal) hs g (ix3 s b j) = (hs (ix3 s b j) * gelu (g (ix3 s b j)) : EReal) := by
  rw [← gelu_left]
  pointwise [k0_pay3]

end Cert.Lru.Point
-- ==== Proof.Lru.Sweep.lean ====
module

public import proofs.«01_k».proof.Proof.Lru.Loop
public import Idealize.ShloMosaic.Lib.VecWindow
public import proofs.«01_k».proof.Proof.Lru.Blocks
public import proofs.«01_k».proof.Proof.Lru.Point

/-!
# What the kernel's arrays hold

By induction over the grid: after the block at lane block `t / 16` and time tile `t % 16` the carried state is the
recurrence's at the end of the tile, the carried rows are the tile's last three, and the output block holds the
mixer's output at the tile's 128 times.
-/

@[expose] public section

set_option maxRecDepth 16384

noncomputable section

namespace Cert.Lru.Sweep

open Idealize.ShloMosaic Idealize.ShloMosaic.TcCoe Idealize.SL.Sem
open Cert.KernelIdeal Cert.KernelIdeal.Gen Cert.KernelIdeal.Value Cert.Lru Cert.Lru.Point Cert.Lru.Blocks Cert.Lru.Loop

variable (m : (ℓ : Loc nD τ sig) → Buf (Elt Ideal) ℓ) (c : Dev nD)

/-- The first time of a grid point's tile. -/
def T (t : Fin cfg0.N) : ℕ := 128 * (t.val % 16)

/-- Tap `k`'s weights as the block loads them. -/
abbrev w (t : Fin cfg0.N) (k : ℕ) (hk : ∀ a, (![k, 0, 0] : Fin 3 → ℕ) a + (![1, 1, 128] : Fin 3 → ℕ) a ≤ S4x1x128.size a) :
    FVec Ideal S1x1x128 .f32 :=
  View.ld (iblk m c 3 t : FVec Ideal S4x1x128 .f32) (Rect.unit (s := S4x1x128) ![k, 0, 0] ![1, 1, 128] hk)

theorem w_apply (t : Fin cfg0.N) (k : Fin 4) (hk) (j : Fin 128) :
    w m c t k.val hk (ix3 (0 : Fin 1) (0 : Fin 1) j) = (args m c).cw k (chan (hd t) j) := by
  rw [← cw_apply m c t k j]
  refine View.ld_unit_apply_of _ _ _ _ _ _ ?_
  intro a
  fin_cases a <;> simp [ix3]

/-- Whatever three previous rows a point takes: if they are the padded input's rows `T … T + 2`, the point's inputs stand
    for the mixer's. -/
theorem stands (t : Fin cfg0.N) (p : FVec Ideal S3x8x128 .f32)
    (hp : ∀ (s : Fin 3) (b : Fin 8) (j : Fin 128), p (ix3 s b j) = (args m c).xpad (T t + s.val) b (chan (hd t) j))
    (hk0 hk1 hk2 hk3) :
    Stands (args m c) (T t) (hd t) p (iblk m c 0 t) (iblk m c 4 t) (w m c t 0 hk0) (w m c t 1 hk1) (w m c t 2 hk2)
      (w m c t 3 hk3) (iblk m c 5 t) (iblk m c 6 t) (iblk m c 7 t) (iblk m c 8 t) (iblk m c 9 t) where
  hT := by unfold T; omega
  hp := hp
  hx := x_apply m c t
  hcb := cb_apply m c t
  hw0 := w_apply m c t 0 hk0
  hw1 := w_apply m c t 1 hk1
  hw2 := w_apply m c t 2 hk2
  hw3 := w_apply m c t 3 hk3
  hwa := wa_apply m c t
  hba := ba_apply m c t
  hwx := wx_apply m c t
  hbx := bx_apply m c t
  hlam := lam_apply m c t

/-- Running the loop from the recurrence's state at the tile's start, over the decays and inputs of the tile: the carried
    value is the state at the tile's end and the buffer holds the state after each step. -/
theorem after_loop (t : Fin cfg0.N) (X : BufTy.Contents (Elt Ideal) (scM0_1).view.ty)
    (G : BufTy.Contents (Elt Ideal) (scM0_2).view.ty) (init : FVec Ideal S8x128 .f32)
    (hX : ∀ (s : Fin 128) (b : Fin 8) (j : Fin 128),
      View.read (Elt Ideal) (View.whole cc0_scratch1) X (ix3 s b j) = (args m c).a (T t + s.val) b (hd t) j)
    (hG : ∀ (s : Fin 128) (b : Fin 8) (j : Fin 128),
      View.read (Elt Ideal) (View.whole cc0_scratch2) G (ix3 s b j) = (args m c).b (T t + s.val) b (hd t) j)
    (hi : ∀ (b : Fin 8) (j : Fin 128), init (ix2 b j) = (args m c).h (T t) b (hd t) j) :
    (∀ (b : Fin 8) (j : Fin 128), (st c t X G init 128).1 (ix2 b j) = (args m c).h (T t + 128) b (hd t) j)
    ∧ (∀ (s : Fin 128) (b : Fin 8) (j : Fin 128), View.read (Elt Ideal) (View.whole cc0_scratch2)
        ((View.whole cc0_scratch2).writes (Elt Ideal) G (st c t X G init 128).2) (ix3 s b j)
        = (args m c).h (T t + s.val + 1) b (hd t) j) := by
  obtain ⟨h1, h2⟩ := st_inv c t X G init 128 le_rfl
  have key : ∀ (b : Fin 8) (j : Fin 128) (k : ℕ), k ≤ 128 →
      hrec (row (View.read (Elt Ideal) (View.whole cc0_scratch1) X) b j)
          (row (View.read (Elt Ideal) (View.whole cc0_scratch2) G) b j) (init (ix2 b j)) k
        = (args m c).h (T t + k) b (hd t) j := by
    intro b j k hk
    unfold Args.h
    rw [hrec_add]
    refine hrec_congr (hi b j) k (fun i hi' => ?_) (fun i hi' => ?_)
    · rw [row_lt _ b j ⟨i, by omega⟩, hX]
    · rw [row_lt _ b j ⟨i, by omega⟩, hG]
  refine ⟨fun b j => ?_, fun s b j => ?_⟩
  · rw [h1 b j, key b j 128 le_rfl]
  · rw [h2 s b j, if_pos s.isLt, key b j (s.val + 1) (by omega)]
    rfl

/-- What a point leaves: the output block, the state, the three rows as output and as carried. -/
structure Left (t : Fin cfg0.N) (o : Vec Ideal S128x8x128 .f32 × Vec Ideal S8x128 .f32 × Vec Ideal S3x8x128 .f32
    × Vec Ideal S3x8x128 .f32) : Prop where
  y : ∀ (s : Fin 128) (b : Fin 8) (j : Fin 128), o.1 (ix3 s b j)
    = (args m c).y ⟨T t + s.val, by unfold T; omega⟩ b (hd t) j
  h : ∀ (b : Fin 8) (j : Fin 128), o.2.1 (ix2 b j) = (args m c).h (T t + 128) b (hd t) j
  tl : ∀ (s : Fin 3) (b : Fin 8) (j : Fin 128), o.2.2.1 (ix3 s b j)
    = (args m c).xpad (T t + 128 + s.val) b (chan (hd t) j)
  pr : ∀ (s : Fin 3) (b : Fin 8) (j : Fin 128), o.2.2.2 (ix3 s b j)
    = (args m c).xpad (T t + 128 + s.val) b (chan (hd t) j)

/-- The decay buffer written whole. -/
abbrev X0 (v : FVec Ideal S128x8x128 .f32) : BufTy.Contents (Elt Ideal) (scM0_1).view.ty :=
  (View.whole cc0_scratch1).writes (Elt Ideal) (View.whole cc0_scratch1).junk
    [⟨Rect.unit (s := S128x8x128) ![0, 0, 0] S128x8x128.size inb_S128x8x128_S128x8x128_0_0_0, v⟩]

/-- The input buffer written whole. -/
abbrev G0 (v : FVec Ideal S128x8x128 .f32) : BufTy.Contents (Elt Ideal) (scM0_2).view.ty :=
  (View.whole cc0_scratch2).writes (Elt Ideal) (View.whole cc0_scratch2).junk
    [⟨Rect.unit (s := S128x8x128) ![0, 0, 0] S128x8x128.size inb_S128x8x128_S128x8x128_0_0_0, v⟩]

theorem X0_read (v : FVec Ideal S128x8x128 .f32) (y : S128x8x128.Idx) :
    View.read (Elt Ideal) (View.whole cc0_scratch1) (X0 v) y = v y := by
  have e := View.read_writes_full (Val := Elt Ideal) (View.whole cc0_scratch1) (View.whole cc0_scratch1).junk
    inb_S128x8x128_S128x8x128_0_0_0 v []
  exact congrFun e y

theorem G0_read (v : FVec Ideal S128x8x128 .f32) (y : S128x8x128.Idx) :
    View.read (Elt Ideal) (View.whole cc0_scratch2) (G0 v) y = v y := by
  have e := View.read_writes_full (Val := Elt Ideal) (View.whole cc0_scratch2) (View.whole cc0_scratch2).junk
    inb_S128x8x128_S128x8x128_0_0_0 v []
  exact congrFun e y

/-- The states read back after the loop are the buffer's contents, the loop's writes over the stored inputs. -/
theorem hs_read (L : List (View.Piece (Elt Ideal) S128x8x128 .f32)) (v : FVec Ideal S128x8x128 .f32) (inb) (inb')
    (s : Fin 128) (b : Fin 8) (j : Fin 128) :
    (View.whole cc0_scratch2).readCov (Val := Elt Ideal) (L ++ [⟨Rect.unit (s := S128x8x128) ![0, 0, 0] ![128, 8, 128] inb, v⟩])
        (Rect.unit (s := S128x8x128) ![0, 0, 0] ![128, 8, 128] inb').toLoadRect (ix3 s b j)
      = View.read (Elt Ideal) (View.whole cc0_scratch2) ((View.whole cc0_scratch2).writes (Elt Ideal) (G0 v) L) (ix3 s b j) := by
  unfold View.readCov
  rw [View.writes_append, View.readAt_eq_ld]
  refine View.ld_unit_apply_of _ _ _ _ _ _ ?_
  intro a
  fin_cases a <;> simp [ix3]

theorem trips_eq : Scf.trips (0#32) (Scalar.addi 0#32 128#32) 1#32 = 128 := by decide +kernel

/-- A later tile of a lane block: the state and the rows come from the point before. -/
theorem left_B (t : Fin cfg0.N) (h0 : ¬ t.val % 16 = 0) (acc) (q : Fin cfg0.N) (hq : q.val + 1 = t.val)
    (e : Left m c q acc) : Left m c t (stAt0 m c t.val t.isLt acc) := by
  have hT : T t = T q + 128 := by unfold T; omega
  have hhd : hd t = hd q := Fin.ext (by show t.val / 16 = q.val / 16; omega)
  have S := stands m c t
    (View.read (Elt Ideal) (View.whole cc0_scratch0) ((Memref.isWhole_whole cc0_scratch0).unread acc.2.2.2)) (by
      intro s b j
      rw [hT, hhd, ← e.pr s b j]
      exact congrFun ((Memref.isWhole_whole cc0_scratch0).read_unread (Val := Elt Ideal) acc.2.2.2) (ix3 s b j))
    (by decide) (by decide) (by decide) (by decide)
  have hi : ∀ (b : Fin 8) (j : Fin 128), k0_pay18 (F := Ideal) acc.2.1 (ix2 b j) = (args m c).h (T t) b (hd t) j := by
    intro b j
    rw [hT, hhd, ← e.h b j]
    pointwise [k0_pay18]
  rw [stAt0_B m c t _ h0]
  constructor
  · intro s b j
    dsimp only
    frame_out
    rw [trips_eq]
    refine (y_apply _ _ s b j).trans ?_
    rw [hs_read]
    have key := (after_loop m c t (X0 _) (G0 _) _ (fun s b j => (X0_read _ _).trans (a_apply S s b j))
      (fun s b j => (G0_read _ _).trans (b_apply S s b j)) hi).2 s b j
    exact congrArg₂ (fun x y : EReal => x * gelu y) key (g_apply m c t s b j)
  · intro b j
    dsimp only
    frame_out
    rw [trips_eq]
    exact (after_loop m c t (X0 _) (G0 _) _ (fun s b j => (X0_read _ _).trans (a_apply S s b j))
      (fun s b j => (G0_read _ _).trans (b_apply S s b j)) hi).1 b j
  · intro s b j
    dsimp only
    frame_out
    exact tail_apply' S s b j
  · intro s b j
    dsimp only
    frame_out
    exact tail_apply S s b j

/-- The first tile of a lane block: the state and the rows come from the arguments. -/
theorem left_A (t : Fin cfg0.N) (h0 : t.val % 16 = 0) (acc) : Left m c t (stAt0 m c t.val t.isLt acc) := by
  have hT : T t = 0 := by unfold T; omega
  have S := stands m c t (k0_pay4 (iblk m c 2 t)) (by
      intro s b j
      refine Eq.trans ?_ ((buf_apply m c t s b j).trans ?_)
      · pointwise [k0_pay4]
      · unfold Args.xpad
        rw [hT, dif_pos (by omega)]
        simp only [Nat.zero_add])
    (by decide) (by decide) (by decide) (by decide)
  have hi : ∀ (b : Fin 8) (j : Fin 128), k0_pay18 (F := Ideal) (iblk m c 10 t) (ix2 b j)
      = (args m c).h (T t) b (hd t) j := by
    intro b j
    refine Eq.trans ?_ ((h0_apply m c t b j).trans ?_)
    · pointwise [k0_pay18]
    · rw [hT]; rfl
  rw [stAt0_A m c t _ h0]
  constructor
  · intro s b j
    dsimp only
    frame_out
    rw [trips_eq]
    refine (y_apply _ _ s b j).trans ?_
    rw [hs_read]
    have key := (after_loop m c t (X0 _) (G0 _) _ (fun s b j => (X0_read _ _).trans (a_apply S s b j))
      (fun s b j => (G0_read _ _).trans (b_apply S s b j)) hi).2 s b j
    exact congrArg₂ (fun x y : EReal => x * gelu y) key (g_apply m c t s b j)
  · intro b j
    dsimp only
    frame_out
    rw [trips_eq]
    exact (after_loop m c t (X0 _) (G0 _) _ (fun s b j => (X0_read _ _).trans (a_apply S s b j))
      (fun s b j => (G0_read _ _).trans (b_apply S s b j)) hi).1 b j
  · intro s b j
    dsimp only
    frame_out
    exact tail_apply' S s b j
  · intro s b j
    dsimp only
    frame_out
    exact tail_apply S s b j

/-- After every point of the grid the fold holds what `Left` says. -/
theorem left_all (n : ℕ) (hn : 0 + n < cfg0.N) (hn' : n < cfg0.N) :
    Left m c ⟨n, hn'⟩ (Pipeline.accAt (fun n h => stAt0 m c n h junk0) (stAt0 m c) 0 n hn) := by
  induction n with
  | zero => exact left_A m c ⟨0, hn'⟩ rfl junk0
  | succ n ih =>
    have e := ih (by omega) (by omega)
    rw [Pipeline.accAt_succ]
    simp only [Nat.zero_add]
    by_cases h0 : (n + 1) % 16 = 0
    · exact left_A m c ⟨n + 1, hn'⟩ h0 _
    · exact left_B m c ⟨n + 1, hn'⟩ h0 _ ⟨n, by omega⟩ rfl e

theorem N_eq : cfg0.N = 128 := N_0

/-- The first result: the mixer's output. -/
theorem y_eq (s : Fin 2048) (b : Fin 8) (h : Fin 8) (j : Fin 128) :
    G11 m c (ix3 s b (chan h j)) = (args m c).y s b h j := by
  have hN := N_eq
  have hpt : pt11Of (ix3 s b (chan h j)) = s.val / 128 + 16 * h.val := by
    show 1 * (s.val / 128 - 0) + 16 * (b.val / 8 - 0) + 16 * ((128 * h.val + j.val) / 128 - 0) = _
    omega
  have hloc : loc11Of (ix3 s b (chan h j)) = ix3 (⟨s.val % 128, by omega⟩ : Fin 128) b j := by
    funext a
    match a with
    | ⟨0, _⟩ => rfl
    | ⟨1, _⟩ => exact Fin.ext (show b.val % 8 = b.val by omega)
    | ⟨2, _⟩ => exact Fin.ext (show (128 * h.val + j.val) % 128 = j.val by omega)
  have hn : s.val / 128 + 16 * h.val < cfg0.N := by omega
  unfold G11
  rw [dif_pos (by rw [hpt]; exact hn), hloc,
    fold0_congr m c _ _ (s.val / 128 + 16 * h.val) (by omega) hpt]
  refine ((left_all m c _ (by omega) hn).y _ b j).trans ?_
  have hh : hd ⟨s.val / 128 + 16 * h.val, hn⟩ = h := Fin.ext (show (s.val / 128 + 16 * h.val) / 16 = h.val by omega)
  have ht : (⟨T ⟨s.val / 128 + 16 * h.val, hn⟩ + s.val % 128, by unfold T; omega⟩ : Fin 2048) = s :=
    Fin.ext (show 128 * ((s.val / 128 + 16 * h.val) % 16) + s.val % 128 = s.val by omega)
  rw [hh, ht]

/-- The second result: the state after all 2048 times. -/
theorem hn_eq (b : Fin 8) (h : Fin 8) (j : Fin 128) : G12 m c (ix2 b (chan h j)) = (args m c).h 2048 b h j := by
  have hN := N_eq
  have hpt : pt12Of (ix2 b (chan h j)) = 16 * h.val + 15 := by
    show 16 * (8 * (b.val / 8 - 0) + 1 * ((128 * h.val + j.val) / 128 - 0)) + 15 = _
    omega
  have hloc : loc12Of (ix2 b (chan h j)) = ix2 b j := by
    funext a
    match a with
    | ⟨0, _⟩ => exact Fin.ext (show b.val % 8 = b.val by omega)
    | ⟨1, _⟩ => exact Fin.ext (show (128 * h.val + j.val) % 128 = j.val by omega)
  have hn : 16 * h.val + 15 < cfg0.N := by omega
  unfold G12
  rw [dif_pos (by rw [hpt]; exact hn), hloc, fold0_congr m c _ _ (16 * h.val + 15) (by omega) hpt]
  refine ((left_all m c _ (by omega) hn).h b j).trans ?_
  have hh : hd ⟨16 * h.val + 15, hn⟩ = h := Fin.ext (show (16 * h.val + 15) / 16 = h.val by omega)
  have ht : T ⟨16 * h.val + 15, hn⟩ + 128 = 2048 := by show 128 * ((16 * h.val + 15) % 16) + 128 = 2048; omega
  rw [hh, ht]

/-- The third result: the last three rows. -/
theorem tail_eq (s : Fin 3) (b : Fin 8) (h : Fin 8) (j : Fin 128) :
    G13 m c (ix3 s b (chan h j)) = (args m c).xpad (2048 + s.val) b (chan h j) := by
  have hN := N_eq
  have hpt : pt13Of (ix3 s b (chan h j)) = 16 * h.val + 15 := by
    show 16 * (8 * (s.val / 3 - 0) + 8 * (b.val / 8 - 0) + 1 * ((128 * h.val + j.val) / 128 - 0)) + 15 = _
    omega
  have hloc : loc13Of (ix3 s b (chan h j)) = ix3 s b j := by
    funext a
    match a with
    | ⟨0, _⟩ => exact Fin.ext (show s.val % 3 = s.val by omega)
    | ⟨1, _⟩ => exact Fin.ext (show b.val % 8 = b.val by omega)
    | ⟨2, _⟩ => exact Fin.ext (show (128 * h.val + j.val) % 128 = j.val by omega)
  have hn : 16 * h.val + 15 < cfg0.N := by omega
  unfold G13
  rw [dif_pos (by rw [hpt]; exact hn), hloc, fold0_congr m c _ _ (16 * h.val + 15) (by omega) hpt]
  refine ((left_all m c _ (by omega) hn).tl s b j).trans ?_
  have hh : hd ⟨16 * h.val + 15, hn⟩ = h := Fin.ext (show (16 * h.val + 15) / 16 = h.val by omega)
  have ht : T ⟨16 * h.val + 15, hn⟩ + 128 = 2048 := by show 128 * ((16 * h.val + 15) % 16) + 128 = 2048; omega
  rw [hh, ht]

end Cert.Lru.Sweep
-- ==== Proof.Lru.RefRun.lean ====
/-
  The reference's run: every weakly fair execution terminates with each result a function of the recurrence's state
  after 2048 trips, and with the arguments unchanged. The recurrence's state is the generated `Step.State` (the state
  `h`, the stack of the states written so far, and the coefficient arrays `a` and `b`), a trip is `Step.step`.
-/
module

public import proofs.«01_k».proof.Proof.Gen.ReferenceIdeal.Run
public import proofs.«01_k».proof.Proof.Gen.ReferenceIdeal.Step

@[expose] public section

set_option maxRecDepth 16384

noncomputable section

namespace Cert.Lru.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The buffers of the loop hold the state `s` and the counter holds the trip's number `j`. -/
structure Holds (V0 : Valuation τ sig (Elt F)) (s : State F) (j : ℕ) : Prop where
  h : V0 (Proc.devRef .tc main_v76_3) = s.main_v76_3
  hs : V0 (Proc.devRef .tc main_v76_4) = s.main_v76_4
  a : V0 (Proc.devRef .tc main_v76_0) = s.main_v76_0
  b : V0 (Proc.devRef .tc main_v76_1) = s.main_v76_1
  n : V0 (Proc.devRef .tc main_v76_2) = constantI S_ 32 (BitVec.ofNat 32 j)

/-- The state the loop starts from, of the arguments in memory. -/
abbrev start (m : (ℓ : Loc nD τ sig) → Buf (Elt F) ℓ) (c : Dev nD) : State F :=
  init (m ((c.tc : Thread nD τ).loc main_arg2)) (m ((c.tc : Thread nD τ).loc main_arg0))
    (m ((c.tc : Thread nD τ).loc main_arg1)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))

/-- The states of the recurrence, trip by trip. -/
def states (m : (ℓ : Loc nD τ sig) → Buf (Elt F) ℓ) (c : Dev nD) : ℕ → State F
  | 0 => start m c
  | n + 1 => step n (states m c n)

variable {V0 : Valuation τ sig (Elt F)} {s : State F} {j : ℕ}

/-- A trip leaves the step's `h`. -/
theorem trip_h (e : Holds V0 s j) : step_main_v76_3 V0 = (step j s).main_v76_3 := by
  rw [Step.step_main_v76_3]
  unfold step_main_v76_3 res_main_while0b_v99 Step.b9 Step.b8 Step.b7 Step.b6 Step.b3 Step.b2
  rw [e.h, e.a, e.b, e.n]
  rfl

/-- A trip leaves the step's stack: the stack with the new `h` at row `j`. -/
theorem trip_hs (e : Holds V0 s j) : step_main_v76_4 V0 = (step j s).main_v76_4 := by
  have eh : res_main_while0b_v99 V0 = Step.b9 j s :=
    (trip_h e).trans (Step.step_main_v76_3 j s)
  rw [Step.step_main_v76_4]
  unfold step_main_v76_4 Step.b13 Step.b10
  rw [eh, e.hs, e.n]
  rfl

/-- A trip counts one up. -/
theorem trip_n (e : Holds V0 s j) : step_main_v76_2 V0 = constantI S_ 32 (BitVec.ofNat 32 (j + 1)) := by
  unfold step_main_v76_2
  rw [e.n]
  funext i
  show BitVec.ofNat 32 j + 1#32 = BitVec.ofNat 32 (j + 1)
  simp only [BitVec.ofNat_add]

/-- A trip keeps the buffers holding a state: the next one. -/
theorem trip (e : Holds V0 s j) : Holds (STEP V0) (step j s) (j + 1) where
  h := (STEP_main_v76_3 V0).trans (trip_h e)
  hs := (STEP_main_v76_4 V0).trans (trip_hs e)
  a := (STEP_main_v76_0 V0).trans e.a
  b := (STEP_main_v76_1 V0).trans e.b
  n := (STEP_main_v76_2 V0).trans (trip_n e)

variable (m : (ℓ : Loc nD τ sig) → Buf (Elt F) ℓ) (c : Dev nD)

set_option maxRecDepth 65536 in
set_option maxHeartbeats 800000 in
/-- The host operations before the loop leave the first state. -/
theorem entry : Holds (entryContents preI m c) (start m c) 0 := by
  constructor <;> (simp only [entryContents, afterL_cons, afterL_nil]; after_reads_simp) <;> rfl

/-- After `k` trips the buffers hold state `k`. -/
theorem after_trips : ∀ k, Holds (STEP^[k] (entryContents preI m c)) (states m c k) k
  | 0 => entry m c
  | k + 1 => by
    rw [Function.iterate_succ_apply']
    exact trip (after_trips k)

/-- The first result after the loop, of the stack and the argument it reads. -/
theorem out_y (e : Holds V0 s j) {x0 : (⟨S2048x8x9728, .f32⟩ : BufTy).Contents (Elt F)}
    (h0 : V0 (Proc.devRef .tc main_arg0) = x0) : out_main_v91 V0 = Step.R_main_v91 s x0 := by
  unfold out_main_v91 Step.R_main_v91
  rw [e.hs, h0]

/-- The third result after the loop, of the arguments it reads. -/
theorem out_tail (e : Holds V0 s j) {x0 : (⟨S2048x8x9728, .f32⟩ : BufTy).Contents (Elt F)}
    (h0 : V0 (Proc.devRef .tc main_arg0) = x0) {x1 : (⟨S8x3x1024, .f32⟩ : BufTy).Contents (Elt F)}
    (h1 : V0 (Proc.devRef .tc main_arg1) = x1) : out_main_v95 V0 = Step.R_main_v95 s x0 x1 := by
  unfold out_main_v95 Step.R_main_v95
  rw [h0, h1]

/-- The reference terminates with its three results read off state 2048 and its arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v91)
          = Step.R_main_v91 (states m c 2048) (m ((c.tc : Thread nD τ).loc main_arg0))
      ∧ r.2.mem ((c.tc : Thread nD τ).loc main_v76_3) = (states m c 2048).main_v76_3
      ∧ r.2.mem ((c.tc : Thread nD τ).loc main_v95) = Step.R_main_v95 (states m c 2048)
          (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    have hk := after_trips m c 2048
    ⟨(h c).1.trans (out_y hk (iter_main_arg0 m c 2048)), (h c).2.1.trans hk.h,
      (h c).2.2.1.trans (out_tail hk (iter_main_arg0 m c 2048) (iter_main_arg1 m c 2048)), (h c).2.2.2⟩)
    (Value.run m ρ)

end Cert.Lru.RefRun

end
-- ==== Proof.Lru.Ref.lean ====
module

public import proofs.«01_k».proof.Proof.Lru.RefRun
public import proofs.«01_k».proof.Proof.Lru.Spec
public import Idealize.ShloMosaic.Lib.Pointwise
public import Idealize.ShloMosaic.Lib.WordCmp

/-!
# What the reference computes

The decay and input arrays of the reference at an index, its sequential recurrence trip by trip, and its three results,
each as the mixer's equations.
-/

@[expose] public section

set_option maxRecDepth 16384

noncomputable section

namespace Cert.Lru.Ref

open Idealize.ShloMosaic Idealize.ShloMosaic.TcCoe Idealize.SL.Sem
open Cert.ReferenceIdeal Cert.ReferenceIdeal.Gen Cert.ReferenceIdeal.Step Cert.Lru
open WordCmp

/-- The ten argument arrays as the mixer's arguments. -/
def ofArrays (x0 : FVec Ideal S2048x8x9728 .f32) (x1 : FVec Ideal S8x3x1024 .f32) (x2 : FVec Ideal S8x1024 .f32)
    (x3 : FVec Ideal S4x1024 .f32) (x4 : FVec Ideal S1024 .f32) (x5 : FVec Ideal S8x128x128 .f32)
    (x6 : FVec Ideal S1024 .f32) (x7 : FVec Ideal S8x128x128 .f32) (x8 x9 : FVec Ideal S1024 .f32) : Args where
  z t b d := x0 (ix3 t b d)
  buf b s d := x1 (ix3 b s d)
  h0 b d := x2 (ix2 b d)
  cw k d := x3 (ix2 k d)
  cb d := x4 (ix1 d)
  wa h i j := x5 (ix3 h i j)
  ba d := x6 (ix1 d)
  wx h i j := x7 (ix3 h i j)
  bx d := x8 (ix1 d)
  lam d := x9 (ix1 d)

section Arrays

variable (x0 : FVec Ideal S2048x8x9728 .f32) (x1 : FVec Ideal S8x3x1024 .f32) (x2 : FVec Ideal S8x1024 .f32)
  (x3 : FVec Ideal S4x1024 .f32) (x4 : FVec Ideal S1024 .f32) (x5 : FVec Ideal S8x128x128 .f32)
  (x6 : FVec Ideal S1024 .f32) (x7 : FVec Ideal S8x128x128 .f32) (x8 x9 : FVec Ideal S1024 .f32)

local notation "AA" => ofArrays x0 x1 x2 x3 x4 x5 x6 x7 x8 x9

/-- The previous three rows followed by the block's input. -/
theorem pad_apply (t : Fin 2051) (b : Fin 8) (d : Fin 1024) :
    A_main_v2 (F := Ideal) x0 x1 x3 x4 x5 x6 x7 x8 x9 (ix3 b t d) = (AA).xpad t.val b d := by
  pointwise [A_main_v2, A_main_v1, A_main_v0]
  unfold Args.xpad
  by_cases ht : t.val < 3
  · simp only [dif_pos ht]; rfl
  · simp only [dif_neg ht, dif_pos (show t.val - 3 < 2048 by omega)]; rfl

/-- The convolution. -/
theorem xc_apply (t : Fin 2048) (b : Fin 8) (d : Fin 1024) :
    A_main_v32 (F := Ideal) x0 x1 x3 x4 x5 x6 x7 x8 x9 (ix3 b t d) = (AA).xc t.val b d := by
  pointwise [A_main_v32, A_main_v31, A_main_v30, A_main_v29, A_main_v28, A_main_v27, A_main_v26, A_main_v25, A_main_v24,
    A_main_v23, A_main_v22, A_main_v21, A_main_v20, A_main_v19, A_main_v18, A_main_v17, A_main_v16, A_main_v15,
    A_main_v14, A_main_v13, A_main_v12, A_main_v11, A_main_v10, A_main_v9, A_main_v8, A_main_v7, A_main_v6, A_main_v5,
    A_main_v4, A_main_v3]
  rw [pad_apply x0 x1 x2, pad_apply x0 x1 x2, pad_apply x0 x1 x2, pad_apply x0 x1 x2]
  unfold Args.xc
  simp only [Nat.add_comm t.val]
  rfl

theorem head_eq (h : Fin 8) (j : Fin 128) (p) : (⟨(chan h j).val / 128, p⟩ : Fin 8) = h :=
  Fin.ext (show (128 * h.val + j.val) / 128 = h.val by omega)

theorem lane_eq (h : Fin 8) (j : Fin 128) (p) : (⟨(chan h j).val % 128, p⟩ : Fin 128) = j :=
  Fin.ext (show (128 * h.val + j.val) % 128 = j.val by omega)

theorem chan_eq (h : Fin 8) (j i : Fin 128) (p) : (⟨(chan h j).val / 128 * 128 + i.val, p⟩ : Fin 1024) = chan h i :=
  Fin.ext (show (128 * h.val + j.val) / 128 * 128 + i.val = 128 * h.val + i.val by omega)

/-- The first gate's linear map. -/
theorem ra_apply (t : Fin 2048) (b h : Fin 8) (j : Fin 128) :
    A_main_v39 (F := Ideal) x0 x1 x3 x4 x5 x6 x7 x8 x9 (ix3 b t (chan h j)) = (AA).lin (AA).wa (AA).ba t.val b h j := by
  pointwise [A_main_v39, A_main_v38, A_main_v37, A_main_v36, A_main_v35, A_main_v34, A_main_v33]
  unfold Args.lin
  refine congrArg (· + x6 (ix1 (chan h j))) (Finset.sum_congr rfl fun i _ => ?_)
  rw [head_eq, lane_eq, chan_eq, xc_apply x0 x1 x2, mul_comm]
  rfl

/-- The second gate's linear map. -/
theorem rx_apply (t : Fin 2048) (b h : Fin 8) (j : Fin 128) :
    A_main_v51 (F := Ideal) x0 x1 x3 x4 x5 x6 x7 x8 x9 (ix3 b t (chan h j)) = (AA).lin (AA).wx (AA).bx t.val b h j := by
  pointwise [A_main_v51, A_main_v50, A_main_v49, A_main_v48, A_main_v47, A_main_v46, A_main_v33]
  unfold Args.lin
  refine congrArg (· + x8 (ix1 (chan h j))) (Finset.sum_congr rfl fun i _ => ?_)
  rw [head_eq, lane_eq, chan_eq, xc_apply x0 x1 x2, mul_comm]
  rfl

/-- The logarithm of the decay. -/
theorem loga_apply (t : Fin 2048) (b h : Fin 8) (j : Fin 128) :
    A_main_v64 (F := Ideal) x0 x1 x3 x4 x5 x6 x7 x8 x9 (ix3 b t (chan h j)) = (AA).loga t.val b h j := by
  pointwise [A_main_v64, A_main_v63, A_main_v62, A_main_v61, A_main_call0_v11, A_main_call0_v10, A_main_call0_v9,
    A_main_call0_v8, A_main_call0_v7, A_main_call0_v6, A_main_call0_v4, A_main_call0_v3, A_main_call0_v1, A_main_v60,
    A_main_v59, A_main_v45, A_main_v43, A_main_v41, A_main_v40, K_main_v44, K_main_v42, K_main_cst, K_main_cst_0,
    K_main_v58, K_main_cst_3, K_main_call0_v0, K_main_call0_v2, K_main_call0_v5, K_main_call0_cst]
  rw [if_neg (fun h => h rfl), ra_apply x0 x1 x2]
  rfl

/-- The decay, time first. -/
theorem a_apply (t : Fin 2048) (b h : Fin 8) (j : Fin 128) :
    A_main_v73 (F := Ideal) x0 x1 x3 x4 x5 x6 x7 x8 x9 (ix3 t b (chan h j)) = (AA).a t.val b h j := by
  pointwise [A_main_v73, A_main_v65]
  rw [loga_apply x0 x1 x2]
  rfl

/-- The recurrence's input, time first. -/
theorem b_apply (t : Fin 2048) (b h : Fin 8) (j : Fin 128) :
    A_main_v74 (F := Ideal) x0 x1 x3 x4 x5 x6 x7 x8 x9 (ix3 t b (chan h j)) = (AA).b t.val b h j := by
  pointwise [A_main_v74, A_main_v72, A_main_v71, A_main_v70, A_main_v69, A_main_v68, A_main_v67, A_main_v57, A_main_v55,
    A_main_v53, A_main_v52, K_main_v66, K_main_v56, K_main_v54, K_main_cst_1, K_main_cst_2, K_main_cst_4]
  rw [loga_apply x0 x1 x2, rx_apply x0 x1 x2, xc_apply x0 x1 x2]
  rfl

end Arrays

/-! ## The recurrence -/

/-- Row `n` lies in the time-major arrays. -/
theorem row_fits (n : ℕ) (hn : n < 2048) : S2048x8x1024.Slices ![n, 0, 0] S1x8x1024 := by
  refine ⟨rfl, fun a => ?_⟩
  match a with
  | ⟨0, _⟩ => show n + 1 ≤ 2048; omega
  | ⟨1, _⟩ => show 0 + 8 ≤ 8; omega
  | ⟨2, _⟩ => show 0 + 1024 ≤ 1024; omega

/-- A trip's new state at an index. -/
theorem step_h (s : State Ideal) (n : ℕ) (hn : n < 2048) (b : Fin 8) (d : Fin 1024) :
    (step n s).main_v76_3 (ix2 b d) = s.main_v76_0 (ix3 ⟨n, hn⟩ b d) * s.main_v76_3 (ix2 b d) + s.main_v76_1 (ix3 ⟨n, hn⟩ b d) := by
  rw [step_main_v76_3]
  unfold b9 b8 b7 b6 b3 b2
  rw [dynamicSlice_eq_extract _ s.main_v76_0 _ _ ![n, 0, 0] (row_fits n hn)
      (by intro a; fin_cases a <;> simp [b0, b1, constantI, toInt_ofNat_of_lt (w := 32) (show n < 2 ^ (32 - 1) by omega)]),
    dynamicSlice_eq_extract _ s.main_v76_1 _ _ ![n, 0, 0] (row_fits n hn)
      (by intro a; fin_cases a <;> simp [b4, b5, constantI, toInt_ofNat_of_lt (w := 32) (show n < 2 ^ (32 - 1) by omega)])]
  pointwise

/-- A trip's stack at an index. -/
theorem step_hs (s : State Ideal) (n : ℕ) (hn : n < 2048) (t : Fin 2048) (b : Fin 8) (d : Fin 1024) :
    (step n s).main_v76_4 (ix3 t b d) = if t.val = n then (step n s).main_v76_3 (ix2 b d) else s.main_v76_4 (ix3 t b d) := by
  rw [step_main_v76_4, step_main_v76_3]
  unfold b13 b10
  rw [dynamicUpdateSlice_eq_update _ _ _ _ ![n, 0, 0] (row_fits n hn)
      (by intro a; fin_cases a <;> simp [b11, b12, constantI, toInt_ofNat_of_lt (w := 32) (show n < 2 ^ (32 - 1) by omega)])]
  generalize b9 n s = v
  pointwise
  by_cases ht : t.val = n
  · rw [if_pos ht, dif_pos (by omega)]
  · rw [if_neg ht, dif_neg (by omega)]

variable (m : (ℓ : Loc nD τ sig) → Buf (Elt Ideal) ℓ) (c : Dev nD)

/-- The reference's arguments as the mixer's. -/
def args : Args :=
  ofArrays (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))

/-- The recurrence after `n` trips: the state, the rows of the stack written so far, the two coefficient arrays. -/
theorem states_apply (n : ℕ) (hn : n ≤ 2048) (b h : Fin 8) (j : Fin 128) :
    (RefRun.states m c n).main_v76_3 (ix2 b (chan h j)) = (args m c).h n b h j
    ∧ (∀ t : Fin 2048, t.val < n → (RefRun.states m c n).main_v76_4 (ix3 t b (chan h j)) = (args m c).h (t.val + 1) b h j)
    ∧ (∀ t : Fin 2048, (RefRun.states m c n).main_v76_0 (ix3 t b (chan h j)) = (args m c).a t.val b h j)
    ∧ (∀ t : Fin 2048, (RefRun.states m c n).main_v76_1 (ix3 t b (chan h j)) = (args m c).b t.val b h j) := by
  induction n with
  | zero =>
    exact ⟨rfl, fun t ht => absurd ht (by omega), fun t => a_apply _ _ _ _ _ _ _ _ _ _ t b h j,
      fun t => b_apply _ _ _ _ _ _ _ _ _ _ t b h j⟩
  | succ n ih =>
    obtain ⟨e1, e2, e3, e4⟩ := ih (by omega)
    have e : (RefRun.states m c (n + 1)).main_v76_3 (ix2 b (chan h j)) = (args m c).h (n + 1) b h j := by
      refine (step_h (RefRun.states m c n) n (by omega) b (chan h j)).trans ?_
      rw [e1, e3, e4]
      rfl
    refine ⟨e, fun t ht => ?_, e3, e4⟩
    refine (step_hs (RefRun.states m c n) n (by omega) t b (chan h j)).trans ?_
    by_cases h' : t.val = n
    · rw [if_pos h', h']; exact e
    · rw [if_neg h']; exact e2 t (by omega)

/-- The first result. -/
theorem y_eq (t : Fin 2048) (b h : Fin 8) (j : Fin 128) :
    R_main_v91 (F := Ideal) (RefRun.states m c 2048) (m ((c.tc : Thread nD τ).loc main_arg0)) (ix3 t b (chan h j))
      = (args m c).y t b h j := by
  pointwise [R_main_v91]
  rw [(states_apply m c 2048 le_rfl b h j).2.1 t t.isLt]
  rfl

/-- The second result. -/
theorem hn_eq (b h : Fin 8) (j : Fin 128) :
    (RefRun.states m c 2048).main_v76_3 (ix2 b (chan h j)) = (args m c).h 2048 b h j :=
  (states_apply m c 2048 le_rfl b h j).1

/-- The third result. -/
theorem tail_eq (t : Fin 3) (b h : Fin 8) (j : Fin 128) :
    R_main_v95 (F := Ideal) (RefRun.states m c 2048) (m ((c.tc : Thread nD τ).loc main_arg0))
        (m ((c.tc : Thread nD τ).loc main_arg1)) (ix3 t b (chan h j))
      = (args m c).xpad (2048 + t.val) b (chan h j) := by
  pointwise [R_main_v95]
  unfold Args.xpad
  simp only [dif_neg (show ¬ 2048 + t.val < 3 by omega), dif_pos (show 2048 + t.val - 3 < 2048 by omega)]
  rfl

end Cert.Lru.Ref
-- ==== Proof.Lru.Claims.lean ====
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Lru.Sweep
public import proofs.«01_k».proof.Proof.Lru.Ref
public import Idealize.ShloMosaic.Adequacy
public import Idealize.ShloMosaic.Init

/-!
# The claims about the RG-LRU mixer

The frames of the three programs, and the equation of the kernel's three results with the reference's.
-/

@[expose] public section

noncomputable section

namespace Cert.Lru.Claims

open Idealize.ShloMosaic Idealize.ShloMosaic.TcCoe Idealize.SL.Sem

/-- The kernel runs and leaves its arguments unchanged. -/
theorem frame_kernel : Cert.quiescent_Kernel := fun m ρ _ => Cert.Kernel.Gen.frame m ρ

/-- So does its ideal reading. -/
theorem frame_ideal : Cert.quiescent_KernelIdeal := fun m ρ _ => Cert.KernelIdeal.Gen.frame m ρ

/-- So does the reference. -/
theorem frame_reference : Cert.quiescent_ReferenceIdeal := fun m ρ _ =>
  (θ_run Cert.ReferenceIdeal.defs _ _).mono
    (fun r h => ⟨fun c => (h c).2.2.2, sem_eq_zero_of_no_sems (by decide) r.2⟩) (RefRun.run m ρ)

/-- Every channel is a lane of a head. -/
theorem chan_surj (d : Fin 1024) : ∃ h j, d = chan h j :=
  ⟨⟨d.val / 128, by omega⟩, ⟨d.val % 128, by omega⟩, Fin.ext (by show d.val = 128 * (d.val / 128) + d.val % 128; omega)⟩

/-- From equal arguments both programs return the same three arrays: the output, the last state, the last rows. -/
theorem algebraic : Cert.algebraic_KernelIdeal_ReferenceIdeal := by
  intro m g m' g' _ hm
  have hA : ∀ c, Ref.args m' c = Blocks.args m c := by
    intro c
    obtain ⟨h0, h1, h2, h3, h4, h5, h6, h7, h8, h9⟩ := hm c
    unfold Ref.args
    rw [h0, h1, h2, h3, h4, h5, h6, h7, h8, h9]
    rfl
  refine ⟨fun c => Cert.KernelIdeal.Value.G11 m c, fun c => Cert.KernelIdeal.Value.G12 m c,
    fun c => Cert.KernelIdeal.Value.G13 m c, Cert.KernelIdeal.Value.run m g, ?_⟩
  refine (θ_run Cert.ReferenceIdeal.defs _ _).mono (fun r h c => ?_) (RefRun.run m' g')
  obtain ⟨e1, e2, e3, k⟩ := h c
  refine ⟨e1.trans ?_, e2.trans ?_, e3.trans ?_, k⟩
  · funext i
    obtain ⟨t, b, d, rfl⟩ : ∃ (t : Fin 2048) (b : Fin 8) (d : Fin 1024), i = ix3 t b d := ⟨_, _, _, (ix3_eta i).symm⟩
    obtain ⟨h, j, rfl⟩ := chan_surj d
    rw [Ref.y_eq m' c t b h j, hA c]
    exact (Sweep.y_eq m c t b h j).symm
  · funext i
    obtain ⟨b, d, rfl⟩ : ∃ (b : Fin 8) (d : Fin 1024), i = ix2 b d := ⟨_, _, (ix2_eta i).symm⟩
    obtain ⟨h, j, rfl⟩ := chan_surj d
    rw [Ref.hn_eq m' c b h j, hA c]
    exact (Sweep.hn_eq m c b h j).symm
  · funext i
    obtain ⟨t, b, d, rfl⟩ : ∃ (t : Fin 3) (b : Fin 8) (d : Fin 1024), i = ix3 t b d := ⟨_, _, _, (ix3_eta i).symm⟩
    obtain ⟨h, j, rfl⟩ := chan_surj d
    rw [Ref.tail_eq m' c t b h j, hA c]
    exact (Sweep.tail_eq m c t b h j).symm

end Cert.Lru.Claims
-- ==== Proof.Moe.Runs.lean ====
/- The experts call: what the runs of its body share — the buffers at the region, the prefetched tables, the blocks. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel2Ideal.Moe

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S168 .i32 := Memref.whole main_arg0
abbrev htbM0_0 : tbM0_0.IsWhole := Memref.isWhole_whole _
abbrev tbM0_1 : Memref sig .tc .smem S168 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).2 main_arg4 (by decide : main_arg4 ∈ Pipeline.restRefs sig spec0)).trans (V_main_arg4 m c),
      ((h c).1 3).trans (((dats 0 c).arrAt_in 3 rfl _).trans ((hA c 3).trans (V_main_arg5 m c))),
      ((h c).2 main_arg6 (by decide : main_arg6 ∈ Pipeline.restRefs sig spec0)).trans (V_main_arg6 m c)⟩) h

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-! ## The kernel body on any staging memrefs: a subtype the run finds -/

/-- One staging buffer of output window 5, through which its contents are stated (`View.read_writes_of_cover`: the
    choice does not matter). -/
abbrev VO0_5 : View sig .tc .vmem S512x1024 .f32 := (Memref.whole cc0_stg5_0 : Memref sig .tc .vmem S512x1024 .f32).view
/-- Each window's current staging memref at point `t`, spelled as the pipeline passes it (`bodyAt0`), and its wholeness. -/
abbrev ms0_0 (hO : Ok m) (t : Fin (cfgM m hO).N) : Memref sig .tc .vmem S512x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1024x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x1024 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S1024x2048 .bf16 := Memref.whole cc0_scratch0
abbrev scM0_1 : Memref sig .tc .vmem S1024x1024 .bf16 := Memref.whole cc0_scratch1
/-- The scratch `arg9` the kernel carries between points, as a view: what it holds is stated through it. -/
abbrev VS0_0 : View sig .tc .vmem S1024x2048 .bf16 := scM0_0.view
/-- The scratch `arg10` the kernel carries between points, as a view: what it holds is stated through it. -/
abbrev VS0_1 : View sig .tc .vmem S1024x1024 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel2Ideal.Moe

end
-- ==== Proof.Moe.Body.lean ====
/- The experts call: one run of the kernel's body, on any staging buffers and any tables. -/
module

public import proofs.«01_k».proof.Proof.Moe.Runs
public import Idealize.ShloMosaic.Lib.VecWindow

@[expose] public section

set_option maxRecDepth 16384

noncomputable section

namespace Cert.Kernel2Ideal.Moe

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of the expert table at one offset. -/
abbrev rd0 (c : Dev nD) (xt0 : TbBuf0 (F := F) c tbM0_0) (off : Fin 1 → ℕ) (inb : ∀ a, off a + S1.size a ≤ S168.size a) : BitVec 32 :=
  View.readAt (Elt F) tbM0_0.view (Rect.unit (s := S168) off S1.size inb).toLoadRect xt0 (Shape.Idx.first (numel1_S1.symm ▸ Nat.one_pos))
/-- The word of the validity table at one offset. -/
abbrev rd1 (c : Dev nD) (xt1 : TbBuf0 (F := F) c tbM0_1) (off : Fin 1 → ℕ) (inb : ∀ a, off a + S1.size a ≤ S168.size a) : BitVec 32 :=
  View.readAt (Elt F) tbM0_1.view (Rect.unit (s := S168) off S1.size inb).toLoadRect xt1 (Shape.Idx.first (numel1_S1.symm ▸ Nat.one_pos))

/-- Whether the body fills its scratch: at the first tile, and where the tile's expert is not the one before's. -/
def chW (g : ℕ) (a b : BitVec 32) : Prop :=
  Scalar.cmpi .ne (Scalar.extui (Scalar.ori (Scalar.cmpi .eq (BitVec.ofNat 32 g) 0#32) (Scalar.cmpi .ne a b)) : BitVec 32) 0#32 = 1#1

instance (g : ℕ) (a b : BitVec 32) : Decidable (chW g a b) := by unfold chW; infer_instance

/-- A whole load of a whole buffer reads its contents. -/
theorem readAt_unread_full {sp : Space} {s : Shape} {e : EltTy} {M : Memref sig .tc sp s e} (hM : M.IsWhole) (x : s.Idx → Elt F e) {off : Fin s.rank → ℕ}
    (inb : ∀ a, off a + s.size a ≤ s.size a) : M.view.readAt (Elt F) (Rect.unit off s.size inb).toLoadRect (hM.unread x) = x := by
  rw [View.readAt_full, hM.read_unread]

set_option maxHeartbeats 4000000 in
theorem body_run (c : Dev nD) (i : grid0.Coords) (arg3 : Memref sig .tc .vmem S512x1024 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S512x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S512x1024 .f32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xs0 : Vec F S1024x2048 .bf16) (xs1 : Vec F S1024x1024 .bf16)
    (s0 : Vec F S1024x2048 .bf16) (s1 : Vec F S1024x1024 .bf16) (o : Vec F S512x1024 .f32)
    (hs0 : s0 = if chW (i 0).val (rd0 c xt0 (k0_off1 i) (k0_off1_inb i)) (rd0 c xt0 (k0_off2 i) (k0_off2_inb i)) then k0_pay1 x1 else xs0)
    (hs1 : s1 = if chW (i 0).val (rd0 c xt0 (k0_off1 i) (k0_off1_inb i)) (rd0 c xt0 (k0_off2 i) (k0_off2_inb i)) then k0_pay2 x3 else xs1)
    (ho : (k0_cond3 (rd1 c xt1 (k0_off4 i) (k0_off4_inb i)) = 1#1 ∧ o = k0_pay3)
      ∨ (¬ k0_cond3 (rd1 c xt1 (k0_off4 i) (k0_off4_inb i)) = 1#1 ∧ k0_cond2 (rd1 c xt1 (k0_off3 i) (k0_off3_inb i)) = 1#1 ∧ o = k0_pay4 x0 s0 x2 s1 x4))
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare o ∗ owns (c : Thread nD τ) arg9 fullShare s0 ∗ owns (c : Thread nD τ) arg10 fullShare s1 ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K := by
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr
      swap; · iexact H5
      ipureintro
      rcases ho with ⟨h3, rfl⟩ | ⟨h3, h2, rfl⟩
      · refine (congrArg (View.read (Elt F) arg8.view) (dif_pos h3)).trans ?_
        exact View.read_writes_full _ _ _ _ _
      · refine (congrArg (View.read (Elt F) arg8.view) ((dif_neg h3).trans (dif_pos h2))).trans ?_
        refine (View.read_writes_full _ _ _ _ _).trans ?_
        unfold body_run.sl.r_3
        rw [readAt_unread_full harg3, readAt_unread_full harg5, readAt_unread_full harg7]
        refine congrArg₂ (fun a b => k0_pay4 x0 a x2 b x4) ?_ ?_
        · unfold body_run.sl.v23
          subst hs0
          by_cases h : chW (i 0).val (rd0 c xt0 (k0_off1 i) (k0_off1_inb i)) (rd0 c xt0 (k0_off2 i) (k0_off2_inb i))
          · rw [if_pos h]
            refine (congrArg (View.readAt (Elt F) arg9.view _) (dif_pos h)).trans ?_
            refine (View.readAt_writes_full _ _ _ _ _ _).trans (congrArg k0_pay1 ?_)
            exact readAt_unread_full harg4 _ _
          · rw [if_neg h]
            exact (congrArg (View.readAt (Elt F) arg9.view _) (dif_neg h)).trans (readAt_unread_full harg9 _ _)
        · unfold body_run.sl.v51
          subst hs1
          by_cases h : chW (i 0).val (rd0 c xt0 (k0_off1 i) (k0_off1_inb i)) (rd0 c xt0 (k0_off2 i) (k0_off2_inb i))
          · rw [if_pos h]
            refine (congrArg (View.readAt (Elt F) arg10.view _) (dif_pos h)).trans ?_
            refine (View.readAt_writes_full _ _ _ _ _ _).trans (congrArg k0_pay2 ?_)
            exact readAt_unread_full harg6 _ _
          · rw [if_neg h]
            exact (congrArg (View.readAt (Elt F) arg10.view _) (dif_neg h)).trans (readAt_unread_full harg10 _ _)
    isplitl [HS0]
    · iexists _; isplitr
      swap; · iexact HS0
      ipureintro
      subst hs0
      by_cases h : chW (i 0).val (rd0 c xt0 (k0_off1 i) (k0_off1_inb i)) (rd0 c xt0 (k0_off2 i) (k0_off2_inb i))
      · rw [if_pos h]
        refine (congrArg (View.read (Elt F) arg9.view) (dif_pos h)).trans ?_
        refine (View.read_writes_full _ _ _ _ _).trans (congrArg k0_pay1 ?_)
        exact readAt_unread_full harg4 _ _
      · rw [if_neg h]
        exact (congrArg (View.read (Elt F) arg9.view) (dif_neg h)).trans (harg9.read_unread _)
    isplitl [HS1]
    · iexists _; isplitr
      swap; · iexact HS1
      ipureintro
      subst hs1
      by_cases h : chW (i 0).val (rd0 c xt0 (k0_off1 i) (k0_off1_inb i)) (rd0 c xt0 (k0_off2 i) (k0_off2_inb i))
      · rw [if_pos h]
        refine (congrArg (View.read (Elt F) arg10.view) (dif_pos h)).trans ?_
        refine (View.read_writes_full _ _ _ _ _).trans (congrArg k0_pay2 ?_)
        exact readAt_unread_full harg6 _ _
      · rw [if_neg h]
        exact (congrArg (View.read (Elt F) arg10.view) (dif_neg h)).trans (harg10.read_unread _)
    isplitl [HT0]; · iexact HT0
    iexact HT1

end Cert.Kernel2Ideal.Moe

end
-- ==== Proof.Moe.Tables.lean ====
/- The experts call: the words of the two tables, and the blocks they place. -/
module

public import proofs.«01_k».proof.Proof.Moe.Body
public import Idealize.ShloMosaic.Lib.Claim
public import Idealize.ShloMosaic.Lib.Pipeline.Covers
public import Idealize.ShloMosaic.Lib.Pipeline.ValueKit
public import Idealize.ShloMosaic.Lib.Pointwise

@[expose] public section

set_option maxRecDepth 16384

noncomputable section

namespace Cert.Kernel2Ideal.Moe

open Cert.Kernel2Ideal.Gen
open Idealize.ShloMosaic Idealize.ShloMosaic.TcCoe Idealize.SL.Sem

variable {F : FTy → Type} [FloatOps F]
variable (m : (ℓ : Loc nD τ sig) → Buf (Elt F) ℓ)

/-- The expert's number of tile `k`, and its flag, as the tables hold them. -/
def ew (k : Fin 168) : BitVec 32 := (tbl m 0 : S168.Idx → BitVec 32) (ix1 k)
def vw (k : Fin 168) : BitVec 32 := (tbl m 1 : S168.Idx → BitVec 32) (ix1 k)

/-- What the precondition says of the tables: an expert's number, and a flag that is 0 or 1. -/
structure TblOk : Prop where
  expert : ∀ k, (ew m k).toNat < 32
  flag : ∀ k, vw m k = 0#32 ∨ vw m k = 1#32

theorem offs : ∀ t : Fin grid0.N, k0_off1 (grid0.coords t) = ![t.val] ∧ k0_off2 (grid0.coords t) = ![t.val - 1]
    ∧ k0_off3 (grid0.coords t) = ![t.val] ∧ k0_off4 (grid0.coords t) = ![t.val] ∧ (grid0.coords t 0).val = t.val := by
  decide +kernel

theorem off1 (t : Fin grid0.N) : k0_off1 (grid0.coords t) = ![t.val] := (offs t).1
theorem off2 (t : Fin grid0.N) : k0_off2 (grid0.coords t) = ![t.val - 1] := (offs t).2.1
theorem off3 (t : Fin grid0.N) : k0_off3 (grid0.coords t) = ![t.val] := (offs t).2.2.1
theorem off4 (t : Fin grid0.N) : k0_off4 (grid0.coords t) = ![t.val] := (offs t).2.2.2.1
theorem coord (t : Fin grid0.N) : (grid0.coords t 0).val = t.val := (offs t).2.2.2.2

/-- The grid's point as a tile's number. -/
def tl (t : Fin grid0.N) : Fin 168 := ⟨t.val, lt_of_lt_of_eq t.isLt N_0⟩
def tlp (t : Fin grid0.N) : Fin 168 := ⟨t.val - 1, lt_of_le_of_lt (Nat.sub_le _ _) (lt_of_lt_of_eq t.isLt N_0)⟩

theorem emb_word {off : Fin 1 → ℕ} {n : ℕ} (hn : n < 168) (h : off = ![n]) (inb : ∀ a, off a + S1.size a ≤ S168.size a) :
    (Rect.unit (s := S168) off S1.size inb).emb (Shape.Idx.first (numel1_S1.symm ▸ Nat.one_pos)) = ix1 (⟨n, hn⟩ : Fin 168) := by
  subst h
  funext a
  obtain rfl : a = 0 := Subsingleton.elim _ _
  apply Fin.ext
  simp [Rect.emb, Rect.unit, ix1, Shape.Idx.first]

theorem rd0_cur (c : Dev nD) (t : Fin grid0.N) : rd0 (F := F) c (tbl m 0) (k0_off1 (grid0.coords t)) (k0_off1_inb _) = ew m (tl t) :=
  congrArg (tbl m 0 : S168.Idx → BitVec 32) (emb_word (tl t).isLt (off1 t) _)
theorem rd0_prev (c : Dev nD) (t : Fin grid0.N) : rd0 (F := F) c (tbl m 0) (k0_off2 (grid0.coords t)) (k0_off2_inb _) = ew m (tlp t) :=
  congrArg (tbl m 0 : S168.Idx → BitVec 32) (emb_word (tlp t).isLt (off2 t) _)
theorem rd1_3 (c : Dev nD) (t : Fin grid0.N) : rd1 (F := F) c (tbl m 1) (k0_off3 (grid0.coords t)) (k0_off3_inb _) = vw m (tl t) :=
  congrArg (tbl m 1 : S168.Idx → BitVec 32) (emb_word (tl t).isLt (off3 t) _)
theorem rd1_4 (c : Dev nD) (t : Fin grid0.N) : rd1 (F := F) c (tbl m 1) (k0_off4 (grid0.coords t)) (k0_off4_inb _) = vw m (tl t) :=
  congrArg (tbl m 1 : S168.Idx → BitVec 32) (emb_word (tl t).isLt (off4 t) _)

theorem tr1 (t : Fin grid0.N) : cc0_transform_1 k0_off1_inb numel1_S1 (tbl m) (grid0.coords t) = ![0, (ew m (tl t)).toNat, 0, 0] :=
  congrArg (fun w : BitVec 32 => (![0, w.toNat, 0, 0] : Fin 4 → ℕ)) (congrArg (tbl m 0 : S168.Idx → BitVec 32) (emb_word (tl t).isLt (off1 t) (k0_off1_inb _)))
theorem tr2 (t : Fin grid0.N) : cc0_transform_2 k0_off1_inb numel1_S1 (tbl m) (grid0.coords t) = ![0, (ew m (tl t)).toNat, 0, 0] := tr1 m t
theorem tr3 (t : Fin grid0.N) : cc0_transform_3 k0_off1_inb numel1_S1 (tbl m) (grid0.coords t) = ![0, (ew m (tl t)).toNat, 0, 0] := tr1 m t
theorem tr4 (t : Fin grid0.N) : cc0_transform_4 k0_off1_inb numel1_S1 (tbl m) (grid0.coords t) = ![0, (ew m (tl t)).toNat, 0, 0] := tr1 m t
theorem tr0 : ∀ t : Fin grid0.N, cc0_transform_0 (grid0.coords t) = ![t.val, 0] := by decide +kernel

theorem ok_of (h : TblOk m) : Ok m := by
  have e : ∀ i : grid0.Coords, ∃ t : Fin grid0.N, grid0.coords t = i := Pipeline.Grid.coords_surjective grid0
  refine ⟨fun i => ⟨?_, .inl rfl⟩, fun i => ⟨?_, .inl rfl⟩, fun i => ⟨?_, .inl rfl⟩, fun i => ⟨?_, .inl rfl⟩⟩ <;>
    obtain ⟨t, rfl⟩ := e i <;> have := h.expert (tl t)
  · rw [tr1]; intro a; fin_cases a <;> simp <;> omega
  · rw [tr2]; intro a; fin_cases a <;> simp <;> omega
  · rw [tr3]; intro a; fin_cases a <;> simp <;> omega
  · rw [tr4]; intro a; fin_cases a <;> simp <;> omega

variable (hO : Ok m) (c : Dev nD)

theorem index0 (t : Fin (cfgM m hO).N) : (pcfg0.win (adm m hO) 0).index t = ![t.val, 0] := tr0 t
theorem index1 (t : Fin (cfgM m hO).N) : (pcfg0.win (adm m hO) 1).index t = ![0, (ew m (tl t)).toNat, 0, 0] := tr1 m t
theorem index2 (t : Fin (cfgM m hO).N) : (pcfg0.win (adm m hO) 2).index t = ![0, (ew m (tl t)).toNat, 0, 0] := tr2 m t
theorem index3 (t : Fin (cfgM m hO).N) : (pcfg0.win (adm m hO) 3).index t = ![0, (ew m (tl t)).toNat, 0, 0] := tr3 m t
theorem index4 (t : Fin (cfgM m hO).N) : (pcfg0.win (adm m hO) 4).index t = ![0, (ew m (tl t)).toNat, 0, 0] := tr4 m t

/-- The row of the routed rows that is row `r` of tile `k`. -/
def row (k : Fin 168) (r : Fin 512) : Fin 86016 := ⟨512 * k.val + r.val, by omega⟩
/-- The expert of tile `k`. -/
def te (h : TblOk m) (k : Fin 168) : Fin 32 := ⟨(ew m k).toNat, h.expert k⟩

theorem iblk0_apply (t : Fin (cfgM m hO).N) (r : Fin 512) (d : Fin 1024) :
    (iblk m hO c 0 t : Vec F S512x1024 .f32) (ix2 r d) = m ((c : Thread nD τ).loc main_arg2) (ix2 (row (tl t) r) d) := by
  show _ = V m c main_arg2 (ix2 (row (tl t) r) d)
  blk_point [iblk, V, index0 m hO t, row, tl]
theorem iblk1_apply (h : TblOk m) (t : Fin (cfgM m hO).N) (r : Fin 1024) (d : Fin 2048) :
    (iblk m hO c 1 t : Vec F S1x1x1024x2048 .f32) (ix4 (0 : Fin 1) (0 : Fin 1) r d)
      = m ((c : Thread nD τ).loc main_arg3) (ix4 (0 : Fin 4) (te m h (tl t)) r d) := by
  show _ = V m c main_arg3 (ix4 (0 : Fin 4) (te m h (tl t)) r d)
  blk_point [iblk, V, index1 m hO t, te]
theorem iblk3_apply (h : TblOk m) (t : Fin (cfgM m hO).N) (r : Fin 1024) (d : Fin 1024) :
    (iblk m hO c 3 t : Vec F S1x1x1024x1024 .f32) (ix4 (0 : Fin 1) (0 : Fin 1) r d)
      = m ((c : Thread nD τ).loc main_arg5) (ix4 (0 : Fin 4) (te m h (tl t)) r d) := by
  show _ = V m c main_arg5 (ix4 (0 : Fin 4) (te m h (tl t)) r d)
  blk_point [iblk, V, index3 m hO t, te]
theorem V_main_v0 (e : Fin 32) (d : Fin 2048) :
    V m c main_v0 (ix4 (0 : Fin 4) e (0 : Fin 1) d) = m ((c : Thread nD τ).loc main_arg4) (ix3 (0 : Fin 4) e d) := by
  unfold_abbrev_sides
  after_results
  pointwise []
theorem V_main_v1 (e : Fin 32) (d : Fin 1024) :
    V m c main_v1 (ix4 (0 : Fin 4) e (0 : Fin 1) d) = m ((c : Thread nD τ).loc main_arg6) (ix3 (0 : Fin 4) e d) := by
  unfold_abbrev_sides
  after_results
  pointwise []
theorem iblk2_apply (h : TblOk m) (t : Fin (cfgM m hO).N) (d : Fin 2048) :
    (iblk m hO c 2 t : Vec F S1x1x1x2048 .f32) (ix4 (0 : Fin 1) (0 : Fin 1) (0 : Fin 1) d)
      = m ((c : Thread nD τ).loc main_arg4) (ix3 (0 : Fin 4) (te m h (tl t)) d) := by
  rw [← V_main_v0 m c]
  blk_point [iblk, index2 m hO t, te]
theorem iblk4_apply (h : TblOk m) (t : Fin (cfgM m hO).N) (d : Fin 1024) :
    (iblk m hO c 4 t : Vec F S1x1x1x1024 .f32) (ix4 (0 : Fin 1) (0 : Fin 1) (0 : Fin 1) d)
      = m ((c : Thread nD τ).loc main_arg6) (ix3 (0 : Fin 4) (te m h (tl t)) d) := by
  rw [← V_main_v1 m c]
  blk_point [iblk, index4 m hO t, te]

/-- Two tiles of one expert have the same weights. -/
theorem iblk1_congr (h : TblOk m) (t t' : Fin (cfgM m hO).N) (e : ew m (tl t) = ew m (tl t')) :
    (iblk m hO c 1 t : Vec F S1x1x1024x2048 .f32) = iblk m hO c 1 t' := by
  have e' : te m h (tl t) = te m h (tl t') := by simp only [te, e]
  apply funext (α := S1x1x1024x2048.Idx); intro x
  obtain ⟨a, b, r, d, rfl⟩ : ∃ (a : Fin 1) (b : Fin 1) (r : Fin 1024) (d : Fin 2048), x = ix4 a b r d := ⟨x 0, x 1, x 2, x 3, (ix4_eta x).symm⟩
  obtain rfl : a = 0 := Subsingleton.elim _ _
  obtain rfl : b = 0 := Subsingleton.elim _ _
  rw [iblk1_apply m hO c h t, iblk1_apply m hO c h t', e']
theorem iblk3_congr (h : TblOk m) (t t' : Fin (cfgM m hO).N) (e : ew m (tl t) = ew m (tl t')) :
    (iblk m hO c 3 t : Vec F S1x1x1024x1024 .f32) = iblk m hO c 3 t' := by
  have e' : te m h (tl t) = te m h (tl t') := by simp only [te, e]
  apply funext (α := S1x1x1024x1024.Idx); intro x
  obtain ⟨a, b, r, d, rfl⟩ : ∃ (a : Fin 1) (b : Fin 1) (r : Fin 1024) (d : Fin 1024), x = ix4 a b r d := ⟨x 0, x 1, x 2, x 3, (ix4_eta x).symm⟩
  obtain rfl : a = 0 := Subsingleton.elim _ _
  obtain rfl : b = 0 := Subsingleton.elim _ _
  rw [iblk3_apply m hO c h t, iblk3_apply m hO c h t', e']

end Cert.Kernel2Ideal.Moe

end
-- ==== Proof.Moe.Frame.lean ====
/- The experts call: its frame — what each tile leaves in the scratch and the output, the body at every tile, the run. -/
module

public import proofs.«01_k».proof.Proof.Moe.Tables

@[expose] public section

set_option maxRecDepth 16384

noncomputable section

namespace Cert.Kernel2Ideal.Moe

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a tile leaves -/

/-- The scratch after tile `t`: its expert's weights, cast. -/
def Sg (hO : Ok m) (c : Dev nD) (t : Fin (cfgM m hO).N) : Vec F S1024x2048 .bf16 := k0_pay1 (iblk m hO c 1 t)
def Sd (hO : Ok m) (c : Dev nD) (t : Fin (cfgM m hO).N) : Vec F S1024x1024 .bf16 := k0_pay2 (iblk m hO c 3 t)
/-- The output block of tile `t`: the expert's rows where the tile is valid, zeros where it is not. -/
def Out (hO : Ok m) (c : Dev nD) (t : Fin (cfgM m hO).N) : Vec F S512x1024 .f32 :=
  if vw m (tl t) = 1#32 then k0_pay4 (iblk m hO c 0 t) (Sg m hO c t) (iblk m hO c 2 t) (Sd m hO c t) (iblk m hO c 4 t) else k0_pay3

theorem chW_zero (a b : BitVec 32) : chW 0 a b := by
  unfold chW
  have : ∀ x : BitVec 1, Scalar.cmpi .ne (Scalar.extui (Scalar.ori (Scalar.cmpi .eq (BitVec.ofNat 32 0) 0#32) x) : BitVec 32) 0#32 = 1#1 := by decide
  exact this _
theorem eq_of_not_chW {g : ℕ} {a b : BitVec 32} (h : ¬ chW g a b) : a = b := by
  by_contra hne
  apply h
  unfold chW
  have h1 : Scalar.cmpi .ne a b = 1#1 := by
    show BitVec.ofBool (a != b) = 1#1
    rw [bne_iff_ne.2 hne]; rfl
  rw [h1]
  have : ∀ x : BitVec 1, Scalar.cmpi .ne (Scalar.extui (Scalar.ori x 1#1) : BitVec 32) 0#32 = 1#1 := by decide
  exact this _

theorem Sg_step (hO : Ok m) (h : TblOk m) (c : Dev nD) (t : Fin (cfgM m hO).N) (xs : Vec F S1024x2048 .bf16)
    (hx : ∀ hz : t.val ≠ 0, xs = Sg m hO c ⟨t.val - 1, by have := t.isLt; omega⟩) :
    Sg m hO c t = if chW (grid0.coords t 0).val (rd0 c (tbl m 0) (k0_off1 (grid0.coords t)) (k0_off1_inb _)) (rd0 c (tbl m 0) (k0_off2 (grid0.coords t)) (k0_off2_inb _)) then k0_pay1 (iblk m hO c 1 t) else xs := by
  split
  · rfl
  · rename_i hc
    have hz : t.val ≠ 0 := fun hz => hc (by rw [coord t, hz]; exact chW_zero _ _)
    rw [hx hz]
    have e := eq_of_not_chW hc
    rw [rd0_cur m c t, rd0_prev m c t] at e
    exact congrArg k0_pay1 (iblk1_congr m hO c h t ⟨t.val - 1, by have := t.isLt; omega⟩ e)
theorem Sd_step (hO : Ok m) (h : TblOk m) (c : Dev nD) (t : Fin (cfgM m hO).N) (xs : Vec F S1024x1024 .bf16)
    (hx : ∀ hz : t.val ≠ 0, xs = Sd m hO c ⟨t.val - 1, by have := t.isLt; omega⟩) :
    Sd m hO c t = if chW (grid0.coords t 0).val (rd0 c (tbl m 0) (k0_off1 (grid0.coords t)) (k0_off1_inb _)) (rd0 c (tbl m 0) (k0_off2 (grid0.coords t)) (k0_off2_inb _)) then k0_pay2 (iblk m hO c 3 t) else xs := by
  split
  · rfl
  · rename_i hc
    have hz : t.val ≠ 0 := fun hz => hc (by rw [coord t, hz]; exact chW_zero _ _)
    rw [hx hz]
    have e := eq_of_not_chW hc
    rw [rd0_cur m c t, rd0_prev m c t] at e
    exact congrArg k0_pay2 (iblk3_congr m hO c h t ⟨t.val - 1, by have := t.isLt; omega⟩ e)

theorem cond_zero : k0_cond3 0#32 = 1#1 ∧ ¬ k0_cond3 1#32 = 1#1 ∧ k0_cond2 1#32 = 1#1 := by decide

theorem Out_step (hO : Ok m) (h : TblOk m) (c : Dev nD) (t : Fin (cfgM m hO).N) :
    (k0_cond3 (rd1 c (tbl m 1) (k0_off4 (grid0.coords t)) (k0_off4_inb _)) = 1#1 ∧ Out m hO c t = k0_pay3)
      ∨ (¬ k0_cond3 (rd1 c (tbl m 1) (k0_off4 (grid0.coords t)) (k0_off4_inb _)) = 1#1 ∧ k0_cond2 (rd1 c (tbl m 1) (k0_off3 (grid0.coords t)) (k0_off3_inb _)) = 1#1
        ∧ Out m hO c t = k0_pay4 (iblk m hO c 0 t) (Sg m hO c t) (iblk m hO c 2 t) (Sd m hO c t) (iblk m hO c 4 t)) := by
  rw [rd1_3 m c t, rd1_4 m c t]
  rcases h.flag (tl t) with e | e
  · left; rw [e]; refine ⟨cond_zero.1, ?_⟩; unfold Out; rw [if_neg (by rw [e]; decide)]
  · right; rw [e]; refine ⟨cond_zero.2.1, cond_zero.2.2, ?_⟩; unfold Out; rw [if_pos e]

theorem atD_of (t : Fin grid0.N) (off : Fin 1 → ℕ) (ho : off = ![t.val]) : (tbl m).atD 1 off = vw m (tl t) := by
  subst ho
  have := (tl t).isLt
  unfold Pipeline.Prefetch.Contents.atD
  refine (dif_pos (show ∀ a : Fin 1, (![t.val] : Fin 1 → ℕ) a + 1 ≤ S168.size a from fun a => by obtain rfl : a = 0 := Subsingleton.elim _ _; exact this)).trans ?_
  refine congrArg (tbl m 1 : S168.Idx → BitVec 32) ?_
  apply funext (α := Fin 1); intro a; obtain rfl : a = 0 := Subsingleton.elim _ _; rfl

/-- At every tile the body stores its output block. -/
theorem idle5 (hO : Ok m) (h : TblOk m) (t : Fin (cfgM m hO).N) : (cfgM m hO).idle 5 ((cfgM m hO).grid.coords t) = false := by
  show (!(k0_cond2 ((tbl m).atD 1 (k0_off3 (grid0.coords t))) == 1#1) && !(k0_cond3 ((tbl m).atD 1 (k0_off4 (grid0.coords t))) == 1#1)) = false
  rw [atD_of m t _ (off3 t), atD_of m t _ (off4 t)]
  rcases h.flag (tl t) with e | e <;> rw [e] <;> decide

/-! ## The invariant -/

/-- Before tile `n`: the scratch at what tile `n - 1` left (at anything before the first), the generator, the tables. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (Sg m hO c ⟨n, hn⟩) ∗ owns (c : Thread nD τ) scM0_1 fullShare (Sd m hO c ⟨n, hn⟩)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare (Sg m hO c ⟨n, hn⟩) ∗ owns (c : Thread nD τ) scM0_1 fullShare (Sd m hO c ⟨n, hn⟩)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare (Sg m hO c ⟨n - 1, by omega⟩) ∗ owns (c : Thread nD τ) scM0_1 fullShare (Sd m hO c ⟨n - 1, by omega⟩)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => Out m hO c t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = Out m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

set_option maxHeartbeats 3200000 in
/-- The body at any tile, its scratch at what the tile before left (at anything at the first). -/
theorem sound_body (hO : Ok m) (h : TblOk m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl,
    after0_0, after0_1, after0_2, after0_3, after0_4, after0_5]
  rw [show (dats m hO 0 c).Φ t.succ = PhiS m hO c (t.val + 1) t.isLt from rfl, PhiS_succ, PhiT0_eq]
  by_cases hz : t.val = 0
  · rw [PhiS_castSucc m hO c t, PhiS_zero m hO c _ _ hz, PhiT0_eq, PhiA0_eq]
    iintro ⟨⟨⟨⟨⟨%e0, HS0⟩, ⟨%e1, HS1⟩⟩, Hg⟩, ⟨HT0, HT1⟩⟩, Ho, ⟨%d0, H0⟩, ⟨%d1, H1⟩, ⟨%d2, H2⟩, ⟨%d3, H3⟩, ⟨%d4, H4⟩, ⟨%d5, H5⟩⟩
    iapply (body_run c (grid0.coords t) _ _ _ _ _ _ _ _ _ _ _ _ _ _ _ _ (iblk m hO c 0 t) (iblk m hO c 1 t) (iblk m hO c 2 t) (iblk m hO c 3 t) (iblk m hO c 4 t) (tbl m 0) (tbl m 1) e0 e1
      (Sg m hO c t) (Sd m hO c t) (Out m hO c t) (Sg_step m hO h c t e0 fun hz' => absurd hz hz') (Sd_step m hO h c t e1 fun hz' => absurd hz hz') (Out_step m hO h c t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT0]; · iexact HT0
    isplitl [HT1]; · iexact HT1
    iintro ⟨H0, H1, H2, H3, H4, H5, HS0, HS1, HT0, HT1⟩
    isplitl [HS0 HS1 Hg HT0 HT1]
    · isplitl [HS0 HS1 Hg]
      · isplitl [HS0 HS1]
        · isplitl [HS0]
          · iexact HS0
          iexact HS1
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iexact H5
  · rw [PhiS_castSucc m hO c t, PhiS_pos m hO c _ _ hz, PhiT0_eq]
    iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
    iapply (body_run c (grid0.coords t) _ _ _ _ _ _ _ _ _ _ _ _ _ _ _ _ (iblk m hO c 0 t) (iblk m hO c 1 t) (iblk m hO c 2 t) (iblk m hO c 3 t) (iblk m hO c 4 t) (tbl m 0) (tbl m 1) _ _
      (Sg m hO c t) (Sd m hO c t) (Out m hO c t) (Sg_step m hO h c t _ fun _ => rfl) (Sd_step m hO h c t _ fun _ => rfl) (Out_step m hO h c t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT0]; · iexact HT0
    isplitl [HT1]; · iexact HT1
    iintro ⟨H0, H1, H2, H3, H4, H5, HS0, HS1, HT0, HT1⟩
    isplitl [HS0 HS1 Hg HT0 HT1]
    · isplitl [HS0 HS1 Hg]
      · isplitl [HS0 HS1]
        · isplitl [HS0]
          · iexact HS0
          iexact HS1
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (h : TblOk m) (c : Dev nD) : BodyObligation (dats (F := F) m hO 0 c) (defs₀ (F := F)) Variants.none () Set.univ := fun t => by
  rw [bigSep_W0, bigSep_W0, defs₀_row m hO]
  refine triple_restated (sound_body m hO h c t) rfl .rfl fun _ => ?_
  have hi : idle0 (tbl m) 5 ((pcfg0.gridAt (tbl m)).coords t) = false := idle5 m hO h t
  dsimp only
  revert hi
  generalize idle0 (tbl m) 5 ((pcfg0.gridAt (tbl m)).coords t) = b
  rintro rfl
  exact Entails.rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexists _; iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 168 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (h : TblOk m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO h c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (h : TblOk m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO h)

/-- `frame` without the counters: the argument arrays end unchanged. -/
theorem unchanged (hO : Ok m) (h : TblOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO h)

/-- The frame claim of the call, at any values. -/
theorem frame (hO : Ok m) (h : TblOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO h) ((θ_run defs _ _).mono (fun _ h => h.2) (run_main_quiescent m ρ hO h))

end Cert.Kernel2Ideal.Moe

end
-- ==== Proof.Moe.Spec.lean ====
/- One expert's network on one row. -/
module

public import Idealize.ShloMosaic.Lib.Pointwise

@[expose] public section

noncomputable section

namespace Cert.Moe

open Idealize.ShloMosaic

/-- The first product, of a row with the expert's first matrix. -/
def gu (x : Fin 1024 → EReal) (wg : Fin 1024 → Fin 2048 → EReal) (bg : Fin 2048 → EReal) (j : Fin 2048) : EReal :=
  (∑ k, x k * wg k j) + bg j

/-- The gated activation of a row. -/
def act (x : Fin 1024 → EReal) (wg : Fin 1024 → Fin 2048 → EReal) (bg : Fin 2048 → EReal) (j : Fin 1024) : EReal :=
  let g := min (gu x wg bg ⟨j.val, by omega⟩) (Ideal.ofBits .f32 0x40E00000#32)
  g * Ideal.div 1 (1 + Ideal.exp (-(Ideal.ofBits .f32 0x3FD9DB23#32 * g)))
    * (min (Ideal.ofBits .f32 0x40E00000#32) (max (Ideal.ofBits .f32 0xC0E00000#32) (gu x wg bg ⟨1024 + j.val, by omega⟩)) + 1)

/-- The expert's output at one column. -/
def mlp (x : Fin 1024 → EReal) (wg : Fin 1024 → Fin 2048 → EReal) (bg : Fin 2048 → EReal) (wd : Fin 1024 → Fin 1024 → EReal)
    (bd : Fin 1024 → EReal) (d : Fin 1024) : EReal :=
  (∑ j, act x wg bg j * wd j d) + bd d

theorem mlp_congr {x x' : Fin 1024 → EReal} {wg wg' : Fin 1024 → Fin 2048 → EReal} {bg bg' : Fin 2048 → EReal}
    {wd wd' : Fin 1024 → Fin 1024 → EReal} {bd bd' : Fin 1024 → EReal} (hx : ∀ k, x k = x' k) (hwg : ∀ k j, wg k j = wg' k j)
    (hbg : ∀ j, bg j = bg' j) (hwd : ∀ j d, wd j d = wd' j d) (hbd : ∀ d, bd d = bd' d) (d : Fin 1024) :
    mlp x wg bg wd bd d = mlp x' wg' bg' wd' bd' d := by
  obtain rfl : x = x' := funext hx
  obtain rfl : wg = wg' := funext fun k => funext (hwg k)
  obtain rfl : bg = bg' := funext hbg
  obtain rfl : wd = wd' := funext fun j => funext (hwd j)
  obtain rfl : bd = bd' := funext hbd
  rfl

end Cert.Moe

end
-- ==== Proof.Moe.Point.lean ====
/- The experts call: what one tile's payload is at an index. -/
module

public import proofs.«01_k».proof.Proof.Moe.Frame
public import proofs.«01_k».proof.Proof.Moe.Spec

@[expose] public section

set_option maxRecDepth 16384

noncomputable section

namespace Cert.Kernel2Ideal.Moe

open Cert.Kernel2Ideal Cert.Kernel2Ideal.Gen Cert.Moe
open Idealize.ShloMosaic Idealize.ShloMosaic.TcCoe Idealize.SL.Sem

theorem pay1_apply (x : Vec Ideal S1x1x1024x2048 .f32) (k : Fin 1024) (j : Fin 2048) :
    k0_pay1 (F := Ideal) x (ix2 k j) = x (ix4 (0 : Fin 1) (0 : Fin 1) k j) := by
  pointwise [k0_pay1]

theorem pay2_apply (x : Vec Ideal S1x1x1024x1024 .f32) (k : Fin 1024) (j : Fin 1024) :
    k0_pay2 (F := Ideal) x (ix2 k j) = x (ix4 (0 : Fin 1) (0 : Fin 1) k j) := by
  pointwise [k0_pay2]

theorem pay3_apply (r : Fin 512) (d : Fin 1024) : k0_pay3 (F := Ideal) (ix2 r d) = (0 : EReal) := by
  pointwise [k0_pay3]

theorem pay4_apply (x : Vec Ideal S512x1024 .f32) (wg : Vec Ideal S1024x2048 .bf16) (bg : Vec Ideal S1x1x1x2048 .f32)
    (wd : Vec Ideal S1024x1024 .bf16) (bd : Vec Ideal S1x1x1x1024 .f32) (r : Fin 512) (d : Fin 1024) :
    k0_pay4 (F := Ideal) x wg bg wd bd (ix2 r d)
      = mlp (fun k => x (ix2 r k)) (fun k j => wg (ix2 k j)) (fun j => bg (ix4 (0 : Fin 1) (0 : Fin 1) (0 : Fin 1) j))
          (fun j d => wd (ix2 j d)) (fun d => bd (ix4 (0 : Fin 1) (0 : Fin 1) (0 : Fin 1) d)) d := by
  pointwise [k0_pay4]
  unfold mlp act gu
  simp only [sub_eq_add_neg, zero_add]

end Cert.Kernel2Ideal.Moe

end
-- ==== Proof.Moe.Value.lean ====
/- The experts call: the array of rows it leaves, row by row. -/
module

public import proofs.«01_k».proof.Proof.Moe.Point
public import Idealize.ShloMosaic.Lib.Pipeline.Value

@[expose] public section

set_option maxRecDepth 16384

noncomputable section

namespace Cert.Kernel2Ideal.Moe

open Cert.Kernel2Ideal Cert.Kernel2Ideal.Gen Cert.Moe
open Idealize.ShloMosaic Idealize.ShloMosaic.TcCoe Idealize.SL.Sem
open Idealize.ShloMosaic.Pipeline (Dat)

section AnyValues

variable {F : FTy → Type} [FloatOps F]
variable (m : (ℓ : Loc nD τ sig) → Buf (Elt F) ℓ) (hO : Ok m) (c : Dev nD)

theorem tr5 : ∀ t : Fin grid0.N, cc0_transform_5 (grid0.coords t) = ![t.val, 0] := by decide +kernel

theorem index5 (t : Fin (cfgM m hO).N) : (pcfg0.win (adm m hO) 5).index t = ![t.val, 0] := tr5 t

theorem flush5_of : ∀ t : Fin grid0.N, Pipeline.Window.flushOf grid0 true cc0_transform_5 t = true := by decide +kernel

/-- Every tile's rows are written back. -/
theorem flush5 (t : Fin (cfgM m hO).N) : ((cfgM m hO).win 5).flush t = true := flush5_of t

/-- What is written back is what the body left. -/
theorem flushed5 (t : Fin (cfgM m hO).N) :
    (dats m hO 0 c).flushed 5 t = ((cfgM m hO).win 5).cut ((cfgM m hO).grid.coords t) (Out m hO c t) := by
  show ((cfgM m hO).win 5).cut ((cfgM m hO).grid.coords t) ((dats m hO 0 c).after 5 t) = _
  rw [after0_5]

theorem idx_inj5 (t t' : Fin (cfgM m hO).N) (h : ((cfgM m hO).win 5).index t = ((cfgM m hO).win 5).index t') : t = t' := by
  have e : (![t.val, 0] : Fin 2 → ℕ) = ![t'.val, 0] := (index5 m hO t).symm.trans (h.trans (index5 m hO t'))
  exact Fin.ext (congrFun e 0)

/-- Tile `t`'s rows of the final array are what tile `t` wrote. -/
theorem blocks5 (t : Fin (cfgM m hO).N) :
    (((cfgM m hO).win 5).blk t).view.read (Elt F) ((dats m hO 0 c).arrAt 5 (cfgM m hO).N) = (dats m hO 0 c).flushed 5 t :=
  (dats m hO 0 c).read_blk_arrAt_eq_flushed 5
    (fun t t' _ _ hne => ((cfgM m hO).win 5).disjoint_blk fun h => hne (idx_inj5 m hO t t' h)) (cfgM m hO).N t t.isLt (flush5 m hO t)

/-- The final array at row `r` of tile `t`. -/
theorem final5 (t : Fin (cfgM m hO).N) (r : Fin 512) (d : Fin 1024) :
    ((dats m hO 0 c).arrAt 5 (cfgM m hO).N : Vec F S86016x1024 .f32) (ix2 (row (tl t) r) d) = Out m hO c t (ix2 r d) := by
  have e := congrFun ((blocks5 m hO c t).trans (flushed5 m hO c t)) (ix2 r d : S512x1024.Idx)
  refine Eq.trans ?_ e
  generalize (dats m hO 0 c).arrAt 5 (cfgM m hO).N = A
  symm
  blk_point [index5 m hO t, row, tl]

end AnyValues

variable (m : (ℓ : Loc nD τ sig) → Buf (Elt Ideal) ℓ) (hO : Ok m) (c : Dev nD)

/-- What the call leaves at row `r` of tile `k`: the tile's expert's network on the row, or zero. -/
theorem Out_apply (h : TblOk m) (t : Fin (cfgM m hO).N) (r : Fin 512) (d : Fin 1024) :
    Out m hO c t (ix2 r d) = (if vw m (tl t) = 1#32 then
      mlp (fun k => m ((c : Thread nD τ).loc main_arg2) (ix2 (row (tl t) r) k))
        (fun k j => m ((c : Thread nD τ).loc main_arg3) (ix4 (0 : Fin 4) (te m h (tl t)) k j))
        (fun j => m ((c : Thread nD τ).loc main_arg4) (ix3 (0 : Fin 4) (te m h (tl t)) j))
        (fun j d => m ((c : Thread nD τ).loc main_arg5) (ix4 (0 : Fin 4) (te m h (tl t)) j d))
        (fun d => m ((c : Thread nD τ).loc main_arg6) (ix3 (0 : Fin 4) (te m h (tl t)) d)) d
      else 0 : EReal) := by
  unfold Out
  split
  · refine (pay4_apply _ _ _ _ _ r d).trans ?_
    exact mlp_congr (fun k => iblk0_apply m hO c t r k) (fun k j => (pay1_apply _ k j).trans (iblk1_apply m hO c h t k j))
      (fun j => iblk2_apply m hO c h t j) (fun j d => (pay2_apply _ j d).trans (iblk3_apply m hO c h t j d))
      (fun d => iblk4_apply m hO c h t d) d
  · exact pay3_apply r d

end Cert.Kernel2Ideal.Moe

end
-- ==== Proof.Moe.Pre.lean ====
/- What the precondition says of the two tables. -/
module

public import proofs.«01_k».proof.Defs
public import proofs.«01_k».proof.Proof.Gen.Pre_tables_in_range
public import proofs.«01_k».proof.Proof.Moe.Tables
public import Idealize.ShloMosaic.Lib.StableHlo.Predicate

@[expose] public section

set_option maxRecDepth 16384

noncomputable section

namespace Cert.Kernel2Ideal.Moe

open Cert.Kernel2Ideal.Gen
open Idealize.ShloMosaic Idealize.ShloMosaic.TcCoe Idealize.SL.Sem

/-- A word between 0 and 31, as signed comparisons say it. -/
theorem word_expert (w : BitVec 32) (h1 : IntOp.cmpi .sge w 0#32 = 1#1) (h2 : IntOp.cmpi .slt w 32#32 = 1#1) : w.toNat < 32 := by
  simp only [IntOp.cmpi, StableHlo.Predicate.ofBool_eq_one_iff] at h1 h2
  simp only [BitVec.slt, BitVec.sle, decide_eq_true_eq, BitVec.toInt_eq_toNat_cond] at h1 h2
  simp at h1 h2
  have := w.isLt
  split at h1 <;> split at h2 <;> omega

theorem word_flag (w : BitVec 32) (h1 : IntOp.cmpi .sge w 0#32 = 1#1) (h2 : IntOp.cmpi .sle w 1#32 = 1#1) : w = 0#32 ∨ w = 1#32 := by
  simp only [IntOp.cmpi, StableHlo.Predicate.ofBool_eq_one_iff] at h1 h2
  simp only [BitVec.slt, BitVec.sle, decide_eq_true_eq, BitVec.toInt_eq_toNat_cond] at h1 h2
  simp at h1 h2
  have := w.isLt
  have : w.toNat = 0 ∨ w.toNat = 1 := by split at h1 <;> split at h2 <;> omega
  exact this.imp (fun h => BitVec.eq_of_toNat_eq h) (fun h => BitVec.eq_of_toNat_eq h)

theorem and_one (a b : BitVec 1) (h : a &&& b = 1#1) : a = 1#1 ∧ b = 1#1 := by
  revert a b; decide

variable {F : FTy → Type} [FloatOps F] [Cert.Pre_tables_in_range.Facts]

theorem words (a0 a1 : IVec S168 32) (a2 : FVec F S86016x1024 .f32) (a3 : FVec F S4x32x1024x2048 .f32) (a4 : FVec F S4x32x2048 .f32)
    (a5 : FVec F S4x32x1024x1024 .f32) (a6 : FVec F S4x32x1024 .f32)
    (h : Cert.Pre_tables_in_range.fn (F := F) a0 a1 a2 a3 a4 a5 a6 = fun _ => 1#1) (k : Fin 168) :
    (a0 (ix1 k)).toNat < 32 ∧ (a1 (ix1 k) = 0#32 ∨ a1 (ix1 k) = 1#32) := by
  have e := congrFun h (ix1 k)
  have e1 := and_one _ _ e
  have e2 := and_one _ _ e1.1
  have e3 := and_one _ _ e2.1
  exact ⟨word_expert _ e3.1 e3.2, word_flag _ e2.2 e1.2⟩

/-- Tables that satisfy the precondition hold experts' numbers and flags. -/
theorem tblOk (m : (ℓ : Loc nD τ sig) → Buf (Elt F) ℓ)
    (h : ∀ c : Dev nD, Cert.Pre_tables_in_range.fn (F := F) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
        = fun _ => 1#1) : TblOk m := by
  have e0 : (tbl m 0 : S168.Idx → BitVec 32) = m (((0 : Dev nD).tc : Thread nD τ).loc main_arg0) := V_main_arg0 m 0
  have e1 : (tbl m 1 : S168.Idx → BitVec 32) = m (((0 : Dev nD).tc : Thread nD τ).loc main_arg1) := V_main_arg1 m 0
  constructor
  · intro k; unfold ew; rw [e0]; exact (words _ _ _ _ _ _ _ (h 0) k).1
  · intro k; unfold vw; rw [e1]; exact (words _ _ _ _ _ _ _ (h 0) k).2

end Cert.Kernel2Ideal.Moe

end
-- ==== Proof.Moe.RefRun.lean ====
/- The experts' reference: its run, as the expert's step taken 32 times. -/
module

public import proofs.«01_k».proof.Proof.Gen.Reference2Ideal.Run
public import proofs.«01_k».proof.Proof.Gen.Reference2Ideal.Step

@[expose] public section

set_option maxRecDepth 16384

noncomputable section

namespace Cert.Moe.RefRun

open Idealize.ShloMosaic Idealize.ShloMosaic.TcCoe Idealize.SL.Sem Idealize.ShloMosaic.StableHlo
open Cert.Reference2Ideal Cert.Reference2Ideal.Gen Cert.Reference2Ideal.Value
open Cert.Reference2Ideal.Step (State step init)

variable {F : FTy → Type} [FloatOps F]

/-- The buffers of the loop hold the state `s` and the counter holds the expert's number `j`. -/
structure Holds (V0 : Valuation τ sig (Elt F)) (s : State F) (j : ℕ) : Prop where
  y : V0 (Proc.devRef .tc main_v19_7) = s.main_v19_7
  w : V0 (Proc.devRef .tc main_v19_0) = s.main_v19_0
  a : V0 (Proc.devRef .tc main_v19_1) = s.main_v19_1
  b : V0 (Proc.devRef .tc main_v19_2) = s.main_v19_2
  c : V0 (Proc.devRef .tc main_v19_3) = s.main_v19_3
  d : V0 (Proc.devRef .tc main_v19_4) = s.main_v19_4
  x : V0 (Proc.devRef .tc main_v19_5) = s.main_v19_5
  n : V0 (Proc.devRef .tc main_v19_6) = constantI S_ 32 (BitVec.ofNat 32 j)

/-- The state the loop starts from, of the arguments in memory. -/
abbrev start (m : (ℓ : Loc nD τ sig) → Buf (Elt F) ℓ) (c : Dev nD) : State F :=
  init (m ((c.tc : Thread nD τ).loc main_arg2)) (m ((c.tc : Thread nD τ).loc main_arg0))
    (m ((c.tc : Thread nD τ).loc main_arg1)) (m ((c.tc : Thread nD τ).loc main_arg3))
    (m ((c.tc : Thread nD τ).loc main_arg4)) (m ((c.tc : Thread nD τ).loc main_arg5))
    (m ((c.tc : Thread nD τ).loc main_arg6))

/-- The states, expert by expert. -/
def states (s : State F) : ℕ → State F
  | 0 => s
  | n + 1 => step n (states s n)

variable {V0 : Valuation τ sig (Elt F)} {s : State F} {j : ℕ}

theorem gu_eq (e : Holds V0 s j) : res_main_while0b_v28 V0 = Step.b20 j s := by
  unfold res_main_while0b_v28 Step.b20 Step.b17 Step.b19 Step.b18 Step.b9 Step.b8 Step.b7 Step.b6 Step.b5 Step.b4 Step.b3
  rw [e.x, e.a, e.b, e.n]
  rfl

theorem glu_eq (e : Holds V0 s j) : res_main_while0b_v31 V0 = Step.b24 j s := by
  unfold res_main_while0b_v31 Step.b24 Step.b21 Step.b23 Step.b22
  rw [gu_eq e]

/-- A trip leaves the step's sum. -/
theorem trip_y (e : Holds V0 s j) : step_main_v19_7 V0 = (step j s).main_v19_7 := by
  rw [Step.step_main_v19_7]
  unfold step_main_v19_7
  rw [gu_eq e, glu_eq e, e.y, e.w, e.c, e.d, e.n]
  unfold Step.b57 Step.b56 Step.b55 Step.b50 Step.b2 Step.b1 Step.b0 Step.b54 Step.b53 Step.b52 Step.b51 Step.b16
    Step.b15 Step.b14 Step.b13 Step.b12 Step.b11 Step.b10 Step.b49 Step.b48 Step.b47 Step.b46 Step.b45 Step.b44
    Step.b43 Step.b42 Step.b41 Step.b40 Step.b39 Step.b38 Step.b37 Step.b36 Step.b35 Step.b34 Step.b33 Step.b32
    Step.b31 Step.b30 Step.b29 Step.b28 Step.b27 Step.b26 Step.b25
  rfl

/-- A trip counts one up. -/
theorem trip_n (e : Holds V0 s j) : step_main_v19_6 V0 = constantI S_ 32 (BitVec.ofNat 32 (j + 1)) := by
  unfold step_main_v19_6
  rw [e.n]
  funext i
  show BitVec.ofNat 32 j + 1#32 = BitVec.ofNat 32 (j + 1)
  simp only [BitVec.ofNat_add]

/-- A trip keeps the buffers holding a state: the next one. -/
theorem trip (e : Holds V0 s j) : Holds (STEP V0) (step j s) (j + 1) where
  y := (STEP_main_v19_7 V0).trans (trip_y e)
  w := (STEP_main_v19_0 V0).trans e.w
  a := (STEP_main_v19_1 V0).trans e.a
  b := (STEP_main_v19_2 V0).trans e.b
  c := (STEP_main_v19_3 V0).trans e.c
  d := (STEP_main_v19_4 V0).trans e.d
  x := (STEP_main_v19_5 V0).trans e.x
  n := (STEP_main_v19_6 V0).trans (trip_n e)

variable (m : (ℓ : Loc nD τ sig) → Buf (Elt F) ℓ) (c : Dev nD)

set_option maxRecDepth 65536 in
set_option maxHeartbeats 800000 in
/-- The host operations before the loop leave the first state. -/
theorem entry : Holds (entryContents preI m c) (start m c) 0 := by
  constructor <;> (simp only [entryContents, afterL_cons, afterL_nil]; after_reads_simp) <;> rfl

/-- After `k` trips the buffers hold state `k`. -/
theorem after_trips : ∀ k, Holds (STEP^[k] (entryContents preI m c)) (states (start m c) k) k
  | 0 => entry m c
  | k + 1 => by
    rw [Function.iterate_succ_apply']
    exact trip (after_trips k)

/-- The reference terminates with its result the sum after the 32 experts and its arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v19_7) = (states (start m c) 32).main_v19_7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (after_trips m c 32).y, (h c).2⟩) (Value.run m ρ)

end Cert.Moe.RefRun

end
-- ==== Proof.Moe.Ref.lean ====
/- The experts' reference: what it computes at an index. -/
module

public import proofs.«01_k».proof.Proof.Moe.RefRun
public import proofs.«01_k».proof.Proof.Moe.Spec
public import Idealize.ShloMosaic.Lib.Pointwise
public import Idealize.ShloMosaic.Lib.WordCmp

@[expose] public section

set_option maxRecDepth 16384

noncomputable section

namespace Cert.Moe.Ref

open Idealize.ShloMosaic Idealize.ShloMosaic.TcCoe Idealize.SL.Sem
open Cert.Reference2Ideal Cert.Reference2Ideal.Gen Cert.Reference2Ideal.Step Cert.Moe
open WordCmp

theorem fits2 (q n : ℕ) (hn : n < 32) : (⟨2, ![32, q]⟩ : Shape).Slices ![n, 0] ⟨2, ![1, q]⟩ := by
  refine ⟨rfl, fun a => ?_⟩
  match a with
  | ⟨0, _⟩ => show n + 1 ≤ 32; omega
  | ⟨1, _⟩ => show 0 + q ≤ q; omega

theorem fits3 (p q n : ℕ) (hn : n < 32) : (⟨3, ![32, p, q]⟩ : Shape).Slices ![n, 0, 0] ⟨3, ![1, p, q]⟩ := by
  refine ⟨rfl, fun a => ?_⟩
  match a with
  | ⟨0, _⟩ => show n + 1 ≤ 32; omega
  | ⟨1, _⟩ => show 0 + p ≤ p; omega
  | ⟨2, _⟩ => show 0 + q ≤ q; omega

section Step

variable (s : State Ideal) (n : ℕ) (hn : n < 32)
include hn

theorem w_apply (r : Fin 86016) : b2 (F := Ideal) n s (ix1 r) = s.main_v19_0 (ix2 ⟨n, hn⟩ r) := by
  unfold b2 b1
  rw [dynamicSlice_eq_extract _ s.main_v19_0 _ _ ![n, 0] (fits2 86016 n hn)
      (by intro a; fin_cases a <;> simp [b0, constantI, toInt_ofNat_of_lt (w := 32) (show n < 2 ^ (32 - 1) by omega)])]
  pointwise

theorem wg_apply (k : Fin 1024) (j : Fin 2048) : b6 (F := Ideal) n s (ix2 k j) = s.main_v19_1 (ix3 ⟨n, hn⟩ k j) := by
  unfold b6 b5
  rw [dynamicSlice_eq_extract _ s.main_v19_1 _ _ ![n, 0, 0] (fits3 1024 2048 n hn)
      (by intro a; fin_cases a <;> simp [b3, b4, constantI, toInt_ofNat_of_lt (w := 32) (show n < 2 ^ (32 - 1) by omega)])]
  pointwise

theorem bg_apply (j : Fin 2048) : b9 (F := Ideal) n s (ix1 j) = s.main_v19_2 (ix2 ⟨n, hn⟩ j) := by
  unfold b9 b8
  rw [dynamicSlice_eq_extract _ s.main_v19_2 _ _ ![n, 0] (fits2 2048 n hn)
      (by intro a; fin_cases a <;> simp [b7, constantI, toInt_ofNat_of_lt (w := 32) (show n < 2 ^ (32 - 1) by omega)])]
  pointwise

theorem wd_apply (k : Fin 1024) (j : Fin 1024) : b13 (F := Ideal) n s (ix2 k j) = s.main_v19_3 (ix3 ⟨n, hn⟩ k j) := by
  unfold b13 b12
  rw [dynamicSlice_eq_extract _ s.main_v19_3 _ _ ![n, 0, 0] (fits3 1024 1024 n hn)
      (by intro a; fin_cases a <;> simp [b10, b11, constantI, toInt_ofNat_of_lt (w := 32) (show n < 2 ^ (32 - 1) by omega)])]
  pointwise

theorem bd_apply (j : Fin 1024) : b16 (F := Ideal) n s (ix1 j) = s.main_v19_4 (ix2 ⟨n, hn⟩ j) := by
  unfold b16 b15
  rw [dynamicSlice_eq_extract _ s.main_v19_4 _ _ ![n, 0] (fits2 1024 n hn)
      (by intro a; fin_cases a <;> simp [b14, constantI, toInt_ofNat_of_lt (w := 32) (show n < 2 ^ (32 - 1) by omega)])]
  pointwise

theorem gu_apply (r : Fin 86016) (j : Fin 2048) :
    b20 (F := Ideal) n s (ix2 r j)
      = gu (fun k => s.main_v19_5 (ix2 r k)) (fun k j => s.main_v19_1 (ix3 ⟨n, hn⟩ k j)) (fun j => s.main_v19_2 (ix2 ⟨n, hn⟩ j)) j := by
  unfold gu
  simp only [← wg_apply s n hn, ← bg_apply s n hn]
  pointwise [b20, b19, b18, b17]

theorem act_apply (r : Fin 86016) (j : Fin 1024) :
    b49 (F := Ideal) n s (ix2 r j)
      = act (fun k => s.main_v19_5 (ix2 r k)) (fun k j => s.main_v19_1 (ix3 ⟨n, hn⟩ k j)) (fun j => s.main_v19_2 (ix2 ⟨n, hn⟩ j)) j := by
  unfold act
  simp only [← gu_apply s n hn]
  generalize hG : b20 n s = G
  pointwise [b49, b48, b47, b46, b45, b44, b43, b42, b41, b40, b39, b38, b37, b36, b35, b34, b33, b32, b31, b30, b29, b28,
    b27, b26, b25, b24, b23, b22, b21, hG]

/-- One expert's step at an index: the weight times the expert's network on the row, added. -/
theorem step_apply (r : Fin 86016) (d : Fin 1024) :
    (step n s).main_v19_7 (ix2 r d) = (s.main_v19_7 (ix2 r d) + s.main_v19_0 (ix2 ⟨n, hn⟩ r)
      * mlp (fun k => s.main_v19_5 (ix2 r k)) (fun k j => s.main_v19_1 (ix3 ⟨n, hn⟩ k j)) (fun j => s.main_v19_2 (ix2 ⟨n, hn⟩ j))
          (fun j d => s.main_v19_3 (ix3 ⟨n, hn⟩ j d)) (fun d => s.main_v19_4 (ix2 ⟨n, hn⟩ d)) d : EReal) := by
  rw [step_main_v19_7]
  unfold mlp
  simp only [← act_apply s n hn, ← w_apply s n hn, ← wd_apply s n hn, ← bd_apply s n hn]
  generalize hA : b49 n s = A
  generalize hW : b2 n s = W
  generalize hD : b13 n s = D
  generalize hB : b16 n s = B
  pointwise [b57, b56, b55, b54, b53, b52, b51, b50, hA, hW, hD, hB]

end Step

/-! ## The first state -/

section Arrays

variable (x2 : FVec Ideal S86016x1024 .f32) (x0 x1 : IVec S168 32) (x3 : FVec Ideal S4x32x1024x2048 .f32)
  (x4 : FVec Ideal S4x32x2048 .f32) (x5 : FVec Ideal S4x32x1024x1024 .f32) (x6 : FVec Ideal S4x32x1024 .f32)

/-- The expert's weight at a row of tile `k`. -/
theorem weight_apply (e : Fin 32) (k : Fin 168) (r : Fin 512) :
    A_main_v10 (F := Ideal) x0 x1 x3 x4 x5 x6 (ix2 e (⟨512 * k.val + r.val, by omega⟩ : Fin 86016))
      = (((IntOp.cmpi .eq (x0 (ix1 k)) (BitVec.ofNat 32 e.val)).toNat : ℝ) : EReal) * (((x1 (ix1 k)).toInt : ℝ) : EReal) := by
  pointwise [A_main_v10, A_main_v8, A_main_v7, A_main_v6, A_main_v5, A_main_v4, A_main_v3, A_main_v2, A_main_call0_v4,
    A_main_call0_v2, A_main_call0_v0, A_main_v1, A_main_v0, K_main_call0_v3, K_main_call0_v1]
  rfl

theorem a_apply (e : Fin 32) (k : Fin 1024) (j : Fin 2048) :
    A_main_v12 (F := Ideal) x0 x1 x3 x4 x5 x6 (ix3 e k j) = x3 (ix4 (0 : Fin 4) e k j) := by
  pointwise [A_main_v12, A_main_v11]
theorem b_apply (e : Fin 32) (j : Fin 2048) :
    A_main_v14 (F := Ideal) x0 x1 x3 x4 x5 x6 (ix2 e j) = x4 (ix3 (0 : Fin 4) e j) := by
  pointwise [A_main_v14, A_main_v13]
theorem c_apply (e : Fin 32) (k : Fin 1024) (j : Fin 1024) :
    A_main_v16 (F := Ideal) x0 x1 x3 x4 x5 x6 (ix3 e k j) = x5 (ix4 (0 : Fin 4) e k j) := by
  pointwise [A_main_v16, A_main_v15]
theorem d_apply (e : Fin 32) (j : Fin 1024) :
    A_main_v18 (F := Ideal) x0 x1 x3 x4 x5 x6 (ix2 e j) = x6 (ix3 (0 : Fin 4) e j) := by
  pointwise [A_main_v18, A_main_v17]
theorem zero_apply (r : Fin 86016) (d : Fin 1024) : K_main_v9 (F := Ideal) (ix2 r d) = (0 : EReal) := by
  pointwise [K_main_v9, K_main_cst]

/-- The weight is one for the tile's own expert where the tile is valid, and zero otherwise. -/
theorem weight_eq (e : Fin 32) (k : Fin 168) (r : Fin 512) (h1 : x1 (ix1 k) = 0#32 ∨ x1 (ix1 k) = 1#32) :
    A_main_v10 (F := Ideal) x0 x1 x3 x4 x5 x6 (ix2 e (⟨512 * k.val + r.val, by omega⟩ : Fin 86016))
      = if (x0 (ix1 k)).toNat = e.val ∧ x1 (ix1 k) = 1#32 then (1 : EReal) else 0 := by
  rw [weight_apply]
  have hc : (x0 (ix1 k)).toNat = e.val ↔ x0 (ix1 k) = BitVec.ofNat 32 e.val := by
    rw [← BitVec.toNat_inj, BitVec.toNat_ofNat, Nat.mod_eq_of_lt (by omega)]
  simp only [hc]
  rcases h1 with h1 | h1 <;> rw [h1] <;> by_cases he : x0 (ix1 k) = BitVec.ofNat 32 e.val <;>
    simp [he, IntOp.cmpi]

/-- The tile's expert's network on a row of the tile. -/
def net (k : Fin 168) (r : Fin 512) (e : Fin 32) (d : Fin 1024) : EReal :=
  mlp (fun i => x2 (ix2 (⟨512 * k.val + r.val, by omega⟩ : Fin 86016) i)) (fun i j => x3 (ix4 (0 : Fin 4) e i j))
    (fun j => x4 (ix3 (0 : Fin 4) e j)) (fun j d => x5 (ix4 (0 : Fin 4) e j d)) (fun d => x6 (ix3 (0 : Fin 4) e d)) d

/-- Adding expert `n`'s term to the sum of the experts before it. -/
theorem met (f : Fin 32 → EReal) (w : ℕ) (hw : w < 32) (n : ℕ) (hn : n < 32) (p : Prop) [Decidable p] :
    (if w < n ∧ p then f ⟨w, hw⟩ else 0) + (if w = n ∧ p then (1 : EReal) else 0) * f ⟨n, hn⟩
      = if w < n + 1 ∧ p then f ⟨w, hw⟩ else 0 := by
  by_cases hp : p
  · simp only [hp, and_true]
    by_cases he : w = n
    · subst he
      simp
    · by_cases hl : w < n
      · simp [he, hl, show w < n + 1 by omega]
      · simp [he, hl, show ¬ w < n + 1 by omega]
  · simp [hp]

/-- After `n` experts: the sum holds the tile's own expert's network once that expert has been met. -/
theorem states_apply (k : Fin 168) (r : Fin 512) (d : Fin 1024) (h0 : (x0 (ix1 k)).toNat < 32)
    (h1 : x1 (ix1 k) = 0#32 ∨ x1 (ix1 k) = 1#32) (n : ℕ) (hn : n ≤ 32) :
    (RefRun.states (F := Ideal) (init x2 x0 x1 x3 x4 x5 x6) n).main_v19_7 (ix2 (⟨512 * k.val + r.val, by omega⟩ : Fin 86016) d)
      = (if (x0 (ix1 k)).toNat < n ∧ x1 (ix1 k) = 1#32 then net x2 x3 x4 x5 x6 k r ⟨(x0 (ix1 k)).toNat, h0⟩ d else 0 : EReal)
    ∧ (RefRun.states (F := Ideal) (init x2 x0 x1 x3 x4 x5 x6) n).main_v19_0 = A_main_v10 x0 x1 x3 x4 x5 x6
    ∧ (RefRun.states (F := Ideal) (init x2 x0 x1 x3 x4 x5 x6) n).main_v19_1 = A_main_v12 x0 x1 x3 x4 x5 x6
    ∧ (RefRun.states (F := Ideal) (init x2 x0 x1 x3 x4 x5 x6) n).main_v19_2 = A_main_v14 x0 x1 x3 x4 x5 x6
    ∧ (RefRun.states (F := Ideal) (init x2 x0 x1 x3 x4 x5 x6) n).main_v19_3 = A_main_v16 x0 x1 x3 x4 x5 x6
    ∧ (RefRun.states (F := Ideal) (init x2 x0 x1 x3 x4 x5 x6) n).main_v19_4 = A_main_v18 x0 x1 x3 x4 x5 x6
    ∧ (RefRun.states (F := Ideal) (init x2 x0 x1 x3 x4 x5 x6) n).main_v19_5 = x2 := by
  induction n with
  | zero =>
    refine ⟨?_, rfl, rfl, rfl, rfl, rfl, rfl⟩
    rw [if_neg (fun h => absurd h.1 (Nat.not_lt_zero _))]
    exact zero_apply ⟨512 * k.val + r.val, by omega⟩ d
  | succ n ih =>
    obtain ⟨e7, e0, e1, e2, e3, e4, e5⟩ := ih (by omega)
    refine ⟨?_, e0, e1, e2, e3, e4, e5⟩
    refine (step_apply _ n (by omega) _ d).trans ?_
    rw [e7, e0, weight_eq x0 x1 x3 x4 x5 x6 _ k r h1]
    have eN : mlp (fun i => (RefRun.states (F := Ideal) (init x2 x0 x1 x3 x4 x5 x6) n).main_v19_5 (ix2 (⟨512 * k.val + r.val, by omega⟩ : Fin 86016) i))
        (fun i j => (RefRun.states (F := Ideal) (init x2 x0 x1 x3 x4 x5 x6) n).main_v19_1 (ix3 ⟨n, by omega⟩ i j))
        (fun j => (RefRun.states (F := Ideal) (init x2 x0 x1 x3 x4 x5 x6) n).main_v19_2 (ix2 ⟨n, by omega⟩ j))
        (fun j d => (RefRun.states (F := Ideal) (init x2 x0 x1 x3 x4 x5 x6) n).main_v19_3 (ix3 ⟨n, by omega⟩ j d))
        (fun d => (RefRun.states (F := Ideal) (init x2 x0 x1 x3 x4 x5 x6) n).main_v19_4 (ix2 ⟨n, by omega⟩ d)) d
        = net x2 x3 x4 x5 x6 k r ⟨n, by omega⟩ d := by
      rw [e1, e2, e3, e4, e5]
      exact mlp_congr (fun _ => rfl) (fun i j => a_apply x0 x1 x3 x4 x5 x6 _ i j) (fun j => b_apply x0 x1 x3 x4 x5 x6 _ j)
        (fun i j => c_apply x0 x1 x3 x4 x5 x6 _ i j) (fun j => d_apply x0 x1 x3 x4 x5 x6 _ j) d
    rw [eN]
    exact met (fun e => net x2 x3 x4 x5 x6 k r e d) _ h0 n (by omega) _

end Arrays

end Cert.Moe.Ref

end
-- ==== Proof.Moe.Same.lean ====
/- The experts call at words is its ideal reading's program: the two body tables are one. -/
module

public import proofs.«01_k».proof.Proof.Gen.Kernel2
public import proofs.«01_k».proof.Proof.Moe.Frame

@[expose] public section

set_option maxHeartbeats 1000000

noncomputable section

namespace Cert.Moe.Same

open Idealize.ShloMosaic Idealize.ShloMosaic.TcCoe Idealize.SL.Sem

theorem experts : @Cert.Kernel2.cc0_moe_experts Bits _ _ = @Cert.Kernel2Ideal.cc0_moe_experts Bits _ _ := rfl

theorem defs₀_eq : Cert.Kernel2.defs₀ (F := Bits) = Cert.Kernel2Ideal.defs₀ (F := Bits) := by
  unfold Cert.Kernel2.defs₀ Cert.Kernel2Ideal.defs₀
  refine congrArg (Defs.onTc (nD := Cert.Kernel2Ideal.nD) (τ := Cert.Kernel2Ideal.τ) (sig := Cert.Kernel2Ideal.sig) (Val := Elt Bits) (Λ := Cert.Kernel2Ideal.Λ₀)) ?_
  funext l a
  match l, a with
  | ⟨0, _⟩, (t, s) => rfl
  | ⟨_ + 1, h⟩, _ => exact absurd h (Nat.not_lt.2 (Nat.le_add_left _ _))

theorem defs_eq : Cert.Kernel2.defs (F := Bits) = Cert.Kernel2Ideal.defs (F := Bits) := by
  unfold Cert.Kernel2.defs Cert.Kernel2Ideal.defs
  exact congrArg (Pipeline.defs (Cert.Kernel2Ideal.pcfgs (F := Bits))) defs₀_eq

theorem main_eq : Cert.Kernel2.main (F := Bits) = Cert.Kernel2Ideal.main (F := Bits) := rfl

end Cert.Moe.Same

end
-- ==== Proof.Moe.Claims.lean ====
module

public import proofs.«01_k».proof.Defs
public import proofs.«01_k».proof.Proof.Gen.Kernel2
public import proofs.«01_k».proof.Proof.Moe.Value
public import proofs.«01_k».proof.Proof.Moe.Pre
public import proofs.«01_k».proof.Proof.Moe.Ref
public import proofs.«01_k».proof.Proof.Moe.Same
public import Idealize.ShloMosaic.Adequacy
public import Idealize.ShloMosaic.Init

/-!
# The claims about the experts' network

The frames of the three programs, and the equation of the kernel's rows with the reference's.
-/

@[expose] public section

noncomputable section

namespace Cert.Moe.Claims

open Idealize.ShloMosaic Idealize.ShloMosaic.TcCoe Idealize.SL.Sem
open Cert.Kernel2Ideal.Moe (TblOk ok_of tblOk dats run_main frame ew vw te row tl final5 Out_apply tbl)

/-- The kernel's run at the values `F` that its ideal reading shares with it. -/
theorem frame_ideal : Cert.quiescent_Kernel2Ideal := fun m ρ hp =>
  have h : TblOk m := tblOk m hp
  frame m ρ (ok_of m h) h

set_option maxHeartbeats 4000000 in
/-- The kernel runs and leaves its arguments unchanged: the same run, at words. -/
theorem frame_kernel : Cert.quiescent_Kernel2 := by
  intro m ρ hp
  have h : TblOk (F := Bits) m := tblOk (F := Bits) m hp
  rw [Same.defs_eq]
  exact (θ_run Cert.Kernel2Ideal.defs _ _).mono (fun _ h => h) (frame (F := Bits) m ρ (ok_of m h) h)

/-- So does the reference, whatever the tables hold. -/
theorem frame_reference : Cert.quiescent_Reference2Ideal := fun m ρ _ =>
  (θ_run Cert.Reference2Ideal.defs _ _).mono
    (fun r h => ⟨fun c => (h c).2, sem_eq_zero_of_no_sems (by decide) r.2⟩) (RefRun.run m ρ)

theorem frame_reference_pre : Cert.quiescent_Reference2Ideal_pre_tables_in_range := fun m ρ _ => frame_reference m ρ trivial

/-- Every row is a row of a tile. -/
theorem row_surj (i : Fin 86016) : ∃ (t : Fin Cert.Kernel2Ideal.grid0.N) (r : Fin 512), i = row (tl t) r :=
  ⟨⟨i.val / 512, by rw [Cert.Kernel2Ideal.Gen.N_0]; omega⟩, ⟨i.val % 512, by omega⟩,
    Fin.ext (by show i.val = 512 * (i.val / 512) + i.val % 512; omega)⟩

/-- From equal arguments whose tables hold experts' numbers and flags both programs return the same rows. -/
theorem algebraic : Cert.algebraic_Kernel2Ideal_Reference2Ideal := by
  intro m g m' g' hp hm
  have h : TblOk m := tblOk m hp
  have hO := ok_of m h
  refine ⟨fun c => (dats m hO 0 c).arrAt 5 (Cert.Kernel2Ideal.Moe.cfgM m hO).N, ?_, ?_⟩
  · refine (θ_run Cert.Kernel2Ideal.defs _ _).mono (fun r hr c => ⟨(hr.1 c).1 5, hr.2 c⟩)
      (θ_run_and (run_main m g hO h) (Cert.Kernel2Ideal.Moe.unchanged m g hO h))
  refine (θ_run Cert.Reference2Ideal.defs _ _).mono (fun r hr c => ?_) (RefRun.run m' g')
  refine ⟨(hr c).1.trans ?_, (hr c).2⟩
  obtain ⟨h0, h1, h2, h3, h4, h5, h6⟩ := hm c
  obtain rfl : c = 0 := Subsingleton.elim _ _
  apply funext (α := Cert.Kernel2Ideal.S86016x1024.Idx)
  intro i
  obtain ⟨q, d, rfl⟩ : ∃ (q : Fin 86016) (d : Fin 1024), i = ix2 q d := ⟨_, _, (ix2_eta i).symm⟩
  obtain ⟨t, r, rfl⟩ := row_surj q
  refine Eq.trans ?_ (final5 m hO 0 t r d).symm
  rw [Out_apply m hO 0 h t r d]
  unfold RefRun.start
  rw [h0, h1, h2, h3, h4, h5, h6]
  have e0 : (tbl m 0 : Cert.Kernel2Ideal.S168.Idx → BitVec 32) = m (((0 : Dev Cert.Kernel2Ideal.nD).tc : Thread Cert.Kernel2Ideal.nD Cert.Kernel2Ideal.τ).loc Cert.Kernel2Ideal.main_arg0) := Cert.Kernel2Ideal.Moe.V_main_arg0 m 0
  have e1 : (tbl m 1 : Cert.Kernel2Ideal.S168.Idx → BitVec 32) = m (((0 : Dev Cert.Kernel2Ideal.nD).tc : Thread Cert.Kernel2Ideal.nD Cert.Kernel2Ideal.τ).loc Cert.Kernel2Ideal.main_arg1) := Cert.Kernel2Ideal.Moe.V_main_arg1 m 0
  have hE := h.expert (tl t)
  have hF := h.flag (tl t)
  have te_eq : te m h (tl t) = ⟨(ew m (tl t)).toNat, hE⟩ := rfl
  unfold vw at hF ⊢
  rw [te_eq]
  revert hE hF
  unfold ew
  rw [e0, e1]
  intro hE hF _
  refine (Ref.states_apply _ _ _ _ _ _ _ (tl t) r d hE hF 32 le_rfl).1.trans ?_
  simp only [hE, true_and]
  rfl

end Cert.Moe.Claims
-- ==== Proof.Proj.Spec.lean ====
module

public import Idealize.ShloMosaic.Lib.Pipeline.ValueKit
public import Idealize.ShloMosaic.Lib.Pointwise

/-!
# The input projection, as plain mathematics

A row is divided by its root mean square, scaled by a gain, modulated by a scale and a shift, and multiplied with the
columns of the projection's matrix. The columns are laid out anew: the first 6144 stay, the last 3072 (the gates) follow,
then the 288 of the low-rank maps, then zeros up to 9728.
-/

@[expose] public section

noncomputable section

namespace Cert.Proj

open Idealize.ShloMosaic

/-- The reciprocal root mean square of a row. -/
def rms (x : Fin 1024 → EReal) : EReal :=
  Ideal.rsqrt (Ideal.div (∑ k, x k * x k) (Ideal.ofBits .f32 0x44800000#32) + Ideal.ofBits .f32 0x3727C5AC#32)

/-- The normalised, modulated row. -/
def hid (x g scale shift : Fin 1024 → EReal) (k : Fin 1024) : EReal :=
  x k * rms x * g k * (1 + scale k) + shift k

/-- A row times a column. -/
def dot (h w : Fin 1024 → EReal) : EReal := ∑ k, h k * w k

/-- Entry `j` of the new layout of 9504 entries. -/
def lay (w : Fin 9504 → EReal) (j : Fin 9728) : EReal :=
  if h : j.val < 6144 then w ⟨j.val, by omega⟩
  else if h : j.val - 6144 < 3072 then w ⟨6432 + (j.val - 6144), by omega⟩
  else if h : j.val - 6144 - 3072 < 288 then w ⟨6144 + (j.val - 6144 - 3072), by omega⟩
  else 0

/-- The new layout commutes with the product: a column of zeros gives zero. -/
theorem dot_lay (h : Fin 1024 → EReal) (w : Fin 1024 → Fin 9504 → EReal) (j : Fin 9728) :
    dot h (fun k => lay (w k) j) = lay (fun i => dot h (fun k => w k i)) j := by
  unfold lay
  split_ifs with h1 h2 h3
  · rfl
  · rfl
  · rfl
  · unfold dot; simp

end Cert.Proj
-- ==== Proof.Proj.Point.lean ====
module

public import proofs.«01_k».proof.Proof.Gen.Kernel3Ideal.Value
public import Idealize.ShloMosaic.Lib.Claim
public import proofs.«01_k».proof.Proof.Proj.Spec

/-!
# What one block of the projection computes, and what the blocks hold

Grid point `t` is time tile `t / 19` (256 steps of 8 sequences) and column block `t % 19` (512 columns).
-/

@[expose] public section

set_option maxRecDepth 16384

noncomputable section

namespace Cert.Proj.Point

open Idealize.ShloMosaic Idealize.ShloMosaic.TcCoe Idealize.SL.Sem
open Cert.Kernel3Ideal Cert.Kernel3Ideal.Gen Cert.Proj

/-- The rows kept for the column blocks of a time tile: row `8 s + b` is the normalised row of time `s`, sequence `b`. -/
theorem hid_apply (x : Vec Ideal S256x8x1024 .f32) (g : Vec Ideal S1x1x1024 .f32) (sc sh : Vec Ideal S1x8x1024 .f32)
    (s : Fin 256) (b : Fin 8) (k : Fin 1024) :
    k0_pay1 (F := Ideal) x g sc sh (ix2 (⟨8 * s.val + b.val, by omega⟩ : Fin 2048) k)
      = hid (fun i => x (ix3 s b i)) (fun i => g (ix3 (0 : Fin 1) (0 : Fin 1) i)) (fun i => sc (ix3 (0 : Fin 1) b i))
          (fun i => sh (ix3 (0 : Fin 1) b i)) k := by
  pointwise [k0_pay1]
  unfold hid rms
  simp only [zero_add]

/-- The product block. -/
theorem prod_apply (h : Vec Ideal S2048x1024 .bf16) (w : Vec Ideal S1024x512 .bf16) (s : Fin 256) (b : Fin 8) (j : Fin 512) :
    k0_pay2 (F := Ideal) h w (ix3 s b j)
      = dot (fun k => h (ix2 (⟨8 * s.val + b.val, by omega⟩ : Fin 2048) k)) (fun k => w (ix2 k j)) := by
  pointwise [k0_pay2]
  unfold dot
  simp only [zero_add, Nat.mul_comm 8]

variable (m : (ℓ : Loc nD τ sig) → Buf (Elt Ideal) ℓ) (c : Dev nD)

/-- The block placements, at every grid point. -/
theorem idx : ∀ t : Fin cfg0.N, win0_0.index t = ![t.val / 19, 0, 0] ∧ win0_1.index t = ![0, 0, 0]
    ∧ win0_2.index t = ![0, 0, 1] ∧ win0_3.index t = ![0, 0, 0] ∧ win0_4.index t = ![0, t.val % 19] ∧ t.val / 19 < 8 :=
  (by decide +kernel : ∀ t : Fin grid0.N, _)

theorem x_apply (t : Fin cfg0.N) (s : Fin 256) (b : Fin 8) (k : Fin 1024) :
    (iblk m c 0 t : FVec Ideal S256x8x1024 .f32) (ix3 s b k) = m ((c : Thread nD τ).loc main_arg0)
      (ix3 (⟨256 * (t.val / 19) + s.val, by have := (idx t).2.2.2.2.2; omega⟩ : Fin 2048) b k) := by
  have := (idx t).2.2.2.2.2
  blk_point [iblk, V, idx t]

theorem sh_apply (t : Fin cfg0.N) (b : Fin 8) (k : Fin 1024) :
    (iblk m c 1 t : FVec Ideal S1x8x1024 .f32) (ix3 (0 : Fin 1) b k) = m ((c : Thread nD τ).loc main_arg1)
      (ix3 (0 : Fin 1) b (⟨k.val, by omega⟩ : Fin 6144)) := by
  blk_point [iblk, V, idx t]

theorem sc_apply (t : Fin cfg0.N) (b : Fin 8) (k : Fin 1024) :
    (iblk m c 2 t : FVec Ideal S1x8x1024 .f32) (ix3 (0 : Fin 1) b k) = m ((c : Thread nD τ).loc main_arg1)
      (ix3 (0 : Fin 1) b (⟨1024 + k.val, by omega⟩ : Fin 6144)) := by
  blk_point [iblk, V, idx t]

theorem g_apply (t : Fin cfg0.N) (k : Fin 1024) :
    (iblk m c 3 t : FVec Ideal S1x1x1024 .f32) (ix3 (0 : Fin 1) (0 : Fin 1) k) = m ((c : Thread nD τ).loc main_arg2)
      (ix1 k) := by
  blk_point [iblk, V, idx t]

set_option maxHeartbeats 1000000 in
/-- The weights as the host lays them out. -/
theorem V_w (k : Fin 1024) (j : Fin 9728) :
    (V m c main_v5 : FVec Ideal S1024x9728 .bf16) (ix2 k j)
      = lay (fun i => m ((c : Thread nD τ).loc main_arg3) (ix2 k i)) j := by
  unfold lay
  unfold_abbrev_sides
  after_results
  pointwise []
  split_ifs <;> (after_results_simp; pointwise [])

/-- The weights' block: columns `512 (t % 19) …` of the new layout. -/
theorem w_apply (t : Fin cfg0.N) (k : Fin 1024) (j : Fin 512) :
    (iblk m c 4 t : FVec Ideal S1024x512 .bf16) (ix2 k j)
      = lay (fun i => m ((c : Thread nD τ).loc main_arg3) (ix2 k i)) ⟨512 * (t.val % 19) + j.val, by omega⟩ := by
  rw [← V_w m c k]
  show _ = V m c main_v5 (ix2 _ _)
  blk_point [iblk, idx t]

end Cert.Proj.Point
-- ==== Proof.Proj.Sweep.lean ====
module

public import proofs.«01_k».proof.Proof.Proj.Point

/-!
# What the projection's array holds

By induction over the grid: after each point the kept rows are the time tile's normalised rows, and the output block is
their product with the column block.
-/

@[expose] public section

set_option maxRecDepth 16384

noncomputable section

namespace Cert.Proj.Sweep

open Idealize.ShloMosaic Idealize.ShloMosaic.TcCoe Idealize.SL.Sem
open Cert.Kernel3Ideal Cert.Kernel3Ideal.Gen Cert.Kernel3Ideal.Value Cert.Proj Cert.Proj.Point

variable (m : (ℓ : Loc nD τ sig) → Buf (Elt Ideal) ℓ) (c : Dev nD)

/-- The normalised, modulated row of time `t` and sequence `b`. -/
def row (t : Fin 2048) (b : Fin 8) : Fin 1024 → EReal :=
  hid (fun k => m ((c : Thread nD τ).loc main_arg0) (ix3 t b k))
    (fun k => m ((c : Thread nD τ).loc main_arg2) (ix1 k))
    (fun k => m ((c : Thread nD τ).loc main_arg1) (ix3 (0 : Fin 1) b (⟨1024 + k.val, by omega⟩ : Fin 6144)))
    (fun k => m ((c : Thread nD τ).loc main_arg1) (ix3 (0 : Fin 1) b (⟨k.val, by omega⟩ : Fin 6144)))

/-- The row's product with the matrix, in the new layout. -/
def out (t : Fin 2048) (b : Fin 8) (j : Fin 9728) : EReal :=
  lay (fun i => dot (row m c t b) (fun k => m ((c : Thread nD τ).loc main_arg3) (ix2 k i))) j

/-- The time of step `s` of a grid point's tile. -/
def T (t : Fin cfg0.N) (s : Fin 256) : Fin 2048 :=
  ⟨256 * (t.val / 19) + s.val, by have := (idx t).2.2.2.2.2; omega⟩

/-- The column `j` of a grid point's column block. -/
def C (t : Fin cfg0.N) (j : Fin 512) : Fin 9728 := ⟨512 * (t.val % 19) + j.val, by omega⟩

/-- The rows that the first point of a time tile keeps. -/
theorem kept (t : Fin cfg0.N) (s : Fin 256) (b : Fin 8) (k : Fin 1024) :
    k0_pay1 (F := Ideal) (iblk m c 0 t) (iblk m c 3 t) (iblk m c 2 t) (iblk m c 1 t) (ix2 (⟨8 * s.val + b.val, by omega⟩ : Fin 2048) k)
      = row m c (T t s) b k := by
  rw [hid_apply]
  unfold row
  simp only [x_apply m c t, g_apply m c t, sc_apply m c t, sh_apply m c t]
  rfl

/-- What a point leaves: the output block and the kept rows. -/
structure Left (t : Fin cfg0.N) (o : Vec Ideal S256x8x512 .f32 × Vec Ideal S2048x1024 .bf16) : Prop where
  z : ∀ (s : Fin 256) (b : Fin 8) (j : Fin 512), o.1 (ix3 s b j) = out m c (T t s) b (C t j)
  h : ∀ (s : Fin 256) (b : Fin 8) (k : Fin 1024),
    o.2 (ix2 (⟨8 * s.val + b.val, by omega⟩ : Fin 2048) k) = row m c (T t s) b k

/-- The product block of kept rows that are the tile's. -/
theorem prod (t : Fin cfg0.N) (h : Vec Ideal S2048x1024 .bf16)
    (e : ∀ (s : Fin 256) (b : Fin 8) (k : Fin 1024), h (ix2 (⟨8 * s.val + b.val, by omega⟩ : Fin 2048) k) = row m c (T t s) b k)
    (s : Fin 256) (b : Fin 8) (j : Fin 512) :
    k0_pay2 (F := Ideal) h (iblk m c 4 t) (ix3 s b j) = out m c (T t s) b (C t j) := by
  rw [prod_apply]
  unfold out
  rw [← dot_lay]
  simp only [e, w_apply m c t]
  rfl

/-- The first column block of a time tile. -/
theorem left_A (t : Fin cfg0.N) (h0 : t.val % 19 = 0) (acc) : Left m c t (stAt0 m c t.val t.isLt acc) := by
  rw [stAt0_A m c t _ h0]
  constructor
  · intro s b j
    dsimp only
    frame_out
    exact prod m c t _ (kept m c t) s b j
  · intro s b k
    dsimp only
    frame_out
    exact kept m c t s b k

/-- A later column block: the rows come from the point before. -/
theorem left_B (t : Fin cfg0.N) (h0 : ¬ t.val % 19 = 0) (acc) (q : Fin cfg0.N) (hq : q.val + 1 = t.val)
    (e : Left m c q acc) : Left m c t (stAt0 m c t.val t.isLt acc) := by
  have hT : ∀ s, T t s = T q s := fun s => Fin.ext (by show 256 * (t.val / 19) + s.val = 256 * (q.val / 19) + s.val; omega)
  have hk : ∀ (s : Fin 256) (b : Fin 8) (k : Fin 1024),
      acc.2 (ix2 (⟨8 * s.val + b.val, by omega⟩ : Fin 2048) k) = row m c (T t s) b k := by
    intro s b k
    rw [hT, e.h]
  rw [stAt0_B m c t _ h0]
  constructor
  · intro s b j
    dsimp only
    frame_out
    exact prod m c t _ (fun s b k =>
      (congrFun ((Memref.isWhole_whole cc0_scratch0).read_unread (Val := Elt Ideal) acc.2) _).trans (hk s b k)) s b j
  · intro s b k
    dsimp only
    exact hk s b k

/-- After every point of the grid the fold holds what `Left` says. -/
theorem left_all (n : ℕ) (hn : 0 + n < cfg0.N) (hn' : n < cfg0.N) :
    Left m c ⟨n, hn'⟩ (Pipeline.accAt (fun n h => stAt0 m c n h junk0) (stAt0 m c) 0 n hn) := by
  induction n with
  | zero => exact left_A m c ⟨0, hn'⟩ rfl junk0
  | succ n ih =>
    have e := ih (by omega) (by omega)
    rw [Pipeline.accAt_succ]
    simp only [Nat.zero_add]
    by_cases h0 : (n + 1) % 19 = 0
    · exact left_A m c ⟨n + 1, hn'⟩ h0 _
    · exact left_B m c ⟨n + 1, hn'⟩ h0 _ ⟨n, by omega⟩ rfl e

theorem N_eq : cfg0.N = 152 := N_0

/-- The result: every row's product in the new layout. -/
theorem z_eq (s : Fin 2048) (b : Fin 8) (j : Fin 9728) : G5 m c (ix3 s b j) = out m c s b j := by
  have hN := N_eq
  have hpt : pt5Of (ix3 s b j) = 19 * (s.val / 256) + j.val / 512 := by
    show 19 * (s.val / 256 - 0) + 19 * (b.val / 8 - 0) + 1 * (j.val / 512 - 0) = _
    omega
  have hloc : loc5Of (ix3 s b j) = ix3 (⟨s.val % 256, by omega⟩ : Fin 256) b (⟨j.val % 512, by omega⟩ : Fin 512) := by
    funext a
    match a with
    | ⟨0, _⟩ => rfl
    | ⟨1, _⟩ => exact Fin.ext (show b.val % 8 = b.val by omega)
    | ⟨2, _⟩ => rfl
  have hn : 19 * (s.val / 256) + j.val / 512 < cfg0.N := by omega
  unfold G5
  rw [dif_pos (by rw [hpt]; exact hn), hloc, fold0_congr m c _ _ (19 * (s.val / 256) + j.val / 512) (by omega) hpt]
  refine ((left_all m c _ (by omega) hn).z _ b _).trans ?_
  have ht : T ⟨19 * (s.val / 256) + j.val / 512, hn⟩ ⟨s.val % 256, by omega⟩ = s :=
    Fin.ext (show 256 * ((19 * (s.val / 256) + j.val / 512) / 19) + s.val % 256 = s.val by omega)
  have hj : C ⟨19 * (s.val / 256) + j.val / 512, hn⟩ ⟨j.val % 512, by omega⟩ = j :=
    Fin.ext (show 512 * ((19 * (s.val / 256) + j.val / 512) % 19) + j.val % 512 = j.val by omega)
  rw [ht, hj]

end Cert.Proj.Sweep
-- ==== Proof.Proj.Ref.lean ====
module

public import proofs.«01_k».proof.Proof.Gen.Reference3Ideal.Run
public import proofs.«01_k».proof.Proof.Proj.Spec

/-!
# What the projection's reference computes
-/

@[expose] public section

set_option maxRecDepth 16384

noncomputable section

namespace Cert.Proj.Ref

open Idealize.ShloMosaic Idealize.ShloMosaic.TcCoe Idealize.SL.Sem
open Cert.Reference3Ideal Cert.Reference3Ideal.Gen Cert.Reference3Ideal.Value Cert.Proj

variable (m : (ℓ : Loc nD τ sig) → Buf (Elt Ideal) ℓ) (c : Dev nD)

/-- Row `t`, sequence `b` of the result: the normalised row times the matrix, in the new layout. -/
theorem out_apply (t : Fin 2048) (b : Fin 8) (j : Fin 9728) :
    res_out0 m c (ix3 t b j)
      = lay (fun i => dot (hid (fun k => m ((c.tc : Thread nD τ).loc main_arg0) (ix3 t b k))
          (fun k => m ((c.tc : Thread nD τ).loc main_arg2) (ix1 k))
          (fun k => m ((c.tc : Thread nD τ).loc main_arg1) (ix3 (0 : Fin 1) b (⟨1024 + k.val, by omega⟩ : Fin 6144)))
          (fun k => m ((c.tc : Thread nD τ).loc main_arg1) (ix3 (0 : Fin 1) b (⟨k.val, by omega⟩ : Fin 6144))))
          (fun k => m ((c.tc : Thread nD τ).loc main_arg3) (ix2 k i))) j := by
  unfold lay dot hid rms
  pointwise [res_out0, res_main_v32]

end Cert.Proj.Ref
-- ==== Proof.Proj.Claims.lean ====
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Proj.Sweep
public import proofs.«01_k».proof.Proof.Proj.Ref
public import Idealize.ShloMosaic.Adequacy
public import Idealize.ShloMosaic.Init

/-!
# The claims about the input projection

The frames of the three programs, and the equation of the kernel's result with the reference's.
-/

@[expose] public section

noncomputable section

namespace Cert.Proj.Claims

open Idealize.ShloMosaic Idealize.ShloMosaic.TcCoe Idealize.SL.Sem

/-- The kernel runs and leaves its arguments unchanged. -/
theorem frame_kernel : Cert.quiescent_Kernel3 := fun m ρ _ => Cert.Kernel3.Gen.frame m ρ

/-- So does its ideal reading. -/
theorem frame_ideal : Cert.quiescent_Kernel3Ideal := fun m ρ _ => Cert.Kernel3Ideal.Gen.frame m ρ

/-- So does the reference. -/
theorem frame_reference : Cert.quiescent_Reference3Ideal := fun m ρ _ =>
  (θ_run Cert.Reference3Ideal.defs _ _).mono
    (fun r h => ⟨fun c => (h c).2, sem_eq_zero_of_no_sems (by decide) r.2⟩) (Cert.Reference3Ideal.Value.run m ρ)

/-- From equal arguments both programs return the same projected rows. -/
theorem algebraic : Cert.algebraic_Kernel3Ideal_Reference3Ideal := by
  intro m g m' g' _ hm
  refine ⟨fun c => Cert.Kernel3Ideal.Value.G5 m c, Cert.Kernel3Ideal.Value.run m g, ?_⟩
  refine (θ_run Cert.Reference3Ideal.defs _ _).mono (fun r h c => ?_) (Cert.Reference3Ideal.Value.run m' g')
  obtain ⟨e1, k⟩ := h c
  obtain ⟨h0, h1, h2, h3⟩ := hm c
  refine ⟨e1.trans ?_, k⟩
  funext i
  obtain ⟨t, b, j, rfl⟩ : ∃ (t : Fin 2048) (b : Fin 8) (j : Fin 9728), i = ix3 t b j := ⟨_, _, _, (ix3_eta i).symm⟩
  refine (Ref.out_apply m' c t b j).trans ?_
  rw [h0, h1, h2, h3]
  exact (Sweep.z_eq m c t b j).symm

end Cert.Proj.Claims
-- ==== Proof.Merge.Spec.lean ====
module

public import proofs.«01_k».proof.Proof.Lru.Spec
public import proofs.«01_k».proof.Proof.Proj.Spec

/-!
# The merge, as plain mathematics

S5's output goes through gelu and a gated linear unit. The three mixers' outputs are multiplied with their matrices, gated,
added up, multiplied with the output matrix and added to the residual. The sum is normalised and modulated, and the router's
logits are its product with the router's matrix, in a row of 128 entries of which 32 are used.
-/

@[expose] public section

noncomputable section

namespace Cert.Merge

open Idealize.ShloMosaic
open Cert.Lru (sigm gelu)
open Cert.Proj (dot hid rms)

/-- A row. -/
abbrev Row := Fin 1024 → EReal

/-- The gated linear unit after S5. -/
def glu (y : Row) (w : Fin 1024 → Row) (b : Row) (k : Fin 1024) : EReal :=
  gelu (y k) * sigm (dot (fun i => gelu (y i)) (fun i => w i k) + b k)

/-- One gated branch. -/
def branch (g u : Row) (w : Fin 1024 → Row) (k : Fin 1024) : EReal := sigm (g k) * dot u (fun i => w i k)

/-- A logit row of 32 entries in 128 lanes. -/
def lanes (l : Fin 32 → EReal) (e : Fin 128) : EReal := if h : e.val < 32 then l ⟨e.val, h⟩ else 0

/-- The arguments as plain functions of coordinates. -/
structure Args where
  x : Fin 2048 → Fin 8 → Row
  s5 : Fin 2048 → Fin 8 → Row
  lru : Fin 2048 → Fin 8 → Row
  rw : Fin 2048 → Fin 8 → Row
  z : Fin 2048 → Fin 8 → Fin 9728 → EReal
  mod : Fin 8 → Fin 6144 → EReal
  wg : Fin 1024 → Row
  bg : Row
  w1 : Fin 1024 → Row
  w2 : Fin 1024 → Row
  w3 : Fin 1024 → Row
  wo : Fin 1024 → Row
  n2 : Row
  wr : Fin 1024 → Fin 32 → EReal
  br : Fin 32 → EReal

variable (A : Args)

/-- The three gated branches added up. -/
def Args.merged (t : Fin 2048) (b : Fin 8) (k : Fin 1024) : EReal :=
  branch (fun k => A.z t b ⟨6144 + k.val, by omega⟩) (glu (A.s5 t b) A.wg A.bg) A.w1 k
    + branch (fun k => A.z t b ⟨6144 + (1024 + k.val), by omega⟩) (A.lru t b) A.w2 k
    + branch (fun k => A.z t b ⟨6144 + (2048 + k.val), by omega⟩) (A.rw t b) A.w3 k

/-- The residual after the mixers. -/
def Args.x1 (t : Fin 2048) (b : Fin 8) (k : Fin 1024) : EReal :=
  A.x t b k + A.mod b ⟨2048 + k.val, by omega⟩ * dot (A.merged t b) (fun i => A.wo i k)

/-- The experts' input. -/
def Args.h2 (t : Fin 2048) (b : Fin 8) (k : Fin 1024) : EReal :=
  hid (A.x1 t b) A.n2 (fun k => A.mod b ⟨4096 + k.val, by omega⟩) (fun k => A.mod b ⟨3072 + k.val, by omega⟩) k

/-- The router's logits. -/
def Args.logits (t : Fin 2048) (b : Fin 8) (e : Fin 128) : EReal :=
  lanes (fun e => dot (A.h2 t b) (fun i => A.wr i e) + A.br e) e

/-- Padding the matrix and the bias with zeros pads the logits with zeros. -/
theorem dot_lanes (h : Row) (w : Fin 1024 → Fin 32 → EReal) (b : Fin 32 → EReal) (e : Fin 128) :
    dot h (fun i => lanes (w i) e) + lanes b e = lanes (fun e => dot h (fun i => w i e) + b e) e := by
  unfold lanes
  split_ifs
  · rfl
  · unfold dot; simp

end Cert.Merge
-- ==== Proof.Merge.Point.lean ====
module

public import proofs.«01_k».proof.Proof.Gen.Kernel4Ideal.Value
public import Idealize.ShloMosaic.Lib.Claim
public import proofs.«01_k».proof.Proof.Merge.Spec

/-!
# What one block of the merge computes

Row `8 s + b` of a block's flat rows is step `s` of the time tile and sequence `b`.
-/

@[expose] public section

set_option maxRecDepth 16384

noncomputable section

namespace Cert.Merge.Point

open Idealize.ShloMosaic Idealize.ShloMosaic.TcCoe Idealize.SL.Sem
open Cert.Kernel4Ideal Cert.Kernel4Ideal.Gen Cert.Merge
open Cert.Lru (sigm gelu gelu_left)
open Cert.Proj (dot hid rms)

/-- The flat row of step `s` and sequence `b`. -/
abbrev R (s : Fin 64) (b : Fin 8) : Fin 512 := ⟨8 * s.val + b.val, by omega⟩

theorem R_div (s : Fin 64) (b : Fin 8) (h) : (⟨(8 * s.val + b.val) / 8, h⟩ : Fin 64) = s := Fin.ext (by simp only; omega)

theorem R_mod (s : Fin 64) (b : Fin 8) (h) : (⟨(8 * s.val + b.val) % 8, h⟩ : Fin 8) = b := Fin.ext (by simp only; omega)

theorem glu_apply (y : Vec Ideal S64x8x1024 .f32) (w : Vec Ideal S1024x1024 .bf16) (bias : Vec Ideal S1x1024 .f32)
    (s : Fin 64) (b : Fin 8) (k : Fin 1024) :
    k0_pay3 (F := Ideal) y w bias (ix2 (R s b) k)
      = glu (fun k => y (ix3 s b k)) (fun i k => w (ix2 i k)) (fun k => bias (ix2 (0 : Fin 1) k)) k := by
  unfold glu sigm dot
  simp only [← gelu_left]
  pointwise [k0_pay3]
  simp only [zero_add, zero_sub, R_div, R_mod]

theorem row4_apply (y : Vec Ideal S64x8x1024 .f32) (s : Fin 64) (b : Fin 8) (k : Fin 1024) :
    k0_pay4 (F := Ideal) y (ix2 (R s b) k) = y (ix3 s b k) := by
  pointwise [k0_pay4]
  simp only [R_div, R_mod]

theorem row5_apply (y : Vec Ideal S64x8x1024 .f32) (s : Fin 64) (b : Fin 8) (k : Fin 1024) :
    k0_pay5 (F := Ideal) y (ix2 (R s b) k) = y (ix3 s b k) := by
  pointwise [k0_pay5]
  simp only [R_div, R_mod]

theorem gate_apply (z : Vec Ideal S64x8x1024 .f32) (s : Fin 64) (b : Fin 8) (k : Fin 1024) :
    k0_pay8 (F := Ideal) z (ix2 (R s b) k) = sigm (z (ix3 s b k)) := by
  unfold sigm
  pointwise [k0_pay8]
  simp only [zero_sub, R_div, R_mod]

theorem two_apply (u : FVec Ideal S512x1024 .f32) (g : FVec Ideal S512x1024 .f32) (w1 : Vec Ideal S1024x1024 .bf16)
    (g2 y2 : Vec Ideal S64x8x1024 .f32) (w2 : Vec Ideal S1024x1024 .bf16) (s : Fin 64) (b : Fin 8) (k : Fin 1024) :
    k0_pay7 (F := Ideal) u g k0_pay6 w1 g2 y2 w2 (ix2 (R s b) k)
      = branch (fun k => g (ix2 (R s b) k)) (fun k => u (ix2 (R s b) k)) (fun i k => w1 (ix2 i k)) k
        + branch (fun k => g2 (ix3 s b k)) (fun k => y2 (ix3 s b k)) (fun i k => w2 (ix2 i k)) k := by
  unfold branch sigm dot
  pointwise [k0_pay7, k0_pay6]
  simp only [zero_add, zero_sub, R_div, R_mod]

theorem x1_apply (y3 m12 g3 : FVec Ideal S512x1024 .f32) (w3 wo : Vec Ideal S1024x1024 .bf16)
    (x : Vec Ideal S64x8x1024 .f32) (gt : Vec Ideal S1x8x1024 .f32) (s : Fin 64) (b : Fin 8) (k : Fin 1024) :
    k0_pay9 (F := Ideal) y3 m12 g3 w3 wo x gt (ix3 s b k)
      = x (ix3 s b k) + gt (ix3 (0 : Fin 1) b k) * dot (fun k => m12 (ix2 (R s b) k)
          + g3 (ix2 (R s b) k) * dot (fun k => y3 (ix2 (R s b) k)) (fun i => w3 (ix2 i k))) (fun i => wo (ix2 i k)) := by
  unfold dot
  pointwise [k0_pay9]
  simp only [R, Nat.mul_comm 8]

theorem n2_apply (y3 m12 g3 : FVec Ideal S512x1024 .f32) (w3 wo : Vec Ideal S1024x1024 .bf16)
    (x : Vec Ideal S64x8x1024 .f32) (gt : Vec Ideal S1x8x1024 .f32) (g : Vec Ideal S1x1x1024 .f32) (s : Fin 64) (b : Fin 8)
    (k : Fin 1024) :
    k0_pay10 (F := Ideal) y3 m12 g3 w3 wo x gt g (ix3 s b k)
      = k0_pay9 (F := Ideal) y3 m12 g3 w3 wo x gt (ix3 s b k)
        * rms (fun k => k0_pay9 (F := Ideal) y3 m12 g3 w3 wo x gt (ix3 s b k)) * g (ix3 (0 : Fin 1) (0 : Fin 1) k) := by
  unfold rms
  generalize hx : k0_pay9 (F := Ideal) y3 m12 g3 w3 wo x gt = x1
  unfold k0_pay10
  rw [hx]
  pointwise []

theorem h2_apply (n : FVec Ideal S64x8x1024 .f32) (sc sh : Vec Ideal S1x8x1024 .f32) (s : Fin 64) (b : Fin 8) (k : Fin 1024) :
    k0_pay1 (F := Ideal) n (k0_pay11 sc) sh (ix3 s b k)
      = n (ix3 s b k) * (1 + sc (ix3 (0 : Fin 1) b k)) + sh (ix3 (0 : Fin 1) b k) := by
  pointwise [k0_pay1, k0_pay11]

theorem lg_apply (n : FVec Ideal S64x8x1024 .f32) (q sh : FVec Ideal S1x8x1024 .f32) (wr : Vec Ideal S1024x128 .f32)
    (br : Vec Ideal S1x128 .f32) (s : Fin 64) (b : Fin 8) (e : Fin 128) :
    k0_pay2 (F := Ideal) n q sh wr br (ix3 s b e)
      = dot (fun k => k0_pay1 (F := Ideal) n q sh (ix3 s b k)) (fun i => wr (ix2 i e)) + br (ix2 (0 : Fin 1) e) := by
  unfold dot
  generalize hx : k0_pay1 (F := Ideal) n q sh = h2
  unfold k0_pay2
  rw [hx]
  pointwise []

end Cert.Merge.Point
-- ==== Proof.Merge.Blocks.lean ====
module

public import proofs.«01_k».proof.Proof.Merge.Point

/-!
# What the merge's arrays hold

Grid point `t` is time tile `t` (64 steps of 8 sequences). Each of its blocks is a stretch of an argument; the three output
blocks are the merge's values of these steps, and the tiles cover the arrays.
-/

@[expose] public section

set_option maxRecDepth 16384

noncomputable section

namespace Cert.Merge.Blocks

open Idealize.ShloMosaic Idealize.ShloMosaic.TcCoe Idealize.SL.Sem
open Cert.Kernel4Ideal Cert.Kernel4Ideal.Gen Cert.Merge Cert.Merge.Point

variable (m : (ℓ : Loc nD τ sig) → Buf (Elt Ideal) ℓ) (c : Dev nD)

/-- The arguments by coordinates. -/
def A : Args where
  x t b k := m ((c : Thread nD τ).loc main_arg0) (ix3 t b k)
  s5 t b k := m ((c : Thread nD τ).loc main_arg1) (ix3 t b k)
  lru t b k := m ((c : Thread nD τ).loc main_arg2) (ix3 t b k)
  rw t b k := m ((c : Thread nD τ).loc main_arg3) (ix3 t b k)
  z t b k := m ((c : Thread nD τ).loc main_arg4) (ix3 t b k)
  mod b k := m ((c : Thread nD τ).loc main_arg5) (ix3 (0 : Fin 1) b k)
  wg i k := m ((c : Thread nD τ).loc main_arg6) (ix2 i k)
  bg k := m ((c : Thread nD τ).loc main_arg7) (ix1 k)
  w1 i k := m ((c : Thread nD τ).loc main_arg8) (ix2 i k)
  w2 i k := m ((c : Thread nD τ).loc main_arg9) (ix2 i k)
  w3 i k := m ((c : Thread nD τ).loc main_arg10) (ix2 i k)
  wo i k := m ((c : Thread nD τ).loc main_arg11) (ix2 i k)
  n2 k := m ((c : Thread nD τ).loc main_arg12) (ix1 k)
  wr i e := m ((c : Thread nD τ).loc main_arg13) (ix2 i e)
  br e := m ((c : Thread nD τ).loc main_arg14) (ix1 e)

/-- The placements of the blocks that move with the grid, and of those of the modulation. -/
theorem idx : ∀ t : Fin cfg0.N, t.val < 32 ∧ win0_0.index t = ![t.val, 0, 0] ∧ win0_1.index t = ![t.val, 0, 0]
    ∧ win0_2.index t = ![t.val, 0, 0] ∧ win0_3.index t = ![t.val, 0, 0] ∧ win0_4.index t = ![t.val, 0, 6]
    ∧ win0_5.index t = ![t.val, 0, 7] ∧ win0_6.index t = ![t.val, 0, 8] ∧ win0_7.index t = ![0, 0, 2]
    ∧ win0_8.index t = ![0, 0, 4] ∧ win0_9.index t = ![0, 0, 3] :=
  (by decide +kernel : ∀ t : Fin grid0.N, _)

/-- The blocks that stay. -/
theorem idx' : ∀ t : Fin cfg0.N, win0_10.index t = ![0, 0] ∧ win0_11.index t = ![0, 0]
    ∧ win0_12.index t = ![0, 0] ∧ win0_13.index t = ![0, 0] ∧ win0_14.index t = ![0, 0] ∧ win0_15.index t = ![0, 0]
    ∧ win0_16.index t = ![0, 0, 0] ∧ win0_17.index t = ![0, 0] ∧ win0_18.index t = ![0, 0] :=
  (by decide +kernel : ∀ t : Fin grid0.N, _)

/-- The output blocks. -/
theorem idxo : ∀ t : Fin cfg0.N, win0_19.index t = ![t.val, 0, 0] ∧ win0_20.index t = ![t.val, 0, 0]
    ∧ win0_21.index t = ![t.val, 0, 0] :=
  (by decide +kernel : ∀ t : Fin grid0.N, _)

/-- The time of step `s` of a tile. -/
def T (t : Fin cfg0.N) (s : Fin 64) : Fin 2048 := ⟨64 * t.val + s.val, by have := (idx t).1; omega⟩

theorem x_apply (t : Fin cfg0.N) (s : Fin 64) (b : Fin 8) (k : Fin 1024) :
    (iblk m c 0 t : FVec Ideal S64x8x1024 .f32) (ix3 s b k) = (A m c).x (T t s) b k := by
  have := (idx t).1
  unfold A T
  blk_point [iblk, V, idx t]

theorem s5_apply (t : Fin cfg0.N) (s : Fin 64) (b : Fin 8) (k : Fin 1024) :
    (iblk m c 1 t : FVec Ideal S64x8x1024 .f32) (ix3 s b k) = (A m c).s5 (T t s) b k := by
  have := (idx t).1
  unfold A T
  blk_point [iblk, V, idx t]

theorem lru_apply (t : Fin cfg0.N) (s : Fin 64) (b : Fin 8) (k : Fin 1024) :
    (iblk m c 2 t : FVec Ideal S64x8x1024 .f32) (ix3 s b k) = (A m c).lru (T t s) b k := by
  have := (idx t).1
  unfold A T
  blk_point [iblk, V, idx t]

theorem rw_apply (t : Fin cfg0.N) (s : Fin 64) (b : Fin 8) (k : Fin 1024) :
    (iblk m c 3 t : FVec Ideal S64x8x1024 .f32) (ix3 s b k) = (A m c).rw (T t s) b k := by
  have := (idx t).1
  unfold A T
  blk_point [iblk, V, idx t]

theorem z1_apply (t : Fin cfg0.N) (s : Fin 64) (b : Fin 8) (k : Fin 1024) :
    (X0_4 m c t : FVec Ideal S64x8x1024 .f32) (ix3 s b k) = (A m c).z (T t s) b ⟨6144 + k.val, by omega⟩ := by
  have := (idx t).1
  unfold X0_4 Pipeline.Window.fill
  rw [dif_pos (moved0_4 t _)]
  unfold A T
  blk_point [iblk, V, idx t]

theorem z2_apply (t : Fin cfg0.N) (s : Fin 64) (b : Fin 8) (k : Fin 1024) :
    (X0_5 m c t : FVec Ideal S64x8x1024 .f32) (ix3 s b k) = (A m c).z (T t s) b ⟨6144 + (1024 + k.val), by omega⟩ := by
  have := (idx t).1
  unfold X0_5 Pipeline.Window.fill
  rw [dif_pos (moved0_5 t _)]
  unfold A T
  blk_point [iblk, V, idx t]

theorem z3_apply (t : Fin cfg0.N) (s : Fin 64) (b : Fin 8) (k : Fin 1024) :
    (X0_6 m c t : FVec Ideal S64x8x1024 .f32) (ix3 s b k) = (A m c).z (T t s) b ⟨6144 + (2048 + k.val), by omega⟩ := by
  have := (idx t).1
  unfold X0_6 Pipeline.Window.fill
  rw [dif_pos (moved0_6 t _)]
  unfold A T
  blk_point [iblk, V, idx t]

theorem gt_apply (t : Fin cfg0.N) (b : Fin 8) (k : Fin 1024) :
    (iblk m c 7 t : FVec Ideal S1x8x1024 .f32) (ix3 (0 : Fin 1) b k) = (A m c).mod b ⟨2048 + k.val, by omega⟩ := by
  unfold A
  blk_point [iblk, V, idx t]

theorem sc_apply (t : Fin cfg0.N) (b : Fin 8) (k : Fin 1024) :
    (iblk m c 8 t : FVec Ideal S1x8x1024 .f32) (ix3 (0 : Fin 1) b k) = (A m c).mod b ⟨4096 + k.val, by omega⟩ := by
  unfold A
  blk_point [iblk, V, idx t]

theorem sh_apply (t : Fin cfg0.N) (b : Fin 8) (k : Fin 1024) :
    (iblk m c 9 t : FVec Ideal S1x8x1024 .f32) (ix3 (0 : Fin 1) b k) = (A m c).mod b ⟨3072 + k.val, by omega⟩ := by
  unfold A
  blk_point [iblk, V, idx t]

theorem wg_apply (t : Fin cfg0.N) (i k : Fin 1024) :
    (iblk m c 10 t : FVec Ideal S1024x1024 .bf16) (ix2 i k) = (A m c).wg i k := by
  unfold A
  blk_point [iblk, V, idx' t]

theorem w1_apply (t : Fin cfg0.N) (i k : Fin 1024) :
    (iblk m c 12 t : FVec Ideal S1024x1024 .bf16) (ix2 i k) = (A m c).w1 i k := by
  unfold A
  blk_point [iblk, V, idx' t]

theorem w2_apply (t : Fin cfg0.N) (i k : Fin 1024) :
    (iblk m c 13 t : FVec Ideal S1024x1024 .bf16) (ix2 i k) = (A m c).w2 i k := by
  unfold A
  blk_point [iblk, V, idx' t]

theorem w3_apply (t : Fin cfg0.N) (i k : Fin 1024) :
    (iblk m c 14 t : FVec Ideal S1024x1024 .bf16) (ix2 i k) = (A m c).w3 i k := by
  unfold A
  blk_point [iblk, V, idx' t]

theorem wo_apply (t : Fin cfg0.N) (i k : Fin 1024) :
    (iblk m c 15 t : FVec Ideal S1024x1024 .bf16) (ix2 i k) = (A m c).wo i k := by
  unfold A
  blk_point [iblk, V, idx' t]

theorem bg_apply (t : Fin cfg0.N) (k : Fin 1024) :
    (iblk m c 11 t : FVec Ideal S1x1024 .f32) (ix2 (0 : Fin 1) k) = (A m c).bg k := by
  unfold A
  blk_point [iblk, V, idx' t]

theorem n2_apply (t : Fin cfg0.N) (k : Fin 1024) :
    (iblk m c 16 t : FVec Ideal S1x1x1024 .f32) (ix3 (0 : Fin 1) (0 : Fin 1) k) = (A m c).n2 k := by
  unfold A
  blk_point [iblk, V, idx' t]

set_option maxHeartbeats 1000000 in
/-- The router's matrix as the host pads it. -/
theorem V_wr (i : Fin 1024) (e : Fin 128) :
    (V m c main_v1 : FVec Ideal S1024x128 .f32) (ix2 i e) = lanes ((A m c).wr i) e := by
  unfold lanes A
  unfold_abbrev_sides
  after_results
  pointwise []

set_option maxHeartbeats 1000000 in
/-- The router's bias as the host pads it. -/
theorem V_br (e : Fin 128) : (V m c main_v4 : FVec Ideal S1x128 .f32) (ix2 (0 : Fin 1) e) = lanes (A m c).br e := by
  unfold lanes A
  unfold_abbrev_sides
  after_results
  pointwise []

theorem wr_apply (t : Fin cfg0.N) (i : Fin 1024) (e : Fin 128) :
    (iblk m c 17 t : FVec Ideal S1024x128 .f32) (ix2 i e) = lanes ((A m c).wr i) e := by
  rw [← V_wr m c i]
  blk_point [iblk, idx' t]

theorem br_apply (t : Fin cfg0.N) (e : Fin 128) :
    (iblk m c 18 t : FVec Ideal S1x128 .f32) (ix2 (0 : Fin 1) e) = lanes (A m c).br e := by
  rw [← V_br m c]
  blk_point [iblk, idx' t]

/-- The residual's block. -/
abbrev X1 (t : Fin cfg0.N) : FVec Ideal S64x8x1024 .f32 :=
  k0_pay9 (k0_pay4 (iblk m c 3 t))
    (k0_pay7 (k0_pay3 (iblk m c 1 t) (iblk m c 10 t) (iblk m c 11 t)) (k0_pay5 (X0_4 m c t)) k0_pay6 (iblk m c 12 t)
      (X0_5 m c t) (iblk m c 2 t) (iblk m c 13 t))
    (k0_pay8 (X0_6 m c t)) (iblk m c 14 t) (iblk m c 15 t) (iblk m c 0 t) (iblk m c 7 t)

/-- The normalised block. -/
abbrev N2 (t : Fin cfg0.N) : FVec Ideal S64x8x1024 .f32 :=
  k0_pay10 (k0_pay4 (iblk m c 3 t))
    (k0_pay7 (k0_pay3 (iblk m c 1 t) (iblk m c 10 t) (iblk m c 11 t)) (k0_pay5 (X0_4 m c t)) k0_pay6 (iblk m c 12 t)
      (X0_5 m c t) (iblk m c 2 t) (iblk m c 13 t))
    (k0_pay8 (X0_6 m c t)) (iblk m c 14 t) (iblk m c 15 t) (iblk m c 0 t) (iblk m c 7 t) (iblk m c 16 t)

theorem X1_eq (t : Fin cfg0.N) (s : Fin 64) (b : Fin 8) (k : Fin 1024) :
    X1 m c t (ix3 s b k) = (A m c).x1 (T t s) b k := by
  unfold X1
  rw [x1_apply]
  simp only [two_apply, glu_apply, row4_apply, row5_apply, gate_apply]
  simp only [x_apply m c t, s5_apply m c t, lru_apply m c t, rw_apply m c t, z1_apply m c t, z2_apply m c t, z3_apply m c t,
    gt_apply m c t, wg_apply m c t, w1_apply m c t, w2_apply m c t, w3_apply m c t, wo_apply m c t, bg_apply m c t]
  rfl

theorem H2_eq (t : Fin cfg0.N) (s : Fin 64) (b : Fin 8) (k : Fin 1024) :
    k0_pay1 (F := Ideal) (N2 m c t) (k0_pay11 (iblk m c 8 t)) (iblk m c 9 t) (ix3 s b k) = (A m c).h2 (T t s) b k := by
  rw [h2_apply]
  unfold N2
  rw [Point.n2_apply]
  have e := X1_eq m c t
  unfold X1 at e
  simp only [e, n2_apply m c t, sc_apply m c t, sh_apply m c t]
  rfl

theorem LG_eq (t : Fin cfg0.N) (s : Fin 64) (b : Fin 8) (e : Fin 128) :
    k0_pay2 (F := Ideal) (N2 m c t) (k0_pay11 (iblk m c 8 t)) (iblk m c 9 t) (iblk m c 17 t) (iblk m c 18 t) (ix3 s b e)
      = (A m c).logits (T t s) b e := by
  rw [lg_apply]
  simp only [H2_eq m c t, wr_apply m c t, br_apply m c t]
  exact dot_lanes _ _ _ _

/-- The first array: the residual. -/
theorem x1_eq : (dats m 0 c).arrAt 19 cfg0.N = fun i : S2048x8x1024.Idx => (A m c).x1 (i 0) (i 1) (i 2) := by
  refine (dats m 0 c).arrAt_eq_of_covers 19 _ (by decide +kernel) fun t hf y => ?_
  blk_simp
  rw [after0_19]
  unfold outsAt0
  frame_out
  obtain ⟨s, b, k, rfl⟩ : ∃ (s : Fin 64) (b : Fin 8) (k : Fin 1024), y = ix3 s b k := ⟨_, _, _, (ix3_eta y).symm⟩
  refine (X1_eq m c t s b k).trans ?_
  have e : ((View.whole main_v12_0).slice (win0_19.rect t)).emb (ix3 s b k) = ix3 (T t s) b k := by
    unfold T
    blk_ext [idxo t]
  rw [e]
  rfl

/-- The second: the experts' input. -/
theorem h2_eq : (dats m 0 c).arrAt 20 cfg0.N = fun i : S2048x8x1024.Idx => (A m c).h2 (i 0) (i 1) (i 2) := by
  refine (dats m 0 c).arrAt_eq_of_covers 20 _ (by decide +kernel) fun t hf y => ?_
  blk_simp
  rw [after0_20]
  unfold outsAt0
  frame_out
  obtain ⟨s, b, k, rfl⟩ : ∃ (s : Fin 64) (b : Fin 8) (k : Fin 1024), y = ix3 s b k := ⟨_, _, _, (ix3_eta y).symm⟩
  refine (H2_eq m c t s b k).trans ?_
  have e : ((View.whole main_v12_1).slice (win0_20.rect t)).emb (ix3 s b k) = ix3 (T t s) b k := by
    unfold T
    blk_ext [idxo t]
  rw [e]
  rfl

/-- The third: the logits. -/
theorem logits_eq : (dats m 0 c).arrAt 21 cfg0.N = fun i : S2048x8x128.Idx => (A m c).logits (i 0) (i 1) (i 2) := by
  refine (dats m 0 c).arrAt_eq_of_covers 21 _ (by decide +kernel) fun t hf y => ?_
  blk_simp
  rw [after0_21]
  unfold outsAt0
  frame_out
  obtain ⟨s, b, k, rfl⟩ : ∃ (s : Fin 64) (b : Fin 8) (k : Fin 128), y = ix3 s b k := ⟨_, _, _, (ix3_eta y).symm⟩
  refine (LG_eq m c t s b k).trans ?_
  have e : ((View.whole main_v12_2).slice (win0_21.rect t)).emb (ix3 s b k) = ix3 (T t s) b k := by
    unfold T
    blk_ext [idxo t]
  rw [e]
  rfl

end Cert.Merge.Blocks
-- ==== Proof.Merge.Ref.lean ====
module

public import proofs.«01_k».proof.Proof.Gen.Reference4Ideal.Run
public import proofs.«01_k».proof.Proof.Merge.Spec

/-!
# What the merge's reference computes
-/

@[expose] public section

set_option maxRecDepth 16384

noncomputable section

namespace Cert.Merge.Ref

open Idealize.ShloMosaic Idealize.ShloMosaic.TcCoe Idealize.SL.Sem
open Cert.Reference4Ideal Cert.Reference4Ideal.Gen Cert.Reference4Ideal.Value Cert.Merge

variable (m : (ℓ : Loc nD τ sig) → Buf (Elt Ideal) ℓ) (c : Dev nD)

/-- The arguments by coordinates. -/
def A : Args where
  x t b k := m ((c.tc : Thread nD τ).loc main_arg0) (ix3 t b k)
  s5 t b k := m ((c.tc : Thread nD τ).loc main_arg1) (ix3 t b k)
  lru t b k := m ((c.tc : Thread nD τ).loc main_arg2) (ix3 t b k)
  rw t b k := m ((c.tc : Thread nD τ).loc main_arg3) (ix3 t b k)
  z t b k := m ((c.tc : Thread nD τ).loc main_arg4) (ix3 t b k)
  mod b k := m ((c.tc : Thread nD τ).loc main_arg5) (ix3 (0 : Fin 1) b k)
  wg i k := m ((c.tc : Thread nD τ).loc main_arg6) (ix2 i k)
  bg k := m ((c.tc : Thread nD τ).loc main_arg7) (ix1 k)
  w1 i k := m ((c.tc : Thread nD τ).loc main_arg8) (ix2 i k)
  w2 i k := m ((c.tc : Thread nD τ).loc main_arg9) (ix2 i k)
  w3 i k := m ((c.tc : Thread nD τ).loc main_arg10) (ix2 i k)
  wo i k := m ((c.tc : Thread nD τ).loc main_arg11) (ix2 i k)
  n2 k := m ((c.tc : Thread nD τ).loc main_arg12) (ix1 k)
  wr i e := m ((c.tc : Thread nD τ).loc main_arg13) (ix2 i e)
  br e := m ((c.tc : Thread nD τ).loc main_arg14) (ix1 e)

theorem h2_apply (t : Fin 2048) (b : Fin 8) (k : Fin 1024) : res_out1 m c (ix3 t b k) = (A m c).h2 t b k := by
  unfold Args.h2 Cert.Proj.hid Cert.Proj.rms Args.x1 Args.merged branch glu Cert.Proj.dot Cert.Lru.sigm Cert.Lru.gelu A
  pointwise [res_out1, res_main_v67]

set_option maxHeartbeats 1000000 in
theorem logits_apply (t : Fin 2048) (b : Fin 8) (e : Fin 128) : res_out2 m c (ix3 t b e) = (A m c).logits t b e := by
  unfold Args.logits lanes Args.h2 Cert.Proj.hid Cert.Proj.rms Args.x1 Args.merged branch glu Cert.Proj.dot Cert.Lru.sigm
    Cert.Lru.gelu A
  pointwise [res_out2, res_main_v73]

end Cert.Merge.Ref
-- ==== Proof.Merge.Claims.lean ====
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Merge.Blocks
public import proofs.«01_k».proof.Proof.Merge.Ref
public import Idealize.ShloMosaic.Adequacy
public import Idealize.ShloMosaic.Init

/-!
# The claims about the merge

The frames of the three programs, and the equation of the kernel's three results with the reference's.
-/

@[expose] public section

noncomputable section

namespace Cert.Merge.Claims

open Idealize.ShloMosaic Idealize.ShloMosaic.TcCoe Idealize.SL.Sem

/-- The kernel runs and leaves its arguments unchanged. -/
theorem frame_kernel : Cert.quiescent_Kernel4 := fun m ρ _ => Cert.Kernel4.Gen.frame m ρ

/-- So does its ideal reading. -/
theorem frame_ideal : Cert.quiescent_Kernel4Ideal := fun m ρ _ => Cert.Kernel4Ideal.Gen.frame m ρ

/-- So does the reference. -/
theorem frame_reference : Cert.quiescent_Reference4Ideal := fun m ρ _ =>
  (θ_run Cert.Reference4Ideal.defs _ _).mono
    (fun r h => ⟨fun c => (h c).2.2.2, sem_eq_zero_of_no_sems (by decide) r.2⟩) (Cert.Reference4Ideal.Value.run m ρ)

/-- From equal arguments both programs return the same residual, the same experts' input and the same logits. -/
theorem algebraic : Cert.algebraic_Kernel4Ideal_Reference4Ideal := by
  intro m g m' g' _ hm
  refine ⟨_, _, _, Cert.Kernel4Ideal.Value.run_blocks m g, ?_⟩
  refine (θ_run Cert.Reference4Ideal.defs _ _).mono (fun r h c => ?_) (Cert.Reference4Ideal.Value.run m' g')
  obtain ⟨e0, e1, e2, k⟩ := h c
  have hA : Ref.A m' c = Blocks.A m c := by
    obtain ⟨h0, h1, h2, h3, h4, h5, h6, h7, h8, h9, h10, h11, h12, h13, h14⟩ := hm c
    unfold Ref.A Blocks.A
    rw [h0, h1, h2, h3, h4, h5, h6, h7, h8, h9, h10, h11, h12, h13, h14]
  refine ⟨e0.trans ?_, e1.trans ?_, e2.trans ?_, k⟩
  · rw [Blocks.x1_eq m c, ← hA]
    funext i
    obtain ⟨t, b, j, rfl⟩ : ∃ (t : Fin 2048) (b : Fin 8) (j : Fin 1024), i = ix3 t b j := ⟨_, _, _, (ix3_eta i).symm⟩
    show _ = (Ref.A m' c).x1 t b j
    unfold Args.x1 Args.merged branch glu Cert.Proj.dot Cert.Lru.sigm Cert.Lru.gelu Ref.A
    pointwise []
  · rw [Blocks.h2_eq m c, ← hA]
    funext i
    obtain ⟨t, b, j, rfl⟩ : ∃ (t : Fin 2048) (b : Fin 8) (j : Fin 1024), i = ix3 t b j := ⟨_, _, _, (ix3_eta i).symm⟩
    exact Ref.h2_apply m' c t b j
  · rw [Blocks.logits_eq m c, ← hA]
    funext i
    obtain ⟨t, b, j, rfl⟩ : ∃ (t : Fin 2048) (b : Fin 8) (j : Fin 128), i = ix3 t b j := ⟨_, _, _, (ix3_eta i).symm⟩
    exact Ref.logits_apply m' c t b j

end Cert.Merge.Claims
-- ==== Proof.Ssm.Spec.lean ====
module

public import Idealize.ShloMosaic.Lib.Pipeline.ValueKit
public import Idealize.ShloMosaic.Lib.Pointwise

/-!
# The diagonal complex recurrence, as plain mathematics

The S5 mixer over the extended reals: for each of 64 groups a complex state of 64 entries, driven by the group's 16
channels through a complex matrix, decaying by a complex factor per entry, and read out through another complex matrix.
Complex numbers are written as pairs of real and imaginary part.
-/

@[expose] public section

noncomputable section

namespace Cert.Ssm

open Idealize.ShloMosaic

/-- The mixer's arguments as plain functions of coordinates: time, sequence, channel; group, state entry, channel within
    the group. -/
structure Args where
  z : Fin 2048 → Fin 8 → Fin 1024 → EReal
  h0r : Fin 8 → Fin 64 → Fin 64 → EReal
  h0i : Fin 8 → Fin 64 → Fin 64 → EReal
  ar : Fin 64 → Fin 64 → EReal
  ai : Fin 64 → Fin 64 → EReal
  qr : Fin 64 → Fin 64 → EReal
  qi : Fin 64 → Fin 64 → EReal
  br : Fin 64 → Fin 64 → Fin 16 → EReal
  bi : Fin 64 → Fin 64 → Fin 16 → EReal
  cr : Fin 64 → Fin 16 → Fin 64 → EReal
  ci : Fin 64 → Fin 16 → Fin 64 → EReal
  d : Fin 64 → Fin 16 → EReal

/-- The complex recurrence `h (k+1) = a · h k + x k`. -/
def crec (ar ai : EReal) (xr xi : ℕ → EReal) (h : EReal × EReal) : ℕ → EReal × EReal
  | 0 => h
  | k + 1 => (ar * (crec ar ai xr xi h k).1 - ai * (crec ar ai xr xi h k).2 + xr k,
      ar * (crec ar ai xr xi h k).2 + ai * (crec ar ai xr xi h k).1 + xi k)

/-- Running on from step `n` is running with the sequences shifted by `n`. -/
theorem crec_add (ar ai : EReal) (xr xi : ℕ → EReal) (h : EReal × EReal) (n k : ℕ) :
    crec ar ai xr xi h (n + k) = crec ar ai (fun i => xr (n + i)) (fun i => xi (n + i)) (crec ar ai xr xi h n) k := by
  induction k with
  | zero => rfl
  | succ k ih =>
    show (ar * (crec ar ai xr xi h (n + k)).1 - ai * (crec ar ai xr xi h (n + k)).2 + xr (n + k),
      ar * (crec ar ai xr xi h (n + k)).2 + ai * (crec ar ai xr xi h (n + k)).1 + xi (n + k)) = _
    rw [ih]; rfl

/-- The recurrence reads only the first `k` entries of its sequences. -/
theorem crec_congr {ar ai ar' ai' : EReal} {xr xi xr' xi' : ℕ → EReal} {h h' : EReal × EReal} (ea : ar = ar')
    (eb : ai = ai') (hh : h = h') (k : ℕ) (hr : ∀ i < k, xr i = xr' i) (hi : ∀ i < k, xi i = xi' i) :
    crec ar ai xr xi h k = crec ar' ai' xr' xi' h' k := by
  subst ea eb hh
  induction k with
  | zero => rfl
  | succ k ih =>
    have e := ih (fun i hi => hr i (by omega)) (fun i hi' => hi i (by omega))
    unfold crec
    rw [e, hr k (by omega), hi k (by omega)]

/-- Channel `p` of group `g`. -/
def chan (g : Fin 64) (p : Fin 16) : Fin 1024 := ⟨16 * g.val + p.val, by omega⟩

/-- The input at a time; zero after the last. -/
def Args.u (A : Args) (t : ℕ) (b : Fin 8) (d : Fin 1024) : EReal := if h : t < 2048 then A.z ⟨t, h⟩ b d else 0

/-- The input matrix's real part. -/
def Args.bbr (A : Args) (g n : Fin 64) (p : Fin 16) : EReal := A.qr g n * A.br g n p - A.qi g n * A.bi g n p

/-- The input matrix's imaginary part. -/
def Args.bbi (A : Args) (g n : Fin 64) (p : Fin 16) : EReal := A.qr g n * A.bi g n p + A.qi g n * A.br g n p

/-- The real part of what drives the state. -/
def Args.xr (A : Args) (b : Fin 8) (g n : Fin 64) (t : ℕ) : EReal := ∑ p : Fin 16, A.u t b (chan g p) * A.bbr g n p

/-- The imaginary part of what drives the state. -/
def Args.xi (A : Args) (b : Fin 8) (g n : Fin 64) (t : ℕ) : EReal := ∑ p : Fin 16, A.u t b (chan g p) * A.bbi g n p

/-- The state after `t` steps. -/
def Args.h (A : Args) (t : ℕ) (b : Fin 8) (g n : Fin 64) : EReal × EReal :=
  crec (A.ar g n) (A.ai g n) (A.xr b g n) (A.xi b g n) (A.h0r b g n, A.h0i b g n) t

/-- The output after step `t`. -/
def Args.y (A : Args) (t : ℕ) (b : Fin 8) (g : Fin 64) (p : Fin 16) : EReal :=
  (∑ n : Fin 64, (A.h (t + 1) b g n).1 * A.cr g p n) - (∑ n : Fin 64, (A.h (t + 1) b g n).2 * A.ci g p n)
    + A.d g p * A.u t b (chan g p)

/-- A sum over `a` blocks of length `b` whose terms outside block `q` vanish is the sum over the block. -/
theorem sum_block {a b : ℕ} (q : Fin a) (f : Fin (a * b) → EReal) (g : Fin b → EReal)
    (h1 : ∀ (p : Fin a) (i : Fin b), p ≠ q → f (finProdFinEquiv (p, i)) = 0)
    (h2 : ∀ i : Fin b, f (finProdFinEquiv (q, i)) = g i) : ∑ l, f l = ∑ i, g i := by
  rw [← finProdFinEquiv.sum_comp, Fintype.sum_prod_type, Finset.sum_eq_single q]
  · exact Finset.sum_congr rfl fun i _ => h2 i
  · intro p _ hp
    exact Finset.sum_eq_zero fun i _ => h1 p i hp
  · intro h; exact absurd (Finset.mem_univ _) h

end Cert.Ssm
-- ==== Proof.Ssm.Loop.lean ====
module

public import proofs.«01_k».proof.Proof.Gen.Kernel5Ideal.Value
public import Idealize.ShloMosaic.Lib.Pipeline.ValueKit
public import Idealize.ShloMosaic.Lib.Pointwise
public import Idealize.ShloMosaic.Lib.WritesUnit
public import proofs.«01_k».proof.Proof.Ssm.Spec

/-!
# The time loop of one block

A block of the S5 kernel walks 128 time steps: trip `k` loads row `k` of the two buffers that hold the driving input's
real and imaginary part, takes the state one step on and stores the new state's parts over the two rows. This module says
what the carried state and the buffers hold before trip `k`, as functions of the buffers' contents at loop entry.
-/

@[expose] public section

set_option maxRecDepth 16384

noncomputable section

namespace Cert.Ssm.Loop

open Idealize.ShloMosaic Idealize.ShloMosaic.TcCoe Idealize.SL.Sem
open Cert.Kernel5Ideal Cert.Kernel5Ideal.Gen Cert.Ssm

/-- Row `k` of a 128-row buffer at a (sequence, lane) pair; zero past the last row. -/
def row (A : S128x8x512.Idx → EReal) (r : Fin 8) (d : Fin 512) (k : ℕ) : EReal :=
  if h : k < 128 then A (ix3 ⟨k, h⟩ r d) else 0

theorem row_lt (A : S128x8x512.Idx → EReal) (r : Fin 8) (d : Fin 512) (k : Fin 128) :
    row A r d k.val = A (ix3 k r d) := by
  unfold row; rw [dif_pos k.isLt]

theorem pay11_apply (a b h g : FVec Ideal S8x512 .f32) (x : FVec Ideal S1x8x512 .f32) (r : Fin 8) (d : Fin 512) :
    k0_pay11 a b h g x (ix2 r d)
      = ((a (ix2 r d) : EReal) * h (ix2 r d) - b (ix2 r d) * g (ix2 r d) + x (ix3 0 r d) : EReal) := by
  pointwise [k0_pay11]

theorem pay12_apply (a b h g : FVec Ideal S8x512 .f32) (x : FVec Ideal S1x8x512 .f32) (r : Fin 8) (d : Fin 512) :
    k0_pay12 a b h g x (ix2 r d)
      = ((a (ix2 r d) : EReal) * g (ix2 r d) + b (ix2 r d) * h (ix2 r d) + x (ix3 0 r d) : EReal) := by
  pointwise [k0_pay12]

theorem pay13_apply (a b h g : FVec Ideal S8x512 .f32) (x : FVec Ideal S1x8x512 .f32) (z : Fin 1) (r : Fin 8)
    (d : Fin 512) : k0_pay13 a b h g x (ix3 z r d) = k0_pay11 a b h g x (ix2 r d) := by
  unfold k0_pay13
  generalize k0_pay11 a b h g x = v
  pointwise []

theorem pay14_apply (a b h g : FVec Ideal S8x512 .f32) (x : FVec Ideal S1x8x512 .f32) (z : Fin 1) (r : Fin 8)
    (d : Fin 512) : k0_pay14 a b h g x (ix3 z r d) = k0_pay12 a b h g x (ix2 r d) := by
  unfold k0_pay14
  generalize k0_pay12 a b h g x = v
  pointwise []

/-- The loop's state before trip `k` at grid point `t`. -/
def st (c : Dev nD) (t : Fin cfg0.N) (a b : FVec Ideal S8x512 .f32) (X : BufTy.Contents (Elt Ideal) (scM0_0).view.ty)
    (G : BufTy.Contents (Elt Ideal) (scM0_1).view.ty) (init : FVec Ideal S8x512 .f32 × FVec Ideal S8x512 .f32) (k : ℕ) :
    (FVec Ideal S8x512 .f32 × FVec Ideal S8x512 .f32)
      × List (View.Piece (Elt Ideal) S128x8x512 .f32) × List (View.Piece (Elt Ideal) S128x8x512 .f32) :=
  st_k0_t1 (F := Ideal) Variants.none c none (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (ms0_7 t) (hs0_7 t) (ms0_8 t)
    (hs0_8 t) (ms0_9 t) (hs0_9 t) (ms0_10 t) (hs0_10 t) (ms0_11 t) (hs0_11 t) (ms0_12 t) (hs0_12 t)
    scM0_0 (Memref.isWhole_whole _) scM0_1 (Memref.isWhole_whole _) a b X G init k

/-- The recurrence of the two buffers at a (sequence, lane) pair. -/
def run (a b : FVec Ideal S8x512 .f32) (X : BufTy.Contents (Elt Ideal) (scM0_0).view.ty)
    (G : BufTy.Contents (Elt Ideal) (scM0_1).view.ty) (init : FVec Ideal S8x512 .f32 × FVec Ideal S8x512 .f32) (r : Fin 8)
    (d : Fin 512) (k : ℕ) : EReal × EReal :=
  crec (a (ix2 r d)) (b (ix2 r d)) (row (View.read (Elt Ideal) (View.whole cc0_scratch0) X) r d)
    (row (View.read (Elt Ideal) (View.whole cc0_scratch1) G) r d) (init.1 (ix2 r d), init.2 (ix2 r d)) k

/-- Before trip `k` the carried state is the recurrence's `k`-th, rows below `k` of the buffers hold the states stored so
    far, and the other rows are as at loop entry. -/
theorem st_inv (c : Dev nD) (t : Fin cfg0.N) (a b : FVec Ideal S8x512 .f32)
    (X : BufTy.Contents (Elt Ideal) (scM0_0).view.ty)
    (G : BufTy.Contents (Elt Ideal) (scM0_1).view.ty) (init : FVec Ideal S8x512 .f32 × FVec Ideal S8x512 .f32) (k : ℕ)
    (hk : k ≤ 128) :
    (∀ (r : Fin 8) (d : Fin 512), (st c t a b X G init k).1.1 (ix2 r d) = (run a b X G init r d k).1)
    ∧ (∀ (r : Fin 8) (d : Fin 512), (st c t a b X G init k).1.2 (ix2 r d) = (run a b X G init r d k).2)
    ∧ (∀ (s : Fin 128) (r : Fin 8) (d : Fin 512),
        View.read (Elt Ideal) (View.whole cc0_scratch0)
          ((View.whole cc0_scratch0).writes (Elt Ideal) X (st c t a b X G init k).2.1) (ix3 s r d)
        = if s.val < k then (run a b X G init r d (s.val + 1)).1
          else View.read (Elt Ideal) (View.whole cc0_scratch0) X (ix3 s r d))
    ∧ (∀ (s : Fin 128) (r : Fin 8) (d : Fin 512),
        View.read (Elt Ideal) (View.whole cc0_scratch1)
          ((View.whole cc0_scratch1).writes (Elt Ideal) G (st c t a b X G init k).2.2) (ix3 s r d)
        = if s.val < k then (run a b X G init r d (s.val + 1)).2
          else View.read (Elt Ideal) (View.whole cc0_scratch1) G (ix3 s r d)) := by
  induction k with
  | zero => exact ⟨fun r d => rfl, fun r d => rfl, fun s r d => rfl, fun s r d => rfl⟩
  | succ k ih =>
    obtain ⟨ih1, ih1', ih2, ih2'⟩ := ih (by omega)
    have hk' : k < 128 := by omega
    have htr : k0_t1_loop.trips = 128 := by decide +kernel
    let kk : Fin k0_t1_loop.trips := ⟨k, htr ▸ hk'⟩
    have hoff : k0_off1 kk = ![k, 0, 0] := k0_off1_eq kk
    let R : Rect S128x8x512 := Rect.unit (s := S128x8x512) (k0_off1 kk) ![1, 8, 512] (k0_off1_inb kk)
    let LX := View.ld (View.read (Elt Ideal) (View.whole cc0_scratch0)
      ((View.whole cc0_scratch0).writes (Elt Ideal) X (st c t a b X G init k).2.1)) R
    let LG := View.ld (View.read (Elt Ideal) (View.whole cc0_scratch1)
      ((View.whole cc0_scratch1).writes (Elt Ideal) G (st c t a b X G init k).2.2)) R
    have hst : st c t a b X G init (k + 1)
        = ((k0_pay11 a b (st c t a b X G init k).1.1 (st c t a b X G init k).1.2 LX,
            k0_pay12 a b (st c t a b X G init k).1.1 (st c t a b X G init k).1.2 LG),
          ⟨R, k0_pay13 a b (st c t a b X G init k).1.1 (st c t a b X G init k).1.2 LX⟩ :: (st c t a b X G init k).2.1,
          ⟨R, k0_pay14 a b (st c t a b X G init k).1.1 (st c t a b X G init k).1.2 LG⟩ :: (st c t a b X G init k).2.2) := by
      unfold LX LG R st
      rw [show k + 1 = kk.val + 1 from rfl, st_k0_t1_succ, show kk.val = k from rfl]
      generalize st_k0_t1 (F := Ideal) _ _ _ _ _ _ _ _ _ _ _ _ _ _ _ _ _ _ _ _ _ _ _ _ _ _ _ _ _ _ _ _ _ _ _ _ _ _ _ k = S
      unfold tripR_k0_t1 tripL_k0_t1 trip_k0_t1
      dsimp only
      sl_unfold_words
      rfl
    have ha : ∀ (r : Fin 8) (d : Fin 512),
        LX (ix3 (0 : Fin 1) r d) = row (View.read (Elt Ideal) (View.whole cc0_scratch0) X) r d k := by
      intro r d
      have h2 := ih2 ⟨k, hk'⟩ r d
      rw [if_neg (by simp)] at h2
      rw [row_lt _ r d ⟨k, hk'⟩, ← h2]
      refine View.ld_unit_apply_of _ _ _ _ _ _ ?_
      intro a
      refine Eq.trans ?_ (congrArg (· + _) (congrFun hoff a).symm)
      fin_cases a <;> simp [ix3]
    have hb : ∀ (r : Fin 8) (d : Fin 512),
        LG (ix3 (0 : Fin 1) r d) = row (View.read (Elt Ideal) (View.whole cc0_scratch1) G) r d k := by
      intro r d
      have h2 := ih2' ⟨k, hk'⟩ r d
      rw [if_neg (by simp)] at h2
      rw [row_lt _ r d ⟨k, hk'⟩, ← h2]
      refine View.ld_unit_apply_of _ _ _ _ _ _ ?_
      intro a
      refine Eq.trans ?_ (congrArg (· + _) (congrFun hoff a).symm)
      fin_cases a <;> simp [ix3]
    clear_value LX LG
    have e1 : ∀ (r : Fin 8) (d : Fin 512), k0_pay11 a b (st c t a b X G init k).1.1 (st c t a b X G init k).1.2 LX (ix2 r d)
        = (run a b X G init r d (k + 1)).1 := by
      intro r d
      rw [pay11_apply, ha r d, ih1 r d, ih1' r d]
      rfl
    have e2 : ∀ (r : Fin 8) (d : Fin 512), k0_pay12 a b (st c t a b X G init k).1.1 (st c t a b X G init k).1.2 LG (ix2 r d)
        = (run a b X G init r d (k + 1)).2 := by
      intro r d
      rw [pay12_apply, hb r d, ih1 r d, ih1' r d]
      rfl
    rw [hst]
    refine ⟨e1, e2, fun s r d => ?_, fun s r d => ?_⟩
    · by_cases hs : s.val = k
      · refine (View.read_writes_cons_unit_of_mem (View.whole cc0_scratch0) X (k0_off1_inb kk) _ _ (ix3 s r d)
          (ix3 (0 : Fin 1) r d) hoff ?_).trans ?_
        · intro a
          fin_cases a <;> simp [ix3, hs]
        · refine (pay13_apply _ _ _ _ _ 0 r d).trans ?_
          rw [e1 r d, if_pos (by omega), hs]
      · refine (View.read_writes_cons_unit_of_not_mem (View.whole cc0_scratch0) X (k0_off1_inb kk) _ _ (ix3 s r d) hoff
          (0 : Fin 3) ?_).trans ?_
        · show s.val < k ∨ k + 1 ≤ s.val
          omega
        · rw [ih2 s r d]
          by_cases h : s.val < k
          · rw [if_pos h, if_pos (by omega)]
          · rw [if_neg h, if_neg (by omega)]
    · by_cases hs : s.val = k
      · refine (View.read_writes_cons_unit_of_mem (View.whole cc0_scratch1) G (k0_off1_inb kk) _ _ (ix3 s r d)
          (ix3 (0 : Fin 1) r d) hoff ?_).trans ?_
        · intro a
          fin_cases a <;> simp [ix3, hs]
        · refine (pay14_apply _ _ _ _ _ 0 r d).trans ?_
          rw [e2 r d, if_pos (by omega), hs]
      · refine (View.read_writes_cons_unit_of_not_mem (View.whole cc0_scratch1) G (k0_off1_inb kk) _ _ (ix3 s r d) hoff
          (0 : Fin 3) ?_).trans ?_
        · show s.val < k ∨ k + 1 ≤ s.val
          omega
        · rw [ih2' s r d]
          by_cases h : s.val < k
          · rw [if_pos h, if_pos (by omega)]
          · rw [if_neg h, if_neg (by omega)]

end Cert.Ssm.Loop
-- ==== Proof.Ssm.Blocks.lean ====
module

public import proofs.«01_k».proof.Proof.Gen.Kernel5Ideal.Value
public import Idealize.ShloMosaic.Lib.Claim
public import proofs.«01_k».proof.Proof.Ssm.Spec

/-!
# What the S5 kernel's blocks hold

Grid point `t` is lane block `t / 16` (eight groups: 128 channels, 512 state entries) and time tile `t % 16` (128 steps).
Each input block, read at an index, is an argument of the mixer at the index it stands for. The matrices of a lane block
hold the eight groups' matrices along the diagonal and zero elsewhere.
-/

@[expose] public section

set_option maxRecDepth 16384

noncomputable section

namespace Cert.Ssm.Blocks

open Idealize.ShloMosaic Idealize.ShloMosaic.TcCoe Idealize.SL.Sem
open Cert.Kernel5Ideal Cert.Kernel5Ideal.Gen Cert.Ssm

variable (m : (ℓ : Loc nD τ sig) → Buf (Elt Ideal) ℓ) (c : Dev nD)

/-- The kernel's arguments as the mixer's: of the parameters, the first layer's. -/
def args : Args where
  z t b d := m ((c : Thread nD τ).loc main_arg0) (ix3 t b ⟨d.val, by omega⟩)
  h0r b g n := m ((c : Thread nD τ).loc main_arg1) (ix3 b g n)
  h0i b g n := m ((c : Thread nD τ).loc main_arg2) (ix3 b g n)
  ar g n := m ((c : Thread nD τ).loc main_arg3) (ix2 ⟨g.val, by omega⟩ n)
  ai g n := m ((c : Thread nD τ).loc main_arg4) (ix2 ⟨g.val, by omega⟩ n)
  qr g n := m ((c : Thread nD τ).loc main_arg5) (ix2 ⟨g.val, by omega⟩ n)
  qi g n := m ((c : Thread nD τ).loc main_arg6) (ix2 ⟨g.val, by omega⟩ n)
  br g n p := m ((c : Thread nD τ).loc main_arg7) (ix4 0 g n p)
  bi g n p := m ((c : Thread nD τ).loc main_arg8) (ix4 0 g n p)
  cr g p n := m ((c : Thread nD τ).loc main_arg9) (ix4 0 g p n)
  ci g p n := m ((c : Thread nD τ).loc main_arg10) (ix4 0 g p n)
  d g p := m ((c : Thread nD τ).loc main_arg11) (ix3 0 g p)

/-- Group `q` of lane block `j`. -/
def grp (j q : Fin 8) : Fin 64 := ⟨j.val * 8 + q.val, by omega⟩

/-- State entry `n` of a lane block's group `q`, among the block's 512. -/
def sl (q : Fin 8) (n : Fin 64) : Fin 512 := ⟨64 * q.val + n.val, by omega⟩

/-- Channel `p` of a lane block's group `q`, among the block's 128. -/
def ll (q : Fin 8) (p : Fin 16) : Fin 128 := ⟨16 * q.val + p.val, by omega⟩

theorem ll_div (q : Fin 8) (p : Fin 16) : (ll q p).val / 16 = q.val := by show (16 * q.val + p.val) / 16 = q.val; omega
theorem ll_mod (q : Fin 8) (p : Fin 16) : (ll q p).val % 16 = p.val := by show (16 * q.val + p.val) % 16 = p.val; omega
theorem sl_div (q : Fin 8) (n : Fin 64) : (sl q n).val / 64 = q.val := by show (64 * q.val + n.val) / 64 = q.val; omega
theorem sl_mod (q : Fin 8) (n : Fin 64) : (sl q n).val % 64 = n.val := by show (64 * q.val + n.val) % 64 = n.val; omega

/-- The unit matrix's entry, as the host computes it. -/
theorem unit_entry (a b : ℕ) (ha : a < 8) (hb : b < 8) :
    FloatOps.uitofp (F := Ideal) FTy.f32 (IntOp.cmpi CmpIPredicate.eq (IntOp.addi (BitVec.ofNat 32 a) 0#32) (BitVec.ofNat 32 b))
      = (if a = b then (1 : EReal) else 0) := by
  have e : IntOp.cmpi CmpIPredicate.eq (IntOp.addi (BitVec.ofNat 32 a) 0#32) (BitVec.ofNat 32 b)
      = if a = b then 1#1 else 0#1 := by
    interval_cases a <;> interval_cases b <;> rfl
  rw [e]
  split_ifs
  · show (((1#1 : BitVec 1).toNat : ℝ) : EReal) = 1
    simp
  · show (((0#1 : BitVec 1).toNat : ℝ) : EReal) = 0
    simp

set_option maxHeartbeats 1000000 in
theorem V_bbr (j q q' : Fin 8) (p : Fin 16) (n : Fin 64) :
    (V m c main_v35 : FVec Ideal S8x128x512 .bf16) (ix3 j (ll q p) (sl q' n))
      = ((args m c).bbr (grp j q) n p * (if q.val = q'.val then 1 else 0) : EReal) := by
  unfold args
  unfold_abbrev_sides
  after_results
  pointwise []
  simp only [ll_div, ll_mod, sl_div, sl_mod]
  exact congrArg₂ EReal.mul rfl (unit_entry q.val q'.val q.isLt q'.isLt)

set_option maxHeartbeats 1000000 in
theorem V_bbi (j q q' : Fin 8) (p : Fin 16) (n : Fin 64) :
    (V m c main_v53 : FVec Ideal S8x128x512 .bf16) (ix3 j (ll q p) (sl q' n))
      = ((args m c).bbi (grp j q) n p * (if q.val = q'.val then 1 else 0) : EReal) := by
  unfold args
  unfold_abbrev_sides
  after_results
  pointwise []
  simp only [ll_div, ll_mod, sl_div, sl_mod]
  exact congrArg₂ EReal.mul rfl (unit_entry q.val q'.val q.isLt q'.isLt)

set_option maxHeartbeats 1000000 in
theorem V_cr (j q q' : Fin 8) (p : Fin 16) (n : Fin 64) :
    (V m c main_v71 : FVec Ideal S8x512x128 .bf16) (ix3 j (sl q n) (ll q' p))
      = ((args m c).cr (grp j q) p n * (if q.val = q'.val then 1 else 0) : EReal) := by
  unfold args
  unfold_abbrev_sides
  after_results
  pointwise []
  simp only [ll_div, ll_mod, sl_div, sl_mod]
  exact congrArg₂ EReal.mul rfl (unit_entry q.val q'.val q.isLt q'.isLt)

set_option maxHeartbeats 1000000 in
theorem V_ci (j q q' : Fin 8) (p : Fin 16) (n : Fin 64) :
    (V m c main_v89 : FVec Ideal S8x512x128 .bf16) (ix3 j (sl q n) (ll q' p))
      = ((args m c).ci (grp j q) p n * (if q.val = q'.val then 1 else 0) : EReal) := by
  unfold args
  unfold_abbrev_sides
  after_results
  pointwise []
  simp only [ll_div, ll_mod, sl_div, sl_mod]
  exact congrArg₂ EReal.mul rfl (unit_entry q.val q'.val q.isLt q'.isLt)

/-- The lane of a group's state entry among all 4096. -/
def lane (g n : Fin 64) : Fin 4096 := ⟨64 * g.val + n.val, by omega⟩

theorem lane_div (g n : Fin 64) : (lane g n).val / 64 = g.val := by show (64 * g.val + n.val) / 64 = g.val; omega
theorem lane_mod (g n : Fin 64) : (lane g n).val % 64 = n.val := by show (64 * g.val + n.val) % 64 = n.val; omega
theorem chan_div (g : Fin 64) (p : Fin 16) : (chan g p).val / 16 = g.val := by
  show (16 * g.val + p.val) / 16 = g.val; omega
theorem chan_mod (g : Fin 64) (p : Fin 16) : (chan g p).val % 16 = p.val := by
  show (16 * g.val + p.val) % 16 = p.val; omega

set_option maxHeartbeats 1000000 in
theorem V_ar (g n : Fin 64) : (V m c main_v15 : FVec Ideal S1x4096 .f32) (ix2 (0 : Fin 1) (lane g n)) = (args m c).ar g n := by
  unfold args
  unfold_abbrev_sides
  after_results
  pointwise []
  simp only [lane_div, lane_mod]

set_option maxHeartbeats 1000000 in
theorem V_ai (g n : Fin 64) : (V m c main_v17 : FVec Ideal S1x4096 .f32) (ix2 (0 : Fin 1) (lane g n)) = (args m c).ai g n := by
  unfold args
  unfold_abbrev_sides
  after_results
  pointwise []
  simp only [lane_div, lane_mod]

set_option maxHeartbeats 1000000 in
theorem V_d (g : Fin 64) (p : Fin 16) :
    (V m c main_v92 : FVec Ideal S1x1024 .f32) (ix2 (0 : Fin 1) (chan g p)) = (args m c).d g p := by
  unfold args
  unfold_abbrev_sides
  after_results
  pointwise []
  simp only [chan_div, chan_mod]

set_option maxHeartbeats 1000000 in
theorem V_h0r (b : Fin 8) (g n : Fin 64) :
    (V m c main_v93 : FVec Ideal S8x4096 .f32) (ix2 b (lane g n)) = (args m c).h0r b g n := by
  unfold args
  unfold_abbrev_sides
  after_results
  pointwise []
  simp only [lane_div, lane_mod]

set_option maxHeartbeats 1000000 in
theorem V_h0i (b : Fin 8) (g n : Fin 64) :
    (V m c main_v94 : FVec Ideal S8x4096 .f32) (ix2 b (lane g n)) = (args m c).h0i b g n := by
  unfold args
  unfold_abbrev_sides
  after_results
  pointwise []
  simp only [lane_div, lane_mod]

/-- The block placements, at every grid point. -/
theorem idx : ∀ t : Fin cfg0.N, win0_0.index t = ![t.val % 16, 0, t.val / 16]
    ∧ win0_1.index t = ![t.val / 16, 0, 0] ∧ win0_2.index t = ![t.val / 16, 0, 0]
    ∧ win0_3.index t = ![0, t.val / 16] ∧ win0_4.index t = ![0, t.val / 16] ∧ win0_5.index t = ![t.val / 16, 0, 0]
    ∧ win0_6.index t = ![t.val / 16, 0, 0] ∧ win0_7.index t = ![0, t.val / 16] ∧ win0_8.index t = ![0, t.val / 16]
    ∧ win0_9.index t = ![0, t.val / 16] ∧ t.val / 16 < 8 :=
  (by decide +kernel : ∀ t : Fin grid0.N, _)

theorem lt8 (t : Fin cfg0.N) : t.val / 16 < 8 := (idx t).2.2.2.2.2.2.2.2.2.2

/-- The lane block of a grid point. -/
def jb (t : Fin cfg0.N) : Fin 8 := ⟨t.val / 16, lt8 t⟩

theorem u_apply (t : Fin cfg0.N) (s : Fin 128) (b : Fin 8) (q : Fin 8) (p : Fin 16) :
    (iblk m c 0 t : FVec Ideal S128x8x128 .f32) (ix3 s b (ll q p))
      = (args m c).u (128 * (t.val % 16) + s.val) b (chan (grp (jb t) q) p) := by
  have := lt8 t
  unfold Args.u
  rw [dif_pos (by omega)]
  show _ = m ((c : Thread nD τ).loc main_arg0) (ix3 _ _ _)
  blk_point [iblk, V, idx t, chan, grp, jb, ll]

theorem bbr_apply (t : Fin cfg0.N) (q q' : Fin 8) (p : Fin 16) (n : Fin 64) :
    (iblk m c 1 t : FVec Ideal S1x128x512 .bf16) (ix3 (0 : Fin 1) (ll q p) (sl q' n))
      = ((args m c).bbr (grp (jb t) q) n p * (if q.val = q'.val then 1 else 0) : EReal) := by
  rw [← V_bbr m c (jb t) q q' p n]
  blk_point [iblk, idx t, jb]

theorem bbi_apply (t : Fin cfg0.N) (q q' : Fin 8) (p : Fin 16) (n : Fin 64) :
    (iblk m c 2 t : FVec Ideal S1x128x512 .bf16) (ix3 (0 : Fin 1) (ll q p) (sl q' n))
      = ((args m c).bbi (grp (jb t) q) n p * (if q.val = q'.val then 1 else 0) : EReal) := by
  rw [← V_bbi m c (jb t) q q' p n]
  blk_point [iblk, idx t, jb]

theorem cr_apply (t : Fin cfg0.N) (q q' : Fin 8) (p : Fin 16) (n : Fin 64) :
    (iblk m c 5 t : FVec Ideal S1x512x128 .bf16) (ix3 (0 : Fin 1) (sl q n) (ll q' p))
      = ((args m c).cr (grp (jb t) q) p n * (if q.val = q'.val then 1 else 0) : EReal) := by
  rw [← V_cr m c (jb t) q q' p n]
  blk_point [iblk, idx t, jb]

theorem ci_apply (t : Fin cfg0.N) (q q' : Fin 8) (p : Fin 16) (n : Fin 64) :
    (iblk m c 6 t : FVec Ideal S1x512x128 .bf16) (ix3 (0 : Fin 1) (sl q n) (ll q' p))
      = ((args m c).ci (grp (jb t) q) p n * (if q.val = q'.val then 1 else 0) : EReal) := by
  rw [← V_ci m c (jb t) q q' p n]
  blk_point [iblk, idx t, jb]

theorem ar_apply (t : Fin cfg0.N) (q : Fin 8) (n : Fin 64) :
    (iblk m c 3 t : FVec Ideal S1x512 .f32) (ix2 (0 : Fin 1) (sl q n)) = (args m c).ar (grp (jb t) q) n := by
  rw [← V_ar m c]
  blk_point [iblk, idx t, jb, lane, grp, sl]

theorem ai_apply (t : Fin cfg0.N) (q : Fin 8) (n : Fin 64) :
    (iblk m c 4 t : FVec Ideal S1x512 .f32) (ix2 (0 : Fin 1) (sl q n)) = (args m c).ai (grp (jb t) q) n := by
  rw [← V_ai m c]
  blk_point [iblk, idx t, jb, lane, grp, sl]

theorem d_apply (t : Fin cfg0.N) (q : Fin 8) (p : Fin 16) :
    (iblk m c 7 t : FVec Ideal S1x128 .f32) (ix2 (0 : Fin 1) (ll q p)) = (args m c).d (grp (jb t) q) p := by
  rw [← V_d m c]
  blk_point [iblk, idx t, jb, chan, grp, ll]

theorem h0r_apply (t : Fin cfg0.N) (b q : Fin 8) (n : Fin 64) :
    (iblk m c 8 t : FVec Ideal S8x512 .f32) (ix2 b (sl q n)) = (args m c).h0r b (grp (jb t) q) n := by
  rw [← V_h0r m c]
  blk_point [iblk, idx t, jb, lane, grp, sl]

theorem h0i_apply (t : Fin cfg0.N) (b q : Fin 8) (n : Fin 64) :
    (iblk m c 9 t : FVec Ideal S8x512 .f32) (ix2 b (sl q n)) = (args m c).h0i b (grp (jb t) q) n := by
  rw [← V_h0i m c]
  blk_point [iblk, idx t, jb, lane, grp, sl]

end Cert.Ssm.Blocks
-- ==== Proof.Ssm.Point.lean ====
module

public import proofs.«01_k».proof.Proof.Ssm.Blocks

/-!
# What one block computes

Over a block's inputs the driving input is the mixer's, group by group, since each column of the block's matrices is zero
outside its own group; and the output is read out of the states the same way.
-/

@[expose] public section

set_option maxRecDepth 16384

noncomputable section

namespace Cert.Ssm.Point

open Idealize.ShloMosaic Idealize.ShloMosaic.TcCoe Idealize.SL.Sem
open Cert.Kernel5Ideal Cert.Kernel5Ideal.Gen Cert.Ssm Cert.Ssm.Blocks

/-- A sum over the block's 128 channels of terms that vanish outside group `q`. -/
theorem sum_ll (q : Fin 8) (f : Fin 128 → EReal) (g : Fin 16 → EReal)
    (h1 : ∀ (q' : Fin 8) (p : Fin 16), q' ≠ q → f (ll q' p) = 0) (h2 : ∀ p, f (ll q p) = g p) :
    ∑ l, f l = ∑ p, g p := by
  have e : ∀ (q' : Fin 8) (p : Fin 16), (finProdFinEquiv (q', p) : Fin (8 * 16)) = ll q' p := fun q' p =>
    Fin.ext (show p.val + 16 * q'.val = 16 * q'.val + p.val by omega)
  refine sum_block (a := 8) (b := 16) q f g (fun q' p h => ?_) (fun p => ?_)
  · rw [e]; exact h1 q' p h
  · rw [e]; exact h2 p

/-- A sum over the block's 512 state entries of terms that vanish outside group `q`. -/
theorem sum_sl (q : Fin 8) (f : Fin 512 → EReal) (g : Fin 64 → EReal)
    (h1 : ∀ (q' : Fin 8) (n : Fin 64), q' ≠ q → f (sl q' n) = 0) (h2 : ∀ n, f (sl q n) = g n) :
    ∑ l, f l = ∑ n, g n := by
  have e : ∀ (q' : Fin 8) (n : Fin 64), (finProdFinEquiv (q', n) : Fin (8 * 64)) = sl q' n := fun q' n =>
    Fin.ext (show n.val + 64 * q'.val = 64 * q'.val + n.val by omega)
  refine sum_block (a := 8) (b := 64) q f g (fun q' n h => ?_) (fun n => ?_)
  · rw [e]; exact h1 q' n h
  · rw [e]; exact h2 n

theorem pay5_apply (u : FVec Ideal S128x8x128 .f32) (w : FVec Ideal S1x128x512 .bf16) (s : Fin 128) (b : Fin 8)
    (k : Fin 512) : k0_pay5 u w (ix3 s b k) = ∑ l : Fin 128, (u (ix3 s b l) * w (ix3 (0 : Fin 1) l k) : EReal) := by
  pointwise [k0_pay5, k0_pay4, k0_pay3]

theorem pay6_apply (u : FVec Ideal S128x8x128 .f32) (w : FVec Ideal S1x128x512 .bf16) (s : Fin 128) (b : Fin 8)
    (k : Fin 512) : k0_pay6 u w (ix3 s b k) = ∑ l : Fin 128, (u (ix3 s b l) * w (ix3 (0 : Fin 1) l k) : EReal) := by
  pointwise [k0_pay6, k0_pay4, k0_pay3]

theorem pay15_apply (u : FVec Ideal S128x8x128 .f32) (hr hi : FVec Ideal S128x8x512 .f32)
    (cr ci : FVec Ideal S1x512x128 .bf16) (d : FVec Ideal S1x128 .f32) (s : Fin 128) (b : Fin 8) (l : Fin 128) :
    k0_pay15 (k0_pay3 u) hr cr hi ci d (ix3 s b l)
      = ((∑ k : Fin 512, (hr (ix3 s b k) * cr (ix3 (0 : Fin 1) k l) : EReal))
        - (∑ k : Fin 512, (hi (ix3 s b k) * ci (ix3 (0 : Fin 1) k l) : EReal))
        + d (ix2 (0 : Fin 1) l) * u (ix3 s b l) : EReal) := by
  pointwise [k0_pay15, k0_pay3]

theorem pay7_apply (a : FVec Ideal S1x512 .f32) (b : Fin 8) (k : Fin 512) :
    k0_pay7 a (ix2 b k) = a (ix2 (0 : Fin 1) k) := by
  pointwise [k0_pay7]

theorem pay8_apply (a : FVec Ideal S1x512 .f32) (b : Fin 8) (k : Fin 512) :
    k0_pay8 a (ix2 b k) = a (ix2 (0 : Fin 1) k) := by
  pointwise [k0_pay8]

theorem pay9_apply (a : FVec Ideal S8x512 .f32) (b : Fin 8) (k : Fin 512) : k0_pay9 a (ix2 b k) = a (ix2 b k) := by
  pointwise [k0_pay9]

theorem pay10_apply (a : FVec Ideal S8x512 .f32) (b : Fin 8) (k : Fin 512) : k0_pay10 a (ix2 b k) = a (ix2 b k) := by
  pointwise [k0_pay10]

theorem pay1_apply (a : FVec Ideal S8x512 .f32) (b : Fin 8) (k : Fin 512) : k0_pay1 a (ix2 b k) = a (ix2 b k) := by
  pointwise [k0_pay1]

theorem pay2_apply (a : FVec Ideal S8x512 .f32) (b : Fin 8) (k : Fin 512) : k0_pay2 a (ix2 b k) = a (ix2 b k) := by
  pointwise [k0_pay2]

variable (m : (ℓ : Loc nD τ sig) → Buf (Elt Ideal) ℓ) (c : Dev nD)

/-- The first time of a grid point's tile. -/
def T (t : Fin cfg0.N) : ℕ := 128 * (t.val % 16)

/-- The real part of what drives the block's states. -/
theorem xr_apply (t : Fin cfg0.N) (s : Fin 128) (b q : Fin 8) (n : Fin 64) :
    k0_pay5 (F := Ideal) (iblk m c 0 t) (iblk m c 1 t) (ix3 s b (sl q n))
      = (args m c).xr b (grp (jb t) q) n (T t + s.val) := by
  refine (pay5_apply _ _ s b (sl q n)).trans (sum_ll q _ _ (fun q' p h => ?_) (fun p => ?_))
  · rw [bbr_apply m c t q' q p n, if_neg (fun e => h (Fin.ext e)), mul_zero, mul_zero]
  · rw [bbr_apply m c t q q p n, if_pos rfl, mul_one, u_apply m c t s b q p]
    rfl

/-- The imaginary part of what drives the block's states. -/
theorem xi_apply (t : Fin cfg0.N) (s : Fin 128) (b q : Fin 8) (n : Fin 64) :
    k0_pay6 (F := Ideal) (iblk m c 0 t) (iblk m c 2 t) (ix3 s b (sl q n))
      = (args m c).xi b (grp (jb t) q) n (T t + s.val) := by
  refine (pay6_apply _ _ s b (sl q n)).trans (sum_ll q _ _ (fun q' p h => ?_) (fun p => ?_))
  · rw [bbi_apply m c t q' q p n, if_neg (fun e => h (Fin.ext e)), mul_zero, mul_zero]
  · rw [bbi_apply m c t q q p n, if_pos rfl, mul_one, u_apply m c t s b q p]
    rfl

/-- The block's output, where the two buffers hold the mixer's states. -/
theorem y_apply (t : Fin cfg0.N) (hr hi : FVec Ideal S128x8x512 .f32) (s : Fin 128) (b q : Fin 8) (p : Fin 16)
    (er : ∀ (q : Fin 8) (n : Fin 64), hr (ix3 s b (sl q n)) = ((args m c).h (T t + s.val + 1) b (grp (jb t) q) n).1)
    (ei : ∀ (q : Fin 8) (n : Fin 64), hi (ix3 s b (sl q n)) = ((args m c).h (T t + s.val + 1) b (grp (jb t) q) n).2) :
    k0_pay15 (F := Ideal) (k0_pay3 (iblk m c 0 t)) hr (iblk m c 5 t) hi (iblk m c 6 t) (iblk m c 7 t) (ix3 s b (ll q p))
      = (args m c).y (T t + s.val) b (grp (jb t) q) p := by
  refine (pay15_apply _ _ _ _ _ _ s b (ll q p)).trans ?_
  unfold Args.y
  rw [d_apply m c t q p, u_apply m c t s b q p]
  refine congrArg₂ (· + ·) (congrArg₂ (· - ·) ?_ ?_) rfl
  · refine sum_sl q _ _ (fun q' n h => ?_) (fun n => ?_)
    · rw [cr_apply m c t q' q p n, if_neg (fun e => h (Fin.ext e)), mul_zero, mul_zero]
    · rw [cr_apply m c t q q p n, if_pos rfl, mul_one, er]
  · refine sum_sl q _ _ (fun q' n h => ?_) (fun n => ?_)
    · rw [ci_apply m c t q' q p n, if_neg (fun e => h (Fin.ext e)), mul_zero, mul_zero]
    · rw [ci_apply m c t q q p n, if_pos rfl, mul_one, ei]

end Cert.Ssm.Point
-- ==== Proof.Ssm.Sweep.lean ====
module

public import proofs.«01_k».proof.Proof.Ssm.Loop
public import proofs.«01_k».proof.Proof.Ssm.Point
public import Idealize.ShloMosaic.Lib.VecWindow

/-!
# What the S5 kernel's arrays hold

By induction over the grid: after the block at lane block `t / 16` and time tile `t % 16` the state blocks hold the
recurrence's state at the end of the tile and the output block holds the mixer's output at the tile's 128 times.
-/

@[expose] public section

set_option maxRecDepth 16384

noncomputable section

namespace Cert.Ssm.Sweep

open Idealize.ShloMosaic Idealize.ShloMosaic.TcCoe Idealize.SL.Sem
open Cert.Kernel5Ideal Cert.Kernel5Ideal.Gen Cert.Kernel5Ideal.Value Cert.Ssm Cert.Ssm.Blocks Cert.Ssm.Loop

variable (m : (ℓ : Loc nD τ sig) → Buf (Elt Ideal) ℓ) (c : Dev nD)

/-- The decay's parts as the block spreads them over the sequences. -/
abbrev ar (t : Fin cfg0.N) : FVec Ideal S8x512 .f32 := k0_pay7 (iblk m c 3 t)
abbrev ai (t : Fin cfg0.N) : FVec Ideal S8x512 .f32 := k0_pay8 (iblk m c 4 t)

/-- Running the loop from the mixer's state at the tile's start, over buffers that hold what drives it: the carried state
    is the mixer's at the tile's end, and the buffers hold the state after each step. -/
theorem after_loop (t : Fin cfg0.N) (X : BufTy.Contents (Elt Ideal) (scM0_0).view.ty)
    (G : BufTy.Contents (Elt Ideal) (scM0_1).view.ty) (init : FVec Ideal S8x512 .f32 × FVec Ideal S8x512 .f32)
    (hX : ∀ (s : Fin 128) (b q : Fin 8) (n : Fin 64), View.read (Elt Ideal) (View.whole cc0_scratch0) X (ix3 s b (sl q n))
      = (args m c).xr b (grp (jb t) q) n (Point.T t + s.val))
    (hG : ∀ (s : Fin 128) (b q : Fin 8) (n : Fin 64), View.read (Elt Ideal) (View.whole cc0_scratch1) G (ix3 s b (sl q n))
      = (args m c).xi b (grp (jb t) q) n (Point.T t + s.val))
    (hr : ∀ (b q : Fin 8) (n : Fin 64), init.1 (ix2 b (sl q n)) = ((args m c).h (Point.T t) b (grp (jb t) q) n).1)
    (hi : ∀ (b q : Fin 8) (n : Fin 64), init.2 (ix2 b (sl q n)) = ((args m c).h (Point.T t) b (grp (jb t) q) n).2) :
    (∀ (b q : Fin 8) (n : Fin 64), (st c t (ar m c t) (ai m c t) X G init 128).1.1 (ix2 b (sl q n))
        = ((args m c).h (Point.T t + 128) b (grp (jb t) q) n).1)
    ∧ (∀ (b q : Fin 8) (n : Fin 64), (st c t (ar m c t) (ai m c t) X G init 128).1.2 (ix2 b (sl q n))
        = ((args m c).h (Point.T t + 128) b (grp (jb t) q) n).2)
    ∧ (∀ (s : Fin 128) (b q : Fin 8) (n : Fin 64), View.read (Elt Ideal) (View.whole cc0_scratch0)
        ((View.whole cc0_scratch0).writes (Elt Ideal) X (st c t (ar m c t) (ai m c t) X G init 128).2.1)
          (ix3 s b (sl q n)) = ((args m c).h (Point.T t + s.val + 1) b (grp (jb t) q) n).1)
    ∧ (∀ (s : Fin 128) (b q : Fin 8) (n : Fin 64), View.read (Elt Ideal) (View.whole cc0_scratch1)
        ((View.whole cc0_scratch1).writes (Elt Ideal) G (st c t (ar m c t) (ai m c t) X G init 128).2.2)
          (ix3 s b (sl q n)) = ((args m c).h (Point.T t + s.val + 1) b (grp (jb t) q) n).2) := by
  obtain ⟨h1, h2, h3, h4⟩ := st_inv c t (ar m c t) (ai m c t) X G init 128 le_rfl
  have key : ∀ (b q : Fin 8) (n : Fin 64) (k : ℕ), k ≤ 128 →
      run (ar m c t) (ai m c t) X G init b (sl q n) k = (args m c).h (Point.T t + k) b (grp (jb t) q) n := by
    intro b q n k hk
    unfold run Args.h
    rw [crec_add]
    refine crec_congr ?_ ?_ (Prod.ext (hr b q n) (hi b q n)) k (fun i hi' => ?_) (fun i hi' => ?_)
    · exact (Point.pay7_apply _ b (sl q n)).trans (ar_apply m c t q n)
    · exact (Point.pay8_apply _ b (sl q n)).trans (ai_apply m c t q n)
    · rw [row_lt _ b (sl q n) ⟨i, by omega⟩, hX]
    · rw [row_lt _ b (sl q n) ⟨i, by omega⟩, hG]
  refine ⟨fun b q n => ?_, fun b q n => ?_, fun s b q n => ?_, fun s b q n => ?_⟩
  · rw [h1, key b q n 128 le_rfl]
  · rw [h2, key b q n 128 le_rfl]
  · rw [h3, if_pos s.isLt, key b q n (s.val + 1) (by omega)]
    rfl
  · rw [h4, if_pos s.isLt, key b q n (s.val + 1) (by omega)]
    rfl

/-- What a point leaves: the output block and the two parts of the state. -/
structure Left (t : Fin cfg0.N) (o : Vec Ideal S128x8x128 .f32 × Vec Ideal S8x512 .f32 × Vec Ideal S8x512 .f32) :
    Prop where
  y : ∀ (s : Fin 128) (b q : Fin 8) (p : Fin 16), o.1 (ix3 s b (ll q p)) = (args m c).y (Point.T t + s.val) b (grp (jb t) q) p
  hr : ∀ (b q : Fin 8) (n : Fin 64), o.2.1 (ix2 b (sl q n)) = ((args m c).h (Point.T t + 128) b (grp (jb t) q) n).1
  hi : ∀ (b q : Fin 8) (n : Fin 64), o.2.2 (ix2 b (sl q n)) = ((args m c).h (Point.T t + 128) b (grp (jb t) q) n).2

/-- The first buffer written whole. -/
abbrev X0 (v : FVec Ideal S128x8x512 .f32) : BufTy.Contents (Elt Ideal) (scM0_0).view.ty :=
  (View.whole cc0_scratch0).writes (Elt Ideal) (View.whole cc0_scratch0).junk
    [⟨Rect.unit (s := S128x8x512) ![0, 0, 0] S128x8x512.size inb_S128x8x512_S128x8x512_0_0_0, v⟩]

/-- The second buffer written whole. -/
abbrev G0 (v : FVec Ideal S128x8x512 .f32) : BufTy.Contents (Elt Ideal) (scM0_1).view.ty :=
  (View.whole cc0_scratch1).writes (Elt Ideal) (View.whole cc0_scratch1).junk
    [⟨Rect.unit (s := S128x8x512) ![0, 0, 0] S128x8x512.size inb_S128x8x512_S128x8x512_0_0_0, v⟩]

theorem X0_read (v : FVec Ideal S128x8x512 .f32) (y : S128x8x512.Idx) :
    View.read (Elt Ideal) (View.whole cc0_scratch0) (X0 v) y = v y := by
  have e := View.read_writes_full (Val := Elt Ideal) (View.whole cc0_scratch0) (View.whole cc0_scratch0).junk
    inb_S128x8x512_S128x8x512_0_0_0 v []
  exact congrFun e y

theorem G0_read (v : FVec Ideal S128x8x512 .f32) (y : S128x8x512.Idx) :
    View.read (Elt Ideal) (View.whole cc0_scratch1) (G0 v) y = v y := by
  have e := View.read_writes_full (Val := Elt Ideal) (View.whole cc0_scratch1) (View.whole cc0_scratch1).junk
    inb_S128x8x512_S128x8x512_0_0_0 v []
  exact congrFun e y

/-- The first buffer read back after the loop holds the loop's writes over what was stored before it. -/
theorem hr_read (L : List (View.Piece (Elt Ideal) S128x8x512 .f32)) (v : FVec Ideal S128x8x512 .f32) (inb) (inb')
    (i : S128x8x512.Idx) :
    (View.whole cc0_scratch0).readCov (Val := Elt Ideal) (L ++ [⟨Rect.unit (s := S128x8x512) ![0, 0, 0] ![128, 8, 512] inb, v⟩])
        (Rect.unit (s := S128x8x512) ![0, 0, 0] ![128, 8, 512] inb').toLoadRect i
      = View.read (Elt Ideal) (View.whole cc0_scratch0) ((View.whole cc0_scratch0).writes (Elt Ideal) (X0 v) L) i := by
  unfold View.readCov
  rw [View.writes_append, View.readAt_eq_ld]
  refine View.ld_unit_apply_of _ _ _ _ _ _ ?_
  intro a
  fin_cases a <;> simp

/-- The second buffer likewise. -/
theorem hi_read (L : List (View.Piece (Elt Ideal) S128x8x512 .f32)) (v : FVec Ideal S128x8x512 .f32) (inb) (inb')
    (i : S128x8x512.Idx) :
    (View.whole cc0_scratch1).readCov (Val := Elt Ideal) (L ++ [⟨Rect.unit (s := S128x8x512) ![0, 0, 0] ![128, 8, 512] inb, v⟩])
        (Rect.unit (s := S128x8x512) ![0, 0, 0] ![128, 8, 512] inb').toLoadRect i
      = View.read (Elt Ideal) (View.whole cc0_scratch1) ((View.whole cc0_scratch1).writes (Elt Ideal) (G0 v) L) i := by
  unfold View.readCov
  rw [View.writes_append, View.readAt_eq_ld]
  refine View.ld_unit_apply_of _ _ _ _ _ _ ?_
  intro a
  fin_cases a <;> simp

theorem trips_eq : Scf.trips (0#32) (Scalar.addi 0#32 128#32) 1#32 = 128 := by decide +kernel

/-- What the loop is run over at a point. -/
abbrev V0 (t : Fin cfg0.N) : FVec Ideal S128x8x512 .f32 := k0_pay5 (F := Ideal) (iblk m c 0 t) (iblk m c 1 t)
abbrev V1 (t : Fin cfg0.N) : FVec Ideal S128x8x512 .f32 := k0_pay6 (F := Ideal) (iblk m c 0 t) (iblk m c 2 t)

/-- The loop over the two buffers as the block fills them. -/
theorem stands (t : Fin cfg0.N) (init : FVec Ideal S8x512 .f32 × FVec Ideal S8x512 .f32)
    (hr : ∀ (b q : Fin 8) (n : Fin 64), init.1 (ix2 b (sl q n)) = ((args m c).h (Point.T t) b (grp (jb t) q) n).1)
    (hi : ∀ (b q : Fin 8) (n : Fin 64), init.2 (ix2 b (sl q n)) = ((args m c).h (Point.T t) b (grp (jb t) q) n).2) :
    (∀ (b q : Fin 8) (n : Fin 64), (st c t (ar m c t) (ai m c t) (X0 (V0 m c t)) (G0 (V1 m c t)) init 128).1.1 (ix2 b (sl q n))
        = ((args m c).h (Point.T t + 128) b (grp (jb t) q) n).1)
    ∧ (∀ (b q : Fin 8) (n : Fin 64), (st c t (ar m c t) (ai m c t) (X0 (V0 m c t)) (G0 (V1 m c t)) init 128).1.2 (ix2 b (sl q n))
        = ((args m c).h (Point.T t + 128) b (grp (jb t) q) n).2)
    ∧ (∀ (s : Fin 128) (b q : Fin 8) (n : Fin 64), View.read (Elt Ideal) (View.whole cc0_scratch0)
        ((View.whole cc0_scratch0).writes (Elt Ideal) (X0 (V0 m c t)) (st c t (ar m c t) (ai m c t) (X0 (V0 m c t)) (G0 (V1 m c t)) init 128).2.1)
          (ix3 s b (sl q n)) = ((args m c).h (Point.T t + s.val + 1) b (grp (jb t) q) n).1)
    ∧ (∀ (s : Fin 128) (b q : Fin 8) (n : Fin 64), View.read (Elt Ideal) (View.whole cc0_scratch1)
        ((View.whole cc0_scratch1).writes (Elt Ideal) (G0 (V1 m c t)) (st c t (ar m c t) (ai m c t) (X0 (V0 m c t)) (G0 (V1 m c t)) init 128).2.2)
          (ix3 s b (sl q n)) = ((args m c).h (Point.T t + s.val + 1) b (grp (jb t) q) n).2) :=
  after_loop m c t (X0 (V0 m c t)) (G0 (V1 m c t)) init
    (fun s b q n => (X0_read _ _).trans (Point.xr_apply m c t s b q n))
    (fun s b q n => (G0_read _ _).trans (Point.xi_apply m c t s b q n)) hr hi

/-- A later tile of a lane block: the state comes from the point before. -/
theorem left_B (t : Fin cfg0.N) (h0 : ¬ t.val % 16 = 0) (q0 : Fin cfg0.N) (hq : q0.val + 1 = t.val)
    (e : Left m c q0 (outsAt0 m c (t.val - 1) (Nat.lt_of_le_of_lt (Nat.sub_le _ _) t.isLt))) :
    Left m c t (outsAt0 m c t.val t.isLt) := by
  rw [outsAt0_B m c t h0]
  generalize outsAt0 m c (t.val - 1) _ = acc at e ⊢
  have hT : Point.T t = Point.T q0 + 128 := by unfold Point.T; omega
  have hj : jb t = jb q0 := Fin.ext (by show t.val / 16 = q0.val / 16; omega)
  have S := stands m c t (k0_pay9 acc.2.1, k0_pay10 acc.2.2)
    (fun b q n => by rw [hT, hj]; exact (Point.pay9_apply _ b (sl q n)).trans (e.hr b q n))
    (fun b q n => by rw [hT, hj]; exact (Point.pay10_apply _ b (sl q n)).trans (e.hi b q n))
  constructor
  · intro s b q p
    dsimp only
    frame_out
    rw [trips_eq]
    exact Point.y_apply m c t _ _ s b q p (fun q n => (hr_read _ _ _ _ _).trans (S.2.2.1 s b q n))
      (fun q n => (hi_read _ _ _ _ _).trans (S.2.2.2 s b q n))
  · intro b q n
    dsimp only
    frame_out
    rw [trips_eq]
    exact S.1 b q n
  · intro b q n
    dsimp only
    frame_out
    rw [trips_eq]
    exact S.2.1 b q n

theorem h_zero (A : Args) (b : Fin 8) (g n : Fin 64) : A.h 0 b g n = (A.h0r b g n, A.h0i b g n) := rfl

theorem pass_r (x : FVec Ideal S8x512 .f32) (b : Fin 8) (k : Fin 512) :
    k0_pay9 (F := Ideal) (k0_pay1 (F := Ideal) x) (ix2 b k) = x (ix2 b k) :=
  (Point.pay9_apply (k0_pay1 (F := Ideal) x) b k).trans (Point.pay1_apply x b k)

theorem pass_i (x : FVec Ideal S8x512 .f32) (b : Fin 8) (k : Fin 512) :
    k0_pay10 (F := Ideal) (k0_pay2 (F := Ideal) x) (ix2 b k) = x (ix2 b k) :=
  (Point.pay10_apply (k0_pay2 (F := Ideal) x) b k).trans (Point.pay2_apply x b k)

/-- The first tile starts from the arguments' state. -/
theorem first_r (t : Fin cfg0.N) (hT : Point.T t = 0) (b q : Fin 8) (n : Fin 64) :
    k0_pay9 (F := Ideal) (k0_pay1 (iblk m c 8 t)) (ix2 b (sl q n)) = ((args m c).h (Point.T t) b (grp (jb t) q) n).1 :=
  ((pass_r (iblk m c 8 t) b (sl q n)).trans (h0r_apply m c t b q n)).trans (by rw [hT, h_zero])

theorem first_i (t : Fin cfg0.N) (hT : Point.T t = 0) (b q : Fin 8) (n : Fin 64) :
    k0_pay10 (F := Ideal) (k0_pay2 (iblk m c 9 t)) (ix2 b (sl q n)) = ((args m c).h (Point.T t) b (grp (jb t) q) n).2 :=
  ((pass_i (iblk m c 9 t) b (sl q n)).trans (h0i_apply m c t b q n)).trans (by rw [hT, h_zero])

set_option maxHeartbeats 2000000 in
/-- The first tile of a lane block: the state comes from the arguments. -/
theorem left_A (t : Fin cfg0.N) (h0 : t.val % 16 = 0) : Left m c t (outsAt0 m c t.val t.isLt) := by
  rw [outsAt0_A m c t h0]
  have hT : Point.T t = 0 := by unfold Point.T; omega
  have S := stands m c t (k0_pay9 (k0_pay1 (iblk m c 8 t)), k0_pay10 (k0_pay2 (iblk m c 9 t)))
    (first_r m c t hT) (first_i m c t hT)
  constructor
  · intro s b q p
    dsimp only
    frame_out
    rw [trips_eq]
    exact Point.y_apply m c t _ _ s b q p (fun q n => (hr_read _ _ _ _ _).trans (S.2.2.1 s b q n))
      (fun q n => (hi_read _ _ _ _ _).trans (S.2.2.2 s b q n))
  · intro b q n
    dsimp only
    frame_out
    rw [trips_eq]
    exact S.1 b q n
  · intro b q n
    dsimp only
    frame_out
    rw [trips_eq]
    exact S.2.1 b q n

/-- Every point leaves what it should. -/
theorem left_all (n : ℕ) (hn : n < cfg0.N) : Left m c ⟨n, hn⟩ (outsAt0 m c n hn) := by
  induction n with
  | zero => exact left_A m c ⟨0, hn⟩ rfl
  | succ n ih =>
    by_cases h0 : (n + 1) % 16 = 0
    · exact left_A m c ⟨n + 1, hn⟩ h0
    · exact left_B m c ⟨n + 1, hn⟩ h0 ⟨n, by omega⟩ rfl (ih (by omega))

end Cert.Ssm.Sweep
-- ==== Proof.Ssm.Arrays.lean ====
module

public import proofs.«01_k».proof.Proof.Ssm.Sweep

/-!
# The S5 kernel's three arrays

Output block `[t % 16, t / 16]` of the first is what point `t` left there; the two state arrays are written out at the
last tile of each lane block.
-/

@[expose] public section

set_option maxRecDepth 16384

noncomputable section

namespace Cert.Ssm.Arrays

open Idealize.ShloMosaic Idealize.ShloMosaic.TcCoe Idealize.SL.Sem
open Cert.Kernel5Ideal Cert.Kernel5Ideal.Gen Cert.Kernel5Ideal.Value Cert.Ssm Cert.Ssm.Blocks Cert.Ssm.Sweep

variable (m : (ℓ : Loc nD τ sig) → Buf (Elt Ideal) ℓ) (c : Dev nD)

/-- Where a lane of a lane block's 512 and of its 128 channels lies. -/
theorem sl_surj (k : Fin 512) : ∃ (q : Fin 8) (n : Fin 64), k = sl q n :=
  ⟨⟨k.val / 64, by omega⟩, ⟨k.val % 64, by omega⟩, Fin.ext (by show k.val = 64 * (k.val / 64) + k.val % 64; omega)⟩

theorem ll_surj (k : Fin 128) : ∃ (q : Fin 8) (p : Fin 16), k = ll q p :=
  ⟨⟨k.val / 16, by omega⟩, ⟨k.val % 16, by omega⟩, Fin.ext (by show k.val = 16 * (k.val / 16) + k.val % 16; omega)⟩

theorem idxo : ∀ t : Fin cfg0.N, win0_10.index t = ![t.val % 16, 0, t.val / 16]
    ∧ win0_11.index t = ![0, t.val / 16] ∧ win0_12.index t = ![0, t.val / 16] :=
  (by decide +kernel : ∀ t : Fin grid0.N, _)

theorem y_congr (A : Args) {t t' : ℕ} {b b' : Fin 8} {g g' : Fin 64} {p p' : Fin 16} (ht : t = t') (hb : b = b')
    (hg : g = g') (hp : p = p') : A.y t b g p = A.y t' b' g' p' := by subst ht hb hg hp; rfl

theorem h_congr (A : Args) {t t' : ℕ} {b b' : Fin 8} {g g' : Fin 64} {n n' : Fin 64} (ht : t = t') (hb : b = b')
    (hg : g = g') (hn : n = n') : A.h t b g n = A.h t' b' g' n' := by subst ht hb hg hn; rfl

/-- The output. -/
theorem y_eq : (dats m 0 c).arrAt 10 cfg0.N = fun i : S2048x8x1024.Idx =>
    (args m c).y (i 0).val (i 1) ⟨(i 2).val / 16, by have : (i 2).val < 1024 := (i 2).isLt; omega⟩
      ⟨(i 2).val % 16, Nat.mod_lt _ (by norm_num)⟩ := by
  refine (dats m 0 c).arrAt_eq_of_covers 10 _ (by decide +kernel) fun t hf y => ?_
  obtain ⟨s, b, k, rfl⟩ : ∃ (s : Fin 128) (b : Fin 8) (k : Fin 128), y = ix3 s b k := ⟨_, _, _, (ix3_eta y).symm⟩
  obtain ⟨q, p, rfl⟩ := ll_surj k
  have ht : t.val < 128 := t.isLt
  have e : ((cfg0.win 10).blk t).view.emb (ix3 s b (ll q p))
      = ix3 (⟨128 * (t.val % 16) + s.val, by omega⟩ : Fin 2048) b
          (⟨128 * (t.val / 16) + (16 * q.val + p.val), by omega⟩ : Fin 1024) := by
    blk_ext [idxo t, ll]
  rw [e]
  blk_simp
  rw [after0_10]
  refine ((left_all m c t.val t.isLt).y s b q p).trans ?_
  refine y_congr _ rfl rfl (Fin.ext ?_) (Fin.ext ?_)
  · show t.val / 16 * 8 + q.val = (128 * (t.val / 16) + (16 * q.val + p.val)) / 16
    omega
  · show p.val = (128 * (t.val / 16) + (16 * q.val + p.val)) % 16
    omega

/-- The real part of the last state. -/
theorem hr_eq : (dats m 0 c).arrAt 11 cfg0.N = fun i : S8x4096.Idx =>
    ((args m c).h 2048 (i 0) ⟨(i 1).val / 64, by have : (i 1).val < 4096 := (i 1).isLt; omega⟩
      ⟨(i 1).val % 64, Nat.mod_lt _ (by norm_num)⟩).1 := by
  refine (dats m 0 c).arrAt_eq_of_covers 11 _ (by decide +kernel) fun t hf y => ?_
  have h15 : t.val % 16 = 15 :=
    (by decide +kernel : ∀ t : Fin cfg0.N, (cfg0.win 11).flush t = true → t.val % 16 = 15) t hf
  obtain ⟨b, k, rfl⟩ : ∃ (b : Fin 8) (k : Fin 512), y = ix2 b k := ⟨_, _, (ix2_eta y).symm⟩
  obtain ⟨q, n, rfl⟩ := sl_surj k
  have ht : t.val < 128 := t.isLt
  have e : ((cfg0.win 11).blk t).view.emb (ix2 b (sl q n))
      = ix2 b (⟨512 * (t.val / 16) + (64 * q.val + n.val), by omega⟩ : Fin 4096) := by
    blk_ext [idxo t, sl]
  rw [e]
  blk_simp
  rw [after0_11]
  refine ((left_all m c t.val t.isLt).hr b q n).trans ?_
  refine congrArg Prod.fst (h_congr _ ?_ rfl (Fin.ext ?_) (Fin.ext ?_))
  · show 128 * (t.val % 16) + 128 = 2048
    omega
  · show t.val / 16 * 8 + q.val = (512 * (t.val / 16) + (64 * q.val + n.val)) / 64
    omega
  · show n.val = (512 * (t.val / 16) + (64 * q.val + n.val)) % 64
    omega

/-- The imaginary part of the last state. -/
theorem hi_eq : (dats m 0 c).arrAt 12 cfg0.N = fun i : S8x4096.Idx =>
    ((args m c).h 2048 (i 0) ⟨(i 1).val / 64, by have : (i 1).val < 4096 := (i 1).isLt; omega⟩
      ⟨(i 1).val % 64, Nat.mod_lt _ (by norm_num)⟩).2 := by
  refine (dats m 0 c).arrAt_eq_of_covers 12 _ (by decide +kernel) fun t hf y => ?_
  have h15 : t.val % 16 = 15 :=
    (by decide +kernel : ∀ t : Fin cfg0.N, (cfg0.win 12).flush t = true → t.val % 16 = 15) t hf
  obtain ⟨b, k, rfl⟩ : ∃ (b : Fin 8) (k : Fin 512), y = ix2 b k := ⟨_, _, (ix2_eta y).symm⟩
  obtain ⟨q, n, rfl⟩ := sl_surj k
  have ht : t.val < 128 := t.isLt
  have e : ((cfg0.win 12).blk t).view.emb (ix2 b (sl q n))
      = ix2 b (⟨512 * (t.val / 16) + (64 * q.val + n.val), by omega⟩ : Fin 4096) := by
    blk_ext [idxo t, sl]
  rw [e]
  blk_simp
  rw [after0_12]
  refine ((left_all m c t.val t.isLt).hi b q n).trans ?_
  refine congrArg Prod.snd (h_congr _ ?_ rfl (Fin.ext ?_) (Fin.ext ?_))
  · show 128 * (t.val % 16) + 128 = 2048
    omega
  · show t.val / 16 * 8 + q.val = (512 * (t.val / 16) + (64 * q.val + n.val)) / 64
    omega
  · show n.val = (512 * (t.val / 16) + (64 * q.val + n.val)) % 64
    omega

end Cert.Ssm.Arrays
-- ==== Proof.Ssm.RefRun.lean ====
module

public import proofs.«01_k».proof.Proof.Gen.Reference5Ideal.Run
public import proofs.«01_k».proof.Proof.Gen.Reference5Ideal.Step

/-!
# The S5 reference's run

The reference terminates with its output and its two last states read off the recurrence's state after 2048 trips, and
with its arguments unchanged.
-/

@[expose] public section

set_option maxRecDepth 16384

noncomputable section

namespace Cert.Ssm.RefRun

open Idealize.ShloMosaic Idealize.ShloMosaic.TcCoe Idealize.SL.Sem Idealize.ShloMosaic.StableHlo
open Cert.Reference5Ideal Cert.Reference5Ideal.Gen Cert.Reference5Ideal.Value
open Cert.Reference5Ideal.Step (State step init)

variable {F : FTy → Type} [FloatOps F]

/-- The loop's buffers hold the state `s`, and the counter is `j`. -/
structure Holds (V0 : Valuation τ sig (Elt F)) (s : State F) (j : ℕ) : Prop where
  hr : V0 (Proc.devRef .tc main_v32_5) = s.main_v32_5
  hi : V0 (Proc.devRef .tc main_v32_6) = s.main_v32_6
  sr : V0 (Proc.devRef .tc main_v32_7) = s.main_v32_7
  si : V0 (Proc.devRef .tc main_v32_8) = s.main_v32_8
  xr : V0 (Proc.devRef .tc main_v32_0) = s.main_v32_0
  xi : V0 (Proc.devRef .tc main_v32_1) = s.main_v32_1
  ar : V0 (Proc.devRef .tc main_v32_2) = s.main_v32_2
  ai : V0 (Proc.devRef .tc main_v32_3) = s.main_v32_3
  n : V0 (Proc.devRef .tc main_v32_4) = constantI S_ 32 (BitVec.ofNat 32 j)

/-- The loop's first state, of the arguments in memory. -/
abbrev start (m : (ℓ : Loc nD τ sig) → Buf (Elt F) ℓ) (c : Dev nD) : State F :=
  init (m ((c.tc : Thread nD τ).loc main_arg1)) (m ((c.tc : Thread nD τ).loc main_arg2))
    (m ((c.tc : Thread nD τ).loc main_arg0)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8))

/-- The state after each number of trips. -/
def states (m : (ℓ : Loc nD τ sig) → Buf (Elt F) ℓ) (c : Dev nD) : ℕ → State F
  | 0 => start m c
  | n + 1 => step n (states m c n)

variable {V0 : Valuation τ sig (Elt F)} {s : State F} {j : ℕ}

theorem trip_hr (e : Holds V0 s j) : step_main_v32_5 V0 = (step j s).main_v32_5 := by
  rw [Step.step_main_v32_5]
  unfold step_main_v32_5 res_main_while0b_v62 Step.b17 Step.b16 Step.b15 Step.b14 Step.b13 Step.b12 Step.b11 Step.b10
    Step.b4 Step.b3
  rw [e.hr, e.hi, e.xr, e.ar, e.ai, e.n]
  rfl

theorem trip_hi (e : Holds V0 s j) : step_main_v32_6 V0 = (step j s).main_v32_6 := by
  rw [Step.step_main_v32_6]
  unfold step_main_v32_6 res_main_while0b_v70 Step.b25 Step.b24 Step.b23 Step.b22 Step.b21 Step.b20 Step.b19 Step.b18
    Step.b9 Step.b8
  rw [e.hr, e.hi, e.xi, e.ar, e.ai, e.n]
  rfl

theorem trip_sr (e : Holds V0 s j) : step_main_v32_7 V0 = (step j s).main_v32_7 := by
  have eh : res_main_while0b_v62 V0 = Step.b17 j s := (trip_hr e).trans (Step.step_main_v32_5 j s)
  rw [Step.step_main_v32_7]
  unfold step_main_v32_7 Step.b30 Step.b26
  rw [eh, e.sr, e.n]
  rfl

theorem trip_si (e : Holds V0 s j) : step_main_v32_8 V0 = (step j s).main_v32_8 := by
  have eh : res_main_while0b_v70 V0 = Step.b25 j s := (trip_hi e).trans (Step.step_main_v32_6 j s)
  rw [Step.step_main_v32_8]
  unfold step_main_v32_8 Step.b35 Step.b31
  rw [eh, e.si, e.n]
  rfl

theorem trip_n (e : Holds V0 s j) : step_main_v32_4 V0 = constantI S_ 32 (BitVec.ofNat 32 (j + 1)) := by
  unfold step_main_v32_4
  rw [e.n]
  funext i
  show BitVec.ofNat 32 j + 1#32 = BitVec.ofNat 32 (j + 1)
  simp only [BitVec.ofNat_add]

/-- One trip takes the buffers from a state to the next. -/
theorem trip (e : Holds V0 s j) : Holds (STEP V0) (step j s) (j + 1) where
  hr := (STEP_main_v32_5 V0).trans (trip_hr e)
  hi := (STEP_main_v32_6 V0).trans (trip_hi e)
  sr := (STEP_main_v32_7 V0).trans (trip_sr e)
  si := (STEP_main_v32_8 V0).trans (trip_si e)
  xr := (STEP_main_v32_0 V0).trans e.xr
  xi := (STEP_main_v32_1 V0).trans e.xi
  ar := (STEP_main_v32_2 V0).trans e.ar
  ai := (STEP_main_v32_3 V0).trans e.ai
  n := (STEP_main_v32_4 V0).trans (trip_n e)

variable (m : (ℓ : Loc nD τ sig) → Buf (Elt F) ℓ) (c : Dev nD)

set_option maxRecDepth 65536 in
set_option maxHeartbeats 800000 in
/-- What precedes the loop leaves the first state. -/
theorem entry : Holds (entryContents preI m c) (start m c) 0 := by
  constructor <;> (simp only [entryContents, afterL_cons, afterL_nil]; after_reads_simp) <;> rfl

/-- The buffers after `k` trips. -/
theorem after_trips : ∀ k, Holds (STEP^[k] (entryContents preI m c)) (states m c k) k
  | 0 => entry m c
  | k + 1 => by
    rw [Function.iterate_succ_apply']
    exact trip (after_trips k)

theorem out_y (e : Holds V0 s j) {x0 : (⟨S2048x8x9728, .f32⟩ : BufTy).Contents (Elt F)}
    (h0 : V0 (Proc.devRef .tc main_arg0) = x0) {x9 x10 : (⟨S4x64x16x64, .f32⟩ : BufTy).Contents (Elt F)}
    (h9 : V0 (Proc.devRef .tc main_arg9) = x9) (h10 : V0 (Proc.devRef .tc main_arg10) = x10)
    {x11 : (⟨S4x64x16, .f32⟩ : BufTy).Contents (Elt F)} (h11 : V0 (Proc.devRef .tc main_arg11) = x11) :
    out_main_v50 V0 = Step.R_main_v50 s x0 x9 x10 x11 := by
  unfold out_main_v50 Step.R_main_v50
  rw [e.sr, e.si, h0, h9, h10, h11]
  rfl

theorem out_hr (e : Holds V0 s j) : out_main_v51 V0 = Step.R_main_v51 s := by
  unfold out_main_v51 Step.R_main_v51
  rw [e.hr]
  rfl

theorem out_hi (e : Holds V0 s j) : out_main_v52 V0 = Step.R_main_v52 s := by
  unfold out_main_v52 Step.R_main_v52
  rw [e.hi]
  rfl

/-- The three results are read off state 2048; the arguments are unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v50)
          = Step.R_main_v50 (states m c 2048) (m ((c.tc : Thread nD τ).loc main_arg0))
            (m ((c.tc : Thread nD τ).loc main_arg9)) (m ((c.tc : Thread nD τ).loc main_arg10))
            (m ((c.tc : Thread nD τ).loc main_arg11))
      ∧ r.2.mem ((c.tc : Thread nD τ).loc main_v51) = Step.R_main_v51 (states m c 2048)
      ∧ r.2.mem ((c.tc : Thread nD τ).loc main_v52) = Step.R_main_v52 (states m c 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    have hk := after_trips m c 2048
    ⟨(h c).1.trans (out_y hk (iter_main_arg0 m c 2048) (iter_main_arg9 m c 2048) (iter_main_arg10 m c 2048)
        (iter_main_arg11 m c 2048)),
      (h c).2.1.trans (out_hr hk), (h c).2.2.1.trans (out_hi hk), (h c).2.2.2⟩)
    (Value.run m ρ)

end Cert.Ssm.RefRun

end
-- ==== Proof.Ssm.Ref.lean ====
module

public import proofs.«01_k».proof.Proof.Ssm.RefRun
public import proofs.«01_k».proof.Proof.Ssm.Spec
public import Idealize.ShloMosaic.Lib.Pointwise
public import Idealize.ShloMosaic.Lib.WordCmp

/-!
# What the S5 reference computes

What drives the reference's recurrence at an index, the recurrence trip by trip, and the three results, each as the
mixer's equations.
-/

@[expose] public section

set_option maxRecDepth 16384

noncomputable section

namespace Cert.Ssm.Ref

open Idealize.ShloMosaic Idealize.ShloMosaic.TcCoe Idealize.SL.Sem
open Cert.Reference5Ideal Cert.Reference5Ideal.Gen Cert.Reference5Ideal.Step Cert.Ssm
open WordCmp

/-- The twelve argument arrays as the mixer's arguments: of the parameters, the first layer's. -/
def ofArrays (x0 : FVec Ideal S2048x8x9728 .f32) (x1 x2 : FVec Ideal S8x64x64 .f32)
    (x3 x4 x5 x6 : FVec Ideal S256x64 .f32) (x7 x8 : FVec Ideal S4x64x64x16 .f32) (x9 x10 : FVec Ideal S4x64x16x64 .f32)
    (x11 : FVec Ideal S4x64x16 .f32) : Args where
  z t b d := x0 (ix3 t b ⟨d.val, by omega⟩)
  h0r b g n := x1 (ix3 b g n)
  h0i b g n := x2 (ix3 b g n)
  ar g n := x3 (ix2 ⟨g.val, by omega⟩ n)
  ai g n := x4 (ix2 ⟨g.val, by omega⟩ n)
  qr g n := x5 (ix2 ⟨g.val, by omega⟩ n)
  qi g n := x6 (ix2 ⟨g.val, by omega⟩ n)
  br g n p := x7 (ix4 0 g n p)
  bi g n p := x8 (ix4 0 g n p)
  cr g p n := x9 (ix4 0 g p n)
  ci g p n := x10 (ix4 0 g p n)
  d g p := x11 (ix3 0 g p)

section Arrays

variable (x0 : FVec Ideal S2048x8x9728 .f32) (x1 x2 : FVec Ideal S8x64x64 .f32)
    (x3 x4 x5 x6 : FVec Ideal S256x64 .f32) (x7 x8 : FVec Ideal S4x64x64x16 .f32) (x9 x10 : FVec Ideal S4x64x16x64 .f32)
    (x11 : FVec Ideal S4x64x16 .f32)

local notation "AA" => ofArrays x0 x1 x2 x3 x4 x5 x6 x7 x8 x9 x10 x11

theorem ar_apply (g n : Fin 64) : A_main_v0 (F := Ideal) x0 x3 x4 x5 x6 x7 x8 (ix2 g n) = (AA).ar g n := by
  show _ = x3 (ix2 _ _)
  pointwise [A_main_v0]

theorem ai_apply (g n : Fin 64) : A_main_v1 (F := Ideal) x0 x3 x4 x5 x6 x7 x8 (ix2 g n) = (AA).ai g n := by
  show _ = x4 (ix2 _ _)
  pointwise [A_main_v1]

theorem bbr_apply (g n : Fin 64) (p : Fin 16) :
    A_main_v14 (F := Ideal) x0 x3 x4 x5 x6 x7 x8 (ix3 g n p) = (AA).bbr g n p := by
  show _ = (x5 (ix2 _ _) * x7 (ix4 _ _ _ _) - x6 (ix2 _ _) * x8 (ix4 _ _ _ _) : EReal)
  pointwise [A_main_v14, A_main_v13, A_main_v12, A_main_v11, A_main_v10, A_main_v9, A_main_v8, A_main_v7, A_main_v6,
    A_main_v5, A_main_v4, A_main_v3, A_main_v2]

theorem bbi_apply (g n : Fin 64) (p : Fin 16) :
    A_main_v23 (F := Ideal) x0 x3 x4 x5 x6 x7 x8 (ix3 g n p) = (AA).bbi g n p := by
  show _ = (x5 (ix2 _ _) * x8 (ix4 _ _ _ _) + x6 (ix2 _ _) * x7 (ix4 _ _ _ _) : EReal)
  pointwise [A_main_v23, A_main_v22, A_main_v21, A_main_v20, A_main_v19, A_main_v18, A_main_v17, A_main_v16, A_main_v15,
    A_main_v5, A_main_v4, A_main_v3, A_main_v2]

theorem u_apply (t : Fin 2048) (b : Fin 8) (g : Fin 64) (p : Fin 16) :
    A_main_v25 (F := Ideal) x0 x3 x4 x5 x6 x7 x8 (ix4 t b g p) = (AA).u t.val b (chan g p) := by
  unfold Args.u
  rw [dif_pos t.isLt]
  show _ = x0 (ix3 _ _ _)
  pointwise [A_main_v25, A_main_v24]
  refine congrArg x0 (congrArg (ix3 t b) (Fin.ext ?_))
  show g.val * 16 + p.val = 16 * g.val + p.val
  omega

theorem xr_apply (t : Fin 2048) (b : Fin 8) (g n : Fin 64) :
    A_main_v27 (F := Ideal) x0 x3 x4 x5 x6 x7 x8 (ix4 t b g n) = (AA).xr b g n t.val := by
  pointwise [A_main_v27, A_main_v26]
  unfold Args.xr
  refine Finset.sum_congr rfl fun p _ => ?_
  rw [bbr_apply x0 x1 x2 x3 x4 x5 x6 x7 x8 x9 x10 x11, u_apply x0 x1 x2 x3 x4 x5 x6 x7 x8 x9 x10 x11, mul_comm]

theorem xi_apply (t : Fin 2048) (b : Fin 8) (g n : Fin 64) :
    A_main_v29 (F := Ideal) x0 x3 x4 x5 x6 x7 x8 (ix4 t b g n) = (AA).xi b g n t.val := by
  pointwise [A_main_v29, A_main_v28]
  unfold Args.xi
  refine Finset.sum_congr rfl fun p _ => ?_
  rw [bbi_apply x0 x1 x2 x3 x4 x5 x6 x7 x8 x9 x10 x11, u_apply x0 x1 x2 x3 x4 x5 x6 x7 x8 x9 x10 x11, mul_comm]

end Arrays

/-- Row `n` lies in the time-major arrays. -/
theorem row_fits (n : ℕ) (hn : n < 2048) : S2048x8x64x64.Slices ![n, 0, 0, 0] S1x8x64x64 := by
  refine ⟨rfl, fun a => ?_⟩
  match a with
  | ⟨0, _⟩ => show n + 1 ≤ 2048; omega
  | ⟨1, _⟩ => show 0 + 8 ≤ 8; omega
  | ⟨2, _⟩ => show 0 + 64 ≤ 64; omega
  | ⟨3, _⟩ => show 0 + 64 ≤ 64; omega

theorem step_hr (s : State Ideal) (n : ℕ) (hn : n < 2048) (b : Fin 8) (g k : Fin 64) :
    (step n s).main_v32_5 (ix3 b g k) = (s.main_v32_2 (ix2 g k) * s.main_v32_5 (ix3 b g k)
      - s.main_v32_3 (ix2 g k) * s.main_v32_6 (ix3 b g k) + s.main_v32_0 (ix4 ⟨n, hn⟩ b g k) : EReal) := by
  rw [step_main_v32_5]
  unfold b17 b16 b15 b14 b13 b12 b11 b10 b4 b3
  rw [dynamicSlice_eq_extract _ s.main_v32_0 _ _ ![n, 0, 0, 0] (row_fits n hn)
      (by intro a; fin_cases a <;> simp [b0, b1, b2, constantI, toInt_ofNat_of_lt (w := 32) (show n < 2 ^ (32 - 1) by omega)])]
  pointwise

theorem step_hi (s : State Ideal) (n : ℕ) (hn : n < 2048) (b : Fin 8) (g k : Fin 64) :
    (step n s).main_v32_6 (ix3 b g k) = (s.main_v32_2 (ix2 g k) * s.main_v32_6 (ix3 b g k)
      + s.main_v32_3 (ix2 g k) * s.main_v32_5 (ix3 b g k) + s.main_v32_1 (ix4 ⟨n, hn⟩ b g k) : EReal) := by
  rw [step_main_v32_6]
  unfold b25 b24 b23 b22 b21 b20 b19 b18 b9 b8
  rw [dynamicSlice_eq_extract _ s.main_v32_1 _ _ ![n, 0, 0, 0] (row_fits n hn)
      (by intro a; fin_cases a <;> simp [b5, b6, b7, constantI, toInt_ofNat_of_lt (w := 32) (show n < 2 ^ (32 - 1) by omega)])]
  pointwise

theorem step_sr (s : State Ideal) (n : ℕ) (hn : n < 2048) (t : Fin 2048) (b : Fin 8) (g k : Fin 64) :
    (step n s).main_v32_7 (ix4 t b g k)
      = if t.val = n then (step n s).main_v32_5 (ix3 b g k) else s.main_v32_7 (ix4 t b g k) := by
  rw [step_main_v32_7, step_main_v32_5]
  unfold b30 b26
  rw [dynamicUpdateSlice_eq_update _ _ _ _ ![n, 0, 0, 0] (row_fits n hn)
      (by intro a; fin_cases a <;> simp [b27, b28, b29, constantI, toInt_ofNat_of_lt (w := 32) (show n < 2 ^ (32 - 1) by omega)])]
  generalize b17 n s = v
  pointwise
  by_cases ht : t.val = n
  · rw [if_pos ht, dif_pos (by omega)]
  · rw [if_neg ht, dif_neg (by omega)]

theorem step_si (s : State Ideal) (n : ℕ) (hn : n < 2048) (t : Fin 2048) (b : Fin 8) (g k : Fin 64) :
    (step n s).main_v32_8 (ix4 t b g k)
      = if t.val = n then (step n s).main_v32_6 (ix3 b g k) else s.main_v32_8 (ix4 t b g k) := by
  rw [step_main_v32_8, step_main_v32_6]
  unfold b35 b31
  rw [dynamicUpdateSlice_eq_update _ _ _ _ ![n, 0, 0, 0] (row_fits n hn)
      (by intro a; fin_cases a <;> simp [b32, b33, b34, constantI, toInt_ofNat_of_lt (w := 32) (show n < 2 ^ (32 - 1) by omega)])]
  generalize b25 n s = v
  pointwise
  by_cases ht : t.val = n
  · rw [if_pos ht, dif_pos (by omega)]
  · rw [if_neg ht, dif_neg (by omega)]

variable (m : (ℓ : Loc nD τ sig) → Buf (Elt Ideal) ℓ) (c : Dev nD)

/-- The reference's arguments as the mixer's. -/
def args : Args :=
  ofArrays (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))

/-- The recurrence after `n` trips: the state's parts, the rows of the two stacks written so far, the arrays read. -/
structure After (n : ℕ) (s : State Ideal) (b : Fin 8) (g k : Fin 64) : Prop where
  hr : s.main_v32_5 (ix3 b g k) = ((args m c).h n b g k).1
  hi : s.main_v32_6 (ix3 b g k) = ((args m c).h n b g k).2
  sr : ∀ t : Fin 2048, t.val < n → s.main_v32_7 (ix4 t b g k) = ((args m c).h (t.val + 1) b g k).1
  si : ∀ t : Fin 2048, t.val < n → s.main_v32_8 (ix4 t b g k) = ((args m c).h (t.val + 1) b g k).2
  xr : ∀ t : Fin 2048, s.main_v32_0 (ix4 t b g k) = (args m c).xr b g k t.val
  xi : ∀ t : Fin 2048, s.main_v32_1 (ix4 t b g k) = (args m c).xi b g k t.val
  ar : s.main_v32_2 (ix2 g k) = (args m c).ar g k
  ai : s.main_v32_3 (ix2 g k) = (args m c).ai g k

theorem states_apply (n : ℕ) (hn : n ≤ 2048) (b : Fin 8) (g k : Fin 64) :
    After m c n (RefRun.states m c n) b g k := by
  induction n with
  | zero =>
    exact ⟨rfl, rfl, fun t ht => absurd ht (by omega), fun t ht => absurd ht (by omega),
      fun t => xr_apply _ _ _ _ _ _ _ _ _ _ _ _ t b g k, fun t => xi_apply _ _ _ _ _ _ _ _ _ _ _ _ t b g k,
      ar_apply _ _ _ _ _ _ _ _ _ _ _ _ g k, ai_apply _ _ _ _ _ _ _ _ _ _ _ _ g k⟩
  | succ n ih =>
    have e := ih (by omega)
    have e1 : (RefRun.states m c (n + 1)).main_v32_5 (ix3 b g k) = ((args m c).h (n + 1) b g k).1 := by
      refine (step_hr (RefRun.states m c n) n (by omega) b g k).trans ?_
      rw [e.hr, e.hi, e.xr, e.ar, e.ai]
      rfl
    have e2 : (RefRun.states m c (n + 1)).main_v32_6 (ix3 b g k) = ((args m c).h (n + 1) b g k).2 := by
      refine (step_hi (RefRun.states m c n) n (by omega) b g k).trans ?_
      rw [e.hr, e.hi, e.xi, e.ar, e.ai]
      rfl
    refine ⟨e1, e2, fun t ht => ?_, fun t ht => ?_, e.xr, e.xi, e.ar, e.ai⟩
    · refine (step_sr (RefRun.states m c n) n (by omega) t b g k).trans ?_
      by_cases h' : t.val = n
      · rw [if_pos h', h']; exact e1
      · rw [if_neg h']; exact e.sr t (by omega)
    · refine (step_si (RefRun.states m c n) n (by omega) t b g k).trans ?_
      by_cases h' : t.val = n
      · rw [if_pos h', h']; exact e2
      · rw [if_neg h']; exact e.si t (by omega)

/-- The first result. -/
theorem y_eq (t : Fin 2048) (b : Fin 8) (g : Fin 64) (p : Fin 16) :
    R_main_v50 (F := Ideal) (RefRun.states m c 2048) (m ((c.tc : Thread nD τ).loc main_arg0))
        (m ((c.tc : Thread nD τ).loc main_arg9)) (m ((c.tc : Thread nD τ).loc main_arg10))
        (m ((c.tc : Thread nD τ).loc main_arg11)) (ix3 t b (chan g p))
      = (args m c).y t.val b g p := by
  have hg : ∀ q, (⟨(chan g p).val / 16, q⟩ : Fin 64) = g :=
    fun q => Fin.ext (show (16 * g.val + p.val) / 16 = g.val by omega)
  have hp : ∀ q, (⟨(chan g p).val % 16, q⟩ : Fin 16) = p :=
    fun q => Fin.ext (show (16 * g.val + p.val) % 16 = p.val by omega)
  pointwise [R_main_v50]
  unfold Args.y Args.u
  rw [dif_pos t.isLt]
  simp only [hg, hp]
  simp only [fun n => (states_apply m c 2048 le_rfl b g n).sr t t.isLt,
    fun n => (states_apply m c 2048 le_rfl b g n).si t t.isLt]
  rfl

/-- Lane of a group's state entry. -/
def lane (g n : Fin 64) : Fin 4096 := ⟨64 * g.val + n.val, by omega⟩

/-- The second result. -/
theorem hr_eq (b : Fin 8) (g n : Fin 64) :
    R_main_v51 (F := Ideal) (RefRun.states m c 2048) (ix2 b (lane g n)) = ((args m c).h 2048 b g n).1 := by
  rw [← (states_apply m c 2048 le_rfl b g n).hr]
  generalize RefRun.states m c 2048 = s
  pointwise [R_main_v51]
  refine congrArg s.main_v32_5 ?_
  rw [show ∀ q, (⟨(lane g n).val / 64, q⟩ : Fin 64) = g from
      fun q => Fin.ext (show (64 * g.val + n.val) / 64 = g.val by omega),
    show ∀ q, (⟨(lane g n).val % 64, q⟩ : Fin 64) = n from
      fun q => Fin.ext (show (64 * g.val + n.val) % 64 = n.val by omega)]

/-- The third result. -/
theorem hi_eq (b : Fin 8) (g n : Fin 64) :
    R_main_v52 (F := Ideal) (RefRun.states m c 2048) (ix2 b (lane g n)) = ((args m c).h 2048 b g n).2 := by
  rw [← (states_apply m c 2048 le_rfl b g n).hi]
  generalize RefRun.states m c 2048 = s
  pointwise [R_main_v52]
  refine congrArg s.main_v32_6 ?_
  rw [show ∀ q, (⟨(lane g n).val / 64, q⟩ : Fin 64) = g from
      fun q => Fin.ext (show (64 * g.val + n.val) / 64 = g.val by omega),
    show ∀ q, (⟨(lane g n).val % 64, q⟩ : Fin 64) = n from
      fun q => Fin.ext (show (64 * g.val + n.val) % 64 = n.val by omega)]

end Cert.Ssm.Ref
-- ==== Proof.Ssm.Claims.lean ====
module

public import proofs.«01_k».proof.Defs
public import proofs.«01_k».proof.Proof.Gen.Kernel5
public import proofs.«01_k».proof.Proof.Gen.Kernel5.Frame
public import proofs.«01_k».proof.Proof.Gen.Kernel5Ideal.Frame
public import proofs.«01_k».proof.Proof.Ssm.Arrays
public import proofs.«01_k».proof.Proof.Ssm.Ref
public import Idealize.ShloMosaic.Adequacy
public import Idealize.ShloMosaic.Init

/-!
# The claims about the S5 mixer

The frames of the three programs, and the equation of the kernel's three results with the reference's.
-/

@[expose] public section

noncomputable section

namespace Cert.Ssm.Claims

open Idealize.ShloMosaic Idealize.ShloMosaic.TcCoe Idealize.SL.Sem

/-- The kernel runs and leaves its arguments unchanged. -/
theorem frame_kernel : Cert.quiescent_Kernel5 := fun m ρ _ => Cert.Kernel5.Gen.frame m ρ

/-- So does its ideal reading. -/
theorem frame_ideal : Cert.quiescent_Kernel5Ideal := fun m ρ _ => Cert.Kernel5Ideal.Gen.frame m ρ

/-- So does the reference. -/
theorem frame_reference : Cert.quiescent_Reference5Ideal := fun m ρ _ =>
  (θ_run Cert.Reference5Ideal.defs _ _).mono
    (fun r h => ⟨fun c => (h c).2.2.2, sem_eq_zero_of_no_sems (by decide) r.2⟩) (RefRun.run m ρ)

/-- Every channel is a channel of a group, every lane a state of a group. -/
theorem chan_surj (d : Fin 1024) : d = chan ⟨d.val / 16, by omega⟩ ⟨d.val % 16, Nat.mod_lt _ (by norm_num)⟩ :=
  Fin.ext (by show d.val = 16 * (d.val / 16) + d.val % 16; omega)

theorem lane_surj (d : Fin 4096) : d = Ref.lane ⟨d.val / 64, by omega⟩ ⟨d.val % 64, Nat.mod_lt _ (by norm_num)⟩ :=
  Fin.ext (by show d.val = 64 * (d.val / 64) + d.val % 64; omega)

/-- From equal arguments both programs return the same output and the same state. -/
theorem algebraic : Cert.algebraic_Kernel5Ideal_Reference5Ideal := by
  intro m g m' g' _ hm
  have hA : ∀ c, Ref.args m' c = Blocks.args m c := by
    intro c
    obtain ⟨h0, h1, h2, h3, h4, h5, h6, h7, h8, h9, h10, h11⟩ := hm c
    unfold Ref.args Blocks.args
    rw [h0, h1, h2, h3, h4, h5, h6, h7, h8, h9, h10, h11]
    rfl
  refine ⟨_, _, _, Cert.Kernel5Ideal.Value.run_blocks m g, ?_⟩
  refine (θ_run Cert.Reference5Ideal.defs _ _).mono (fun r h c => ?_) (RefRun.run m' g')
  obtain ⟨e1, e2, e3, k⟩ := h c
  refine ⟨e1.trans ?_, e2.trans ?_, e3.trans ?_, k⟩
  · rw [Arrays.y_eq m c, ← hA c]
    funext i
    obtain ⟨t, b, d, rfl⟩ : ∃ (t : Fin 2048) (b : Fin 8) (d : Fin 1024), i = ix3 t b d := ⟨_, _, _, (ix3_eta i).symm⟩
    refine (congrArg _ (congrArg (ix3 t b) (chan_surj d))).trans (Ref.y_eq m' c t b _ _)
  · rw [Arrays.hr_eq m c, ← hA c]
    funext i
    obtain ⟨b, d, rfl⟩ : ∃ (b : Fin 8) (d : Fin 4096), i = ix2 b d := ⟨_, _, (ix2_eta i).symm⟩
    refine (congrArg _ (congrArg (ix2 b) (lane_surj d))).trans (Ref.hr_eq m' c b _ _)
  · rw [Arrays.hi_eq m c, ← hA c]
    funext i
    obtain ⟨b, d, rfl⟩ : ∃ (b : Fin 8) (d : Fin 4096), i = ix2 b d := ⟨_, _, (ix2_eta i).symm⟩
    refine (congrArg _ (congrArg (ix2 b) (lane_surj d))).trans (Ref.hi_eq m' c b _ _)

end Cert.Ssm.Claims
-- ==== Proof.Ssm.Params.lean ====
module

public import proofs.«01_k».proof.Defs
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import Idealize.ShloMosaic.Lib.Claim
public import Idealize.ShloMosaic.Lib.Pipeline.ValueKit
public import Idealize.ShloMosaic.Lib.Pointwise
public import Idealize.ShloMosaic.Adequacy
public import Idealize.ShloMosaic.Init

/-!
# The S5 mixer's discretised parameters

From `λ` and the step's logarithm `s`: the decay `exp (λ · exp s)` and the input's factor `(exp (λ · exp s) - 1) / λ`,
complex numbers kept as their two parts.
-/

@[expose] public section

set_option maxRecDepth 16384

noncomputable section

namespace Cert.Ssm.Params

open Idealize.ShloMosaic Idealize.ShloMosaic.TcCoe Idealize.SL.Sem

/-- The decay's two parts. -/
def are (a b s : EReal) : EReal := Ideal.exp (a * Ideal.exp s) * Ideal.cos (b * Ideal.exp s)
def aim (a b s : EReal) : EReal := Ideal.exp (a * Ideal.exp s) * Ideal.sin (b * Ideal.exp s)

/-- The input factor's two parts. -/
def qre (a b s : EReal) : EReal := Ideal.div ((are a b s - 1) * a + aim a b s * b) (a * a + b * b)
def qim (a b s : EReal) : EReal := Ideal.div (aim a b s * a - (are a b s - 1) * b) (a * a + b * b)

/-- A parameter of every row: a row is a layer and a group of it. -/
def table (f : EReal → EReal → EReal → EReal) (x0 x1 : Fin 4 → Fin 64 → Fin 64 → EReal) (x2 : Fin 4 → Fin 64 → EReal)
    (r : Fin 256) (n : Fin 64) : EReal :=
  f (x0 ⟨r.val / 64, by omega⟩ ⟨r.val % 64, by omega⟩ n) (x1 ⟨r.val / 64, by omega⟩ ⟨r.val % 64, by omega⟩ n)
    (x2 ⟨r.val / 64, by omega⟩ ⟨r.val % 64, by omega⟩)

section Kernel

open Cert.Kernel6Ideal Cert.Kernel6Ideal.Gen Cert.Kernel6Ideal.Value

variable (m : (ℓ : Loc nD τ sig) → Buf (Elt Ideal) ℓ) (c : Dev nD)

/-- A parameter's table from the call's arguments. -/
abbrev tab (f : EReal → EReal → EReal → EReal) : Fin 256 → Fin 64 → EReal :=
  table f (fun l g n => m ((c.tc : Thread nD τ).loc main_arg0) (ix3 l g n))
    (fun l g n => m ((c.tc : Thread nD τ).loc main_arg1) (ix3 l g n)) (fun l g => m ((c.tc : Thread nD τ).loc main_arg2) (ix2 l g))

theorem V_re (r : Fin 256) (n : Fin 64) : (V m c main_v0 : FVec Ideal S256x64 .f32) (ix2 r n)
    = m ((c.tc : Thread nD τ).loc main_arg0) (ix3 (⟨r.val / 64, by omega⟩ : Fin 4) (⟨r.val % 64, by omega⟩ : Fin 64) n) := by
  unfold_abbrev_sides
  after_results
  pointwise []

theorem V_im (r : Fin 256) (n : Fin 64) : (V m c main_v1 : FVec Ideal S256x64 .f32) (ix2 r n)
    = m ((c.tc : Thread nD τ).loc main_arg1) (ix3 (⟨r.val / 64, by omega⟩ : Fin 4) (⟨r.val % 64, by omega⟩ : Fin 64) n) := by
  unfold_abbrev_sides
  after_results
  pointwise []

theorem V_st (r : Fin 256) : (V m c main_v2 : FVec Ideal S256x1 .f32) (ix2 r 0)
    = m ((c.tc : Thread nD τ).loc main_arg2) (ix2 (⟨r.val / 64, by omega⟩ : Fin 4) (⟨r.val % 64, by omega⟩ : Fin 64)) := by
  unfold_abbrev_sides
  after_results
  pointwise []

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The one block of each argument. -/
theorem b_re (t : Fin cfg0.N) (r : Fin 256) (n : Fin 64) : (iblk m c 0 t : FVec Ideal S256x64 .f32) (ix2 r n)
    = m ((c.tc : Thread nD τ).loc main_arg0) (ix3 (⟨r.val / 64, by omega⟩ : Fin 4) (⟨r.val % 64, by omega⟩ : Fin 64) n) := by
  rw [← V_re m c]
  blk_point [iblk, idx t]

theorem b_im (t : Fin cfg0.N) (r : Fin 256) (n : Fin 64) : (iblk m c 1 t : FVec Ideal S256x64 .f32) (ix2 r n)
    = m ((c.tc : Thread nD τ).loc main_arg1) (ix3 (⟨r.val / 64, by omega⟩ : Fin 4) (⟨r.val % 64, by omega⟩ : Fin 64) n) := by
  rw [← V_im m c]
  blk_point [iblk, idx t]

theorem b_st (t : Fin cfg0.N) (r : Fin 256) : (iblk m c 2 t : FVec Ideal S256x1 .f32) (ix2 r 0)
    = m ((c.tc : Thread nD τ).loc main_arg2) (ix2 (⟨r.val / 64, by omega⟩ : Fin 4) (⟨r.val % 64, by omega⟩ : Fin 64)) := by
  rw [← V_st m c]
  blk_point [iblk, idx t]

/-- What the block computes at a row and a state. -/
theorem p_are (x0 x1 : FVec Ideal S256x64 .f32) (x2 : FVec Ideal S256x1 .f32) (r : Fin 256) (n : Fin 64) :
    k0_pay5 (F := Ideal) x0 x1 x2 (ix2 r n) = are (x0 (ix2 r n)) (x1 (ix2 r n)) (x2 (ix2 r 0)) := by
  unfold are
  pointwise [k0_pay5, k0_pay4, k0_pay3, k0_pay2, k0_pay1]

theorem p_aim (x0 x1 : FVec Ideal S256x64 .f32) (x2 : FVec Ideal S256x1 .f32) (r : Fin 256) (n : Fin 64) :
    k0_pay6 (F := Ideal) x0 x1 x2 (ix2 r n) = aim (x0 (ix2 r n)) (x1 (ix2 r n)) (x2 (ix2 r 0)) := by
  unfold aim
  pointwise [k0_pay6, k0_pay4, k0_pay3, k0_pay2, k0_pay1]

theorem p_qre (x0 x1 : FVec Ideal S256x64 .f32) (x2 : FVec Ideal S256x1 .f32) (r : Fin 256) (n : Fin 64) :
    k0_pay8 (F := Ideal) x0 x1 x2 (ix2 r n) = qre (x0 (ix2 r n)) (x1 (ix2 r n)) (x2 (ix2 r 0)) := by
  unfold qre are aim
  pointwise [k0_pay8, k0_pay7, k0_pay6, k0_pay5, k0_pay4, k0_pay3, k0_pay2, k0_pay1]

theorem p_qim (x0 x1 : FVec Ideal S256x64 .f32) (x2 : FVec Ideal S256x1 .f32) (r : Fin 256) (n : Fin 64) :
    k0_pay9 (F := Ideal) x0 x1 x2 (ix2 r n) = qim (x0 (ix2 r n)) (x1 (ix2 r n)) (x2 (ix2 r 0)) := by
  unfold qim are aim
  pointwise [k0_pay9, k0_pay7, k0_pay6, k0_pay5, k0_pay4, k0_pay3, k0_pay2, k0_pay1]

/-- The decay's real part. -/
theorem are_eq : (dats m 0 c).arrAt 3 cfg0.N = fun i : S256x64.Idx => tab m c are (i 0) (i 1) := by
  refine (dats m 0 c).arrAt_eq_of_covers 3 _ (by decide +kernel) fun t hf y => ?_
  obtain ⟨r, n, rfl⟩ : ∃ (r : Fin 256) (n : Fin 64), y = ix2 r n := ⟨_, _, (ix2_eta y).symm⟩
  have e : ((cfg0.win 3).blk t).view.emb (ix2 r n) = ix2 r n := by
    blk_ext [idx t]
  rw [e]
  blk_simp
  rw [after0_3]
  unfold out0_3
  frame_out
  refine (p_are (iblk m c 0 t) (iblk m c 1 t) (iblk m c 2 t) r n).trans ?_
  rw [b_re m c t r n, b_im m c t r n, b_st m c t r]
  rfl

/-- Its imaginary part. -/
theorem aim_eq : (dats m 0 c).arrAt 4 cfg0.N = fun i : S256x64.Idx => tab m c aim (i 0) (i 1) := by
  refine (dats m 0 c).arrAt_eq_of_covers 4 _ (by decide +kernel) fun t hf y => ?_
  obtain ⟨r, n, rfl⟩ : ∃ (r : Fin 256) (n : Fin 64), y = ix2 r n := ⟨_, _, (ix2_eta y).symm⟩
  have e : ((cfg0.win 4).blk t).view.emb (ix2 r n) = ix2 r n := by
    blk_ext [idx t]
  rw [e]
  blk_simp
  rw [after0_4]
  unfold out0_4
  frame_out
  refine (p_aim (iblk m c 0 t) (iblk m c 1 t) (iblk m c 2 t) r n).trans ?_
  rw [b_re m c t r n, b_im m c t r n, b_st m c t r]
  rfl

/-- The input factor's real part. -/
theorem qre_eq : (dats m 0 c).arrAt 5 cfg0.N = fun i : S256x64.Idx => tab m c qre (i 0) (i 1) := by
  refine (dats m 0 c).arrAt_eq_of_covers 5 _ (by decide +kernel) fun t hf y => ?_
  obtain ⟨r, n, rfl⟩ : ∃ (r : Fin 256) (n : Fin 64), y = ix2 r n := ⟨_, _, (ix2_eta y).symm⟩
  have e : ((cfg0.win 5).blk t).view.emb (ix2 r n) = ix2 r n := by
    blk_ext [idx t]
  rw [e]
  blk_simp
  rw [after0_5]
  unfold out0_5
  frame_out
  refine (p_qre (iblk m c 0 t) (iblk m c 1 t) (iblk m c 2 t) r n).trans ?_
  rw [b_re m c t r n, b_im m c t r n, b_st m c t r]
  rfl

/-- Its imaginary part. -/
theorem qim_eq : (dats m 0 c).arrAt 6 cfg0.N = fun i : S256x64.Idx => tab m c qim (i 0) (i 1) := by
  refine (dats m 0 c).arrAt_eq_of_covers 6 _ (by decide +kernel) fun t hf y => ?_
  obtain ⟨r, n, rfl⟩ : ∃ (r : Fin 256) (n : Fin 64), y = ix2 r n := ⟨_, _, (ix2_eta y).symm⟩
  have e : ((cfg0.win 6).blk t).view.emb (ix2 r n) = ix2 r n := by
    blk_ext [idx t]
  rw [e]
  blk_simp
  rw [after0_6]
  unfold out0_6
  frame_out
  refine (p_qim (iblk m c 0 t) (iblk m c 1 t) (iblk m c 2 t) r n).trans ?_
  rw [b_re m c t r n, b_im m c t r n, b_st m c t r]
  rfl

end Kernel

section Reference

open Cert.Reference6Ideal Cert.Reference6Ideal.Gen

/-- The reference's arrays: the step, the decay's parts, one, the denominator. -/
abbrev step (x2 : FVec Ideal S4x64 .f32) : FVec Ideal S4x64x64 .f32 :=
  broadcastInDim S4x64x64 ![0, 1, 2] bcast_S4x64x1_S4x64x64_0_1_2
    (broadcastInDim S4x64x1 ![0, 1] bcast_S4x64_S4x64x1_0_1 (Host.exp x2))

abbrev rare (x0 x1 : FVec Ideal S4x64x64 .f32) (x2 : FVec Ideal S4x64 .f32) : FVec Ideal S4x64x64 .f32 :=
  mulf (Host.exp (mulf x0 (step x2))) (Host.cos (mulf x1 (step x2)))

abbrev raim (x0 x1 : FVec Ideal S4x64x64 .f32) (x2 : FVec Ideal S4x64 .f32) : FVec Ideal S4x64x64 .f32 :=
  mulf (Host.exp (mulf x0 (step x2))) (Host.sin (mulf x1 (step x2)))

abbrev one : FVec Ideal S4x64x64 .f32 :=
  broadcastInDim S4x64x64 ![] bcast_S_S4x64x64 (constant (F := Ideal) S_ .f32 0x3F800000#32)

abbrev den (x0 x1 : FVec Ideal S4x64x64 .f32) : FVec Ideal S4x64x64 .f32 := addf (mulf x0 x0) (mulf x1 x1)

theorem step_apply (x2 : FVec Ideal S4x64 .f32) (l : Fin 4) (g n : Fin 64) :
    step x2 (ix3 l g n) = Ideal.exp (x2 (ix2 l g)) := by
  unfold step
  pointwise []

theorem one_apply (l : Fin 4) (g n : Fin 64) : one (ix3 l g n) = (1 : EReal) := by
  unfold one
  pointwise []

theorem rare_apply (x0 x1 : FVec Ideal S4x64x64 .f32) (x2 : FVec Ideal S4x64 .f32) (l : Fin 4) (g n : Fin 64) :
    rare x0 x1 x2 (ix3 l g n) = are (x0 (ix3 l g n)) (x1 (ix3 l g n)) (x2 (ix2 l g)) := by
  unfold are
  rw [← step_apply x2 l g n]
  rfl

theorem raim_apply (x0 x1 : FVec Ideal S4x64x64 .f32) (x2 : FVec Ideal S4x64 .f32) (l : Fin 4) (g n : Fin 64) :
    raim x0 x1 x2 (ix3 l g n) = aim (x0 (ix3 l g n)) (x1 (ix3 l g n)) (x2 (ix2 l g)) := by
  unfold aim
  rw [← step_apply x2 l g n]
  rfl

/-- A row of the reshaped array. -/
theorem rows_apply (x : FVec Ideal S4x64x64 .f32) (r : Fin 256) (n : Fin 64) :
    shapeCast S256x64 x shapeCasts_S4x64x64_S256x64 (ix2 r n)
      = x (ix3 (⟨r.val / 64, by omega⟩ : Fin 4) (⟨r.val % 64, by omega⟩ : Fin 64) n) := by
  pointwise []

theorem rqre_apply (x0 x1 : FVec Ideal S4x64x64 .f32) (x2 : FVec Ideal S4x64 .f32) (l : Fin 4) (g n : Fin 64) :
    (Host.divf (addf (mulf (subf (rare x0 x1 x2) one) x0) (mulf (raim x0 x1 x2) x1)) (den x0 x1)
        : FVec Ideal S4x64x64 .f32) (ix3 l g n)
      = qre (x0 (ix3 l g n)) (x1 (ix3 l g n)) (x2 (ix2 l g)) := by
  unfold qre
  rw [← rare_apply, ← raim_apply, ← one_apply l g n]
  rfl

theorem rqim_apply (x0 x1 : FVec Ideal S4x64x64 .f32) (x2 : FVec Ideal S4x64 .f32) (l : Fin 4) (g n : Fin 64) :
    (Host.divf (subf (mulf (raim x0 x1 x2) x0) (mulf (subf (rare x0 x1 x2) one) x1)) (den x0 x1)
        : FVec Ideal S4x64x64 .f32) (ix3 l g n)
      = qim (x0 (ix3 l g n)) (x1 (ix3 l g n)) (x2 (ix2 l g)) := by
  unfold qim
  rw [← rare_apply, ← raim_apply, ← one_apply l g n]
  rfl

end Reference

/-- The kernel runs and leaves its arguments unchanged. -/
theorem frame_kernel : Cert.quiescent_Kernel6 := fun m ρ _ => Cert.Kernel6.Gen.frame m ρ

/-- So does its ideal reading. -/
theorem frame_ideal : Cert.quiescent_Kernel6Ideal := fun m ρ _ => Cert.Kernel6Ideal.Gen.frame m ρ

/-- So does the reference. -/
theorem frame_reference : Cert.quiescent_Reference6Ideal := fun m ρ _ =>
  (θ_run Cert.Reference6Ideal.defs _ _).mono
    (fun r h => ⟨fun c => (h c).2.2.2.2, sem_eq_zero_of_no_sems (by decide) r.2⟩) (Cert.Reference6Ideal.Value.run m ρ)

/-- From equal arguments both programs return the same four tables. -/
theorem algebraic : Cert.algebraic_Kernel6Ideal_Reference6Ideal := by
  intro m g m' g' _ hm
  refine ⟨_, _, _, _, Cert.Kernel6Ideal.Value.run_blocks m g, ?_⟩
  refine (θ_run Cert.Reference6Ideal.defs _ _).mono (fun r h c => ?_) (Cert.Reference6Ideal.Value.run m' g')
  obtain ⟨e0, e1, e2, e3, k⟩ := h c
  obtain ⟨h0, h1, h2⟩ := hm c
  have ht : ∀ f, tab m c f = table f
      (fun l g n => m' ((c.tc : Thread Cert.Reference6Ideal.nD Cert.Reference6Ideal.τ).loc Cert.Reference6Ideal.main_arg0) (ix3 l g n))
      (fun l g n => m' ((c.tc : Thread Cert.Reference6Ideal.nD Cert.Reference6Ideal.τ).loc Cert.Reference6Ideal.main_arg1) (ix3 l g n))
      (fun l g => m' ((c.tc : Thread Cert.Reference6Ideal.nD Cert.Reference6Ideal.τ).loc Cert.Reference6Ideal.main_arg2) (ix2 l g)) := by
    intro f
    unfold tab
    rw [h0, h1, h2]
  refine ⟨e0.trans ?_, e1.trans ?_, e2.trans ?_, e3.trans ?_, k⟩
  · rw [are_eq m c, ht]
    funext i
    obtain ⟨r, n, rfl⟩ : ∃ (r : Fin 256) (n : Fin 64), i = ix2 r n := ⟨_, _, (ix2_eta i).symm⟩
    exact (rows_apply _ r n).trans (rare_apply _ _ _ _ _ n)
  · rw [aim_eq m c, ht]
    funext i
    obtain ⟨r, n, rfl⟩ : ∃ (r : Fin 256) (n : Fin 64), i = ix2 r n := ⟨_, _, (ix2_eta i).symm⟩
    exact (rows_apply _ r n).trans (raim_apply _ _ _ _ _ n)
  · rw [qre_eq m c, ht]
    funext i
    obtain ⟨r, n, rfl⟩ : ∃ (r : Fin 256) (n : Fin 64), i = ix2 r n := ⟨_, _, (ix2_eta i).symm⟩
    exact (rows_apply _ r n).trans (rqre_apply _ _ _ _ _ n)
  · rw [qim_eq m c, ht]
    funext i
    obtain ⟨r, n, rfl⟩ : ∃ (r : Fin 256) (n : Fin 64), i = ix2 r n := ⟨_, _, (ix2_eta i).symm⟩
    exact (rows_apply _ r n).trans (rqim_apply _ _ _ _ _ n)

end Cert.Ssm.Params
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Pre_tables_in_range
public import proofs.«01_k».proof.Proof.Lru.Claims
public import proofs.«01_k».proof.Proof.Moe.Claims
public import proofs.«01_k».proof.Proof.Proj.Claims
public import proofs.«01_k».proof.Proof.Merge.Claims
public import proofs.«01_k».proof.Proof.Ssm.Claims
public import proofs.«01_k».proof.Proof.Ssm.Params

/-!
# The certificate

The claims of the programs, assembled from the modules that prove them.
-/

@[expose] public section

noncomputable section

namespace Cert.Proof

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_tables_in_range.Gen.facts,
    Cert.Lru.Claims.frame_kernel, Cert.Lru.Claims.frame_ideal, Cert.Lru.Claims.frame_reference,
    Cert.Moe.Claims.frame_kernel, Cert.Moe.Claims.frame_ideal, Cert.Moe.Claims.frame_reference,
    Cert.Moe.Claims.frame_reference_pre,
    Cert.Proj.Claims.frame_kernel, Cert.Proj.Claims.frame_ideal, Cert.Proj.Claims.frame_reference,
    Cert.Merge.Claims.frame_kernel, Cert.Merge.Claims.frame_ideal, Cert.Merge.Claims.frame_reference,
    Cert.Ssm.Claims.frame_kernel, Cert.Ssm.Claims.frame_ideal, Cert.Ssm.Claims.frame_reference,
    Cert.Ssm.Params.frame_kernel, Cert.Ssm.Params.frame_ideal, Cert.Ssm.Params.frame_reference,
    trivial, Cert.Lru.Claims.algebraic, trivial, Cert.Moe.Claims.algebraic, trivial, Cert.Proj.Claims.algebraic,
    trivial, Cert.Merge.Claims.algebraic,
    trivial, Cert.Ssm.Claims.algebraic, trivial, Cert.Ssm.Params.algebraic⟩

end Cert.Proof

end
